-- ==== Defs.lean ====
def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenIdeal_finite [hPre_finite : Cert.Pre_finite.Facts] (m : (ℓ : Loc Cert.EvenIdeal.nD Cert.EvenIdeal.τ Cert.EvenIdeal.sig) → Buf (Elt Ideal) ℓ) : Prop :=
  ∀ c : Dev Cert.EvenIdeal.nD,
    (Cert.Pre_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4))) = (fun _ => 1#1)

def Pre_EvenRefIdeal (m : (ℓ : Loc Cert.EvenRefIdeal.nD Cert.EvenRefIdeal.τ Cert.EvenRefIdeal.sig) → Buf (Elt Ideal) ℓ) : Prop :=
  True

def Pre_EvenRefIdeal_finite [hPre_finite : Cert.Pre_finite.Facts] (m : (ℓ : Loc Cert.EvenRefIdeal.nD Cert.EvenRefIdeal.τ Cert.EvenRefIdeal.sig) → Buf (Elt Ideal) ℓ) : Prop :=
  ∀ c : Dev Cert.EvenRefIdeal.nD,
    (Cert.Pre_finite.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ r.2.sem = fun _ => 0)

def quiescent_EvenIdeal_pre_finite [hEvenIdeal : Cert.EvenIdeal.Facts] [hPre_finite : Cert.Pre_finite.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal_finite m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4))
      ∧ r.2.sem = fun _ => 0)

def quiescent_EvenRefIdeal_pre_finite [hEvenRefIdeal : Cert.EvenRefIdeal.Facts] [hPre_finite : Cert.Pre_finite.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal_finite m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def preserves_Even_EvenIdeal : Prop :=
  True

def algebraic_EvenIdeal_EvenRefIdeal_pre_finite [hEvenIdeal : Cert.EvenIdeal.Facts] [hEvenRefIdeal : Cert.EvenRefIdeal.Facts] [hPre_finite : Cert.Pre_finite.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal_finite m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)) →
    ∃ (v0 : (c : Dev Cert.EvenIdeal.nD) → Buf (Elt Ideal) ((c.tc : Thread Cert.EvenIdeal.nD Cert.EvenIdeal.τ).loc Cert.EvenIdeal.main_v87_0)) (v1 : (c : Dev Cert.EvenIdeal.nD) → Buf (Elt Ideal) ((c.tc : Thread Cert.EvenIdeal.nD Cert.EvenIdeal.τ).loc Cert.EvenIdeal.main_v87_1)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v87_0) = v0 c
          ∧ r.2.mem ((c.tc : Thread Cert.EvenIdeal.nD Cert.EvenIdeal.τ).loc Cert.EvenIdeal.main_v87_1) = v1 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v214) = v0 c
          ∧ r.2.mem ((c.tc : Thread Cert.EvenRefIdeal.nD Cert.EvenRefIdeal.τ).loc Cert.EvenRefIdeal.main_v216) = v1 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v15) = v0 c
          ∧ r.2.mem ((c.tc : Thread Cert.InprojRefIdeal.nD Cert.InprojRefIdeal.τ).loc Cert.InprojRefIdeal.main_v18) = v1 c
          ∧ r.2.mem ((c.tc : Thread Cert.InprojRefIdeal.nD Cert.InprojRefIdeal.τ).loc Cert.InprojRefIdeal.main_v21) = v2 c
          ∧ r.2.mem ((c.tc : Thread Cert.InprojRefIdeal.nD Cert.InprojRefIdeal.τ).loc Cert.InprojRefIdeal.main_v24) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v4) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v9_0)) (v1 : (c : Dev Cert.PrepIdeal.nD) → Buf (Elt Ideal) ((c.tc : Thread Cert.PrepIdeal.nD Cert.PrepIdeal.τ).loc Cert.PrepIdeal.main_v9_1)) (v2 : (c : Dev Cert.PrepIdeal.nD) → Buf (Elt Ideal) ((c.tc : Thread Cert.PrepIdeal.nD Cert.PrepIdeal.τ).loc Cert.PrepIdeal.main_v9_2)) (v3 : (c : Dev Cert.PrepIdeal.nD) → Buf (Elt Ideal) ((c.tc : Thread Cert.PrepIdeal.nD Cert.PrepIdeal.τ).loc Cert.PrepIdeal.main_v9_3)) (v4 : (c : Dev Cert.PrepIdeal.nD) → Buf (Elt Ideal) ((c.tc : Thread Cert.PrepIdeal.nD Cert.PrepIdeal.τ).loc Cert.PrepIdeal.main_v9_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v9_0) = v0 c
          ∧ r.2.mem ((c.tc : Thread Cert.PrepIdeal.nD Cert.PrepIdeal.τ).loc Cert.PrepIdeal.main_v9_1) = v1 c
          ∧ r.2.mem ((c.tc : Thread Cert.PrepIdeal.nD Cert.PrepIdeal.τ).loc Cert.PrepIdeal.main_v9_2) = v2 c
          ∧ r.2.mem ((c.tc : Thread Cert.PrepIdeal.nD Cert.PrepIdeal.τ).loc Cert.PrepIdeal.main_v9_3) = v3 c
          ∧ r.2.mem ((c.tc : Thread Cert.PrepIdeal.nD Cert.PrepIdeal.τ).loc Cert.PrepIdeal.main_v9_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v59) = v0 c
          ∧ r.2.mem ((c.tc : Thread Cert.PrepRefIdeal.nD Cert.PrepRefIdeal.τ).loc Cert.PrepRefIdeal.main_v60) = v1 c
          ∧ r.2.mem ((c.tc : Thread Cert.PrepRefIdeal.nD Cert.PrepRefIdeal.τ).loc Cert.PrepRefIdeal.main_v61) = v2 c
          ∧ r.2.mem ((c.tc : Thread Cert.PrepRefIdeal.nD Cert.PrepRefIdeal.τ).loc Cert.PrepRefIdeal.main_v63) = v3 c
          ∧ r.2.mem ((c.tc : Thread Cert.PrepRefIdeal.nD Cert.PrepRefIdeal.τ).loc Cert.PrepRefIdeal.main_v58) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def Claim : Prop :=
  ∃ (hEven : Cert.Even.Facts) (hEvenIdeal : Cert.EvenIdeal.Facts) (hEvenRefIdeal : Cert.EvenRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hPrep : Cert.Prep.Facts) (hPrepIdeal : Cert.PrepIdeal.Facts) (hPrepRefIdeal : Cert.PrepRefIdeal.Facts) (hPre_finite : Cert.Pre_finite.Facts),
    quiescent_Even (hEven := hEven)
    ∧ quiescent_EvenIdeal (hEvenIdeal := hEvenIdeal)
    ∧ quiescent_EvenIdeal_pre_finite (hEvenIdeal := hEvenIdeal) (hPre_finite := hPre_finite)
    ∧ quiescent_EvenRefIdeal (hEvenRefIdeal := hEvenRefIdeal)
    ∧ quiescent_EvenRefIdeal_pre_finite (hEvenRefIdeal := hEvenRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Prep (hPrep := hPrep)
    ∧ quiescent_PrepIdeal (hPrepIdeal := hPrepIdeal)
    ∧ quiescent_PrepRefIdeal (hPrepRefIdeal := hPrepRefIdeal)
    ∧ preserves_Even_EvenIdeal
    ∧ algebraic_EvenIdeal_EvenRefIdeal_pre_finite (hEvenIdeal := hEvenIdeal) (hEvenRefIdeal := hEvenRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Prep_PrepIdeal
    ∧ algebraic_PrepIdeal_PrepRefIdeal (hPrepIdeal := hPrepIdeal) (hPrepRefIdeal := hPrepRefIdeal)
-- ==== Pre_finite.lean ====
abbrev S8192x6144 : Shape := ⟨2, ![8192, 6144]⟩
abbrev S1024 : Shape := ⟨1, ![1024]⟩
abbrev S4x128x128 : Shape := ⟨3, ![4, 128, 128]⟩
abbrev S4x128 : Shape := ⟨2, ![4, 128]⟩
abbrev S8192x3072 : Shape := ⟨2, ![8192, 3072]⟩
abbrev S_ : Shape := ⟨0, ![]⟩

class Facts : Prop where
  slices_S8192x6144_S8192x3072_0_0 : S8192x6144.Slices ![0, 0] S8192x3072
  bitsLt_bf16_f32 : FTy.bits .bf16 < FTy.bits .f32
  bcast_S_S8192x3072 : S_.BroadcastsInDim S8192x3072 (![] : Fin 0 → Fin S8192x3072.rank)

variable [Facts]

def fn {F : FTy → Type} [FloatOps F] (main_arg0 : FVec F S8192x6144 .bf16) (main_arg1 : FVec F S1024 .f32) (main_arg2 : FVec F S1024 .f32) (main_arg3 : FVec F S4x128x128 .f32) (main_arg4 : FVec F S4x128 .f32) : IVec S8192x3072 1 :=
  let main_v0 : FVec F S8192x3072 .bf16 := (extractStridedSlice S8192x3072 ![0, 0] · slices_S8192x6144_S8192x3072_0_0) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  main_v4
-- ==== Even.lean ====
abbrev S8192x6144 : Shape := ⟨2, ![8192, 6144]⟩
abbrev S1024 : Shape := ⟨1, ![1024]⟩
abbrev S4x128x128 : Shape := ⟨3, ![4, 128, 128]⟩
abbrev S4x128 : Shape := ⟨2, ![4, 128]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x256 : Shape := ⟨3, ![4, 1, 256]⟩
abbrev S1x1024 : Shape := ⟨2, ![1, 1024]⟩
abbrev S4x128x1 : Shape := ⟨3, ![4, 128, 1]⟩
abbrev S8192x1024 : Shape := ⟨2, ![8192, 1024]⟩
abbrev S256x1024 : Shape := ⟨2, ![256, 1024]⟩
abbrev S256x128 : Shape := ⟨2, ![256, 128]⟩
abbrev S1x1x256 : Shape := ⟨3, ![1, 1, 256]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128x256 : Shape := ⟨2, ![128, 256]⟩

abbrev nBuf : Space → Nat
  | .hbm => 176
  | .vmem => 29
  | .smem => 0
  | _ => 0

abbrev hbmTy0_0 (i : Nat) : BufTy := match i % 128 with
  | 0 => ⟨S8192x6144, .bf16⟩
  | 1 => ⟨S1024, .f32⟩
  | 2 => ⟨S1024, .f32⟩
  | 3 => ⟨S4x128x128, .f32⟩
  | 4 => ⟨S4x128, .f32⟩
  | 5 => ⟨S4096, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S4096x1, .f32⟩
  | 21 => ⟨S1x128, .f32⟩
  | 22 => ⟨S4096x128, .f32⟩
  | 23 => ⟨S4096x128, .f32⟩
  | 24 => ⟨S4096x128, .f32⟩
  | 25 => ⟨S4, .f32⟩
  | 26 => ⟨S_, .f32⟩
  | 27 => ⟨S4, .f32⟩
  | 28 => ⟨S4, .f32⟩
  | 29 => ⟨S_, .f32⟩
  | 30 => ⟨S4, .f32⟩
  | 31 => ⟨S4, .f32⟩
  | 32 => ⟨S_, .f32⟩
  | 33 => ⟨S4, .f32⟩
  | 34 => ⟨S4, .f32⟩
  | 35 => ⟨S4, .f32⟩
  | 36 => ⟨S256, .i32⟩
  | 37 => ⟨S256x1, .i32⟩
  | 38 => ⟨S_, .i32⟩
  | 39 => ⟨S_, .i32⟩
  | 40 => ⟨S256x1, .i32⟩
  | 41 => ⟨S256x1, .i32⟩
  | 42 => ⟨S256x1, .i32⟩
  | 43 => ⟨S_, .i32⟩
  | 44 => ⟨S256x1, .i32⟩
  | 45 => ⟨S256x1, .i1⟩
  | 46 => ⟨S256x1, .i32⟩
  | 47 => ⟨S256x1, .i32⟩
  | 48 => ⟨S_, .i32⟩
  | 49 => ⟨S256x1, .i32⟩
  | 50 => ⟨S256x1, .i1⟩
  | 51 => ⟨S256x1, .i1⟩
  | 52 => ⟨S_, .i32⟩
  | 53 => ⟨S256x1, .i32⟩
  | 54 => ⟨S256x1, .i32⟩
  | 55 => ⟨S256x1, .i32⟩
  | 56 => ⟨S1x256, .i32⟩
  | 57 => ⟨S_, .i32⟩
  | 58 => ⟨S_, .i32⟩
  | 59 => ⟨S1x256, .i32⟩
  | 60 => ⟨S1x256, .i32⟩
  | 61 => ⟨S1x256, .i32⟩
  | 62 => ⟨S_, .i32⟩
  | 63 => ⟨S1x256, .i32⟩
  | 64 => ⟨S1x256, .i1⟩
  | 65 => ⟨S1x256, .i32⟩
  | 66 => ⟨S1x256, .i32⟩
  | 67 => ⟨S_, .i32⟩
  | 68 => ⟨S1x256, .i32⟩
  | 69 => ⟨S1x256, .i1⟩
  | 70 => ⟨S1x256, .i1⟩
  | 71 => ⟨S_, .i32⟩
  | 72 => ⟨S1x256, .i32⟩
  | 73 => ⟨S1x256, .i32⟩
  | 74 => ⟨S1x256, .i32⟩
  | 75 => ⟨S256x256, .i32⟩
  | 76 => ⟨S256x256, .i32⟩
  | 77 => ⟨S256x256, .i1⟩
  | 78 => ⟨S1x256, .i32⟩
  | 79 => ⟨S_, .i32⟩
  | 80 => ⟨S_, .i32⟩
  | 81 => ⟨S1x256, .i32⟩
  | 82 => ⟨S1x256, .i32⟩
  | 83 => ⟨S1x256, .i32⟩
  | 84 => ⟨S_, .i32⟩
  | 85 => ⟨S1x256, .i32⟩
  | 86 => ⟨S1x256, .i1⟩
  | 87 => ⟨S1x256, .i32⟩
  | 88 => ⟨S1x256, .i32⟩
  | 89 => ⟨S_, .i32⟩
  | 90 => ⟨S1x256, .i32⟩
  | 91 => ⟨S1x256, .i1⟩
  | 92 => ⟨S1x256, .i1⟩
  | 93 => ⟨S_, .i32⟩
  | 94 => ⟨S1x256, .i32⟩
  | 95 => ⟨S1x256, .i32⟩
  | 96 => ⟨S1x256, .i32⟩
  | 97 => ⟨S256x1, .i32⟩
  | 98 => ⟨S_, .i32⟩
  | 99 => ⟨S_, .i32⟩
  | 100 => ⟨S256x1, .i32⟩
  | 101 => ⟨S256x1, .i32⟩
  | 102 => ⟨S256x1, .i32⟩
  | 103 => ⟨S_, .i32⟩
  | 104 => ⟨S256x1, .i32⟩
  | 105 => ⟨S256x1, .i1⟩
  | 106 => ⟨S256x1, .i32⟩
  | 107 => ⟨S256x1, .i32⟩
  | 108 => ⟨S_, .i32⟩
  | 109 => ⟨S256x1, .i32⟩
  | 110 => ⟨S256x1, .i1⟩
  | 111 => ⟨S256x1, .i1⟩
  | 112 => ⟨S_, .i32⟩
  | 113 => ⟨S256x1, .i32⟩
  | 114 => ⟨S256x1, .i32⟩
  | 115 => ⟨S256x1, .i32⟩
  | 116 => ⟨S256x256, .i32⟩
  | 117 => ⟨S256x256, .i32⟩
  | 118 => ⟨S256x256, .i1⟩
  | 119 => ⟨S256x1, .i32⟩
  | 120 => ⟨S1x256, .i32⟩
  | 121 => ⟨S256x256, .i32⟩
  | 122 => ⟨S256x256, .i32⟩
  | 123 => ⟨S256x256, .i32⟩
  | 124 => ⟨S256x256, .f32⟩
  | 125 => ⟨S256x256, .f32⟩
  | 126 => ⟨S256x256, .f32⟩
  | 127 => ⟨S256x256, .i1⟩
  | _ => ⟨S8192x6144, .bf16⟩

abbrev hbmTy0_1 (i : Nat) : BufTy := match i % 128 with
  | 0 => ⟨S1x256x256, .i1⟩
  | 1 => ⟨S4x1x1, .f32⟩
  | 2 => ⟨S1x256x256, .f32⟩
  | 3 => ⟨S4x256x256, .f32⟩
  | 4 => ⟨S4x256x256, .f32⟩
  | 5 => ⟨S4x256x256, .f32⟩
  | 6 => ⟨S4x256x256, .f32⟩
  | 7 => ⟨S_, .f32⟩
  | 8 => ⟨S_, .f32⟩
  | 9 => ⟨S4x256x256, .i1⟩
  | 10 => ⟨S4x256x256, .f32⟩
  | 11 => ⟨S4x256x256, .f32⟩
  | 12 => ⟨S256, .f32⟩
  | 13 => ⟨S4x1, .f32⟩
  | 14 => ⟨S_, .f32⟩
  | 15 => ⟨S256, .f32⟩
  | 16 => ⟨S256, .f32⟩
  | 17 => ⟨S1x256, .f32⟩
  | 18 => ⟨S4x256, .f32⟩
  | 19 => ⟨S4x256, .f32⟩
  | 20 => ⟨S4x256, .f32⟩
  | 21 => ⟨S4x256, .f32⟩
  | 22 => ⟨S4x256x1, .f32⟩
  | 23 => ⟨S4x256x256, .f32⟩
  | 24 => ⟨S4x1, .f32⟩
  | 25 => ⟨S_, .f32⟩
  | 26 => ⟨S256, .f32⟩
  | 27 => ⟨S256, .f32⟩
  | 28 => ⟨S1x256, .f32⟩
  | 29 => ⟨S4x256, .f32⟩
  | 30 => ⟨S4x256, .f32⟩
  | 31 => ⟨S4x256, .f32⟩
  | 32 => ⟨S4x256, .f32⟩
  | 33 => ⟨S4x256x1, .f32⟩
  | 34 => ⟨S4x256x256, .f32⟩
  | 35 => ⟨S_, .f32⟩
  | 36 => ⟨S4, .f32⟩
  | 37 => ⟨S4, .f32⟩
  | 38 => ⟨S4, .f32⟩
  | 39 => ⟨S4x1x1, .f32⟩
  | 40 => ⟨S4x1x256, .f32⟩
  | 41 => ⟨S4096x128, .f32⟩
  | 42 => ⟨S4096x128, .f32⟩
  | 43 => ⟨S1x1024, .f32⟩
  | 44 => ⟨S1x1024, .f32⟩
  | 45 => ⟨S4x128x1, .f32⟩
  | 46 => ⟨S8192x1024, .bf16⟩
  | 47 => ⟨S8192x1024, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S4x256x256, .f32⟩
  | .local _ .vmem, ⟨17, _⟩ => ⟨S4x256x256, .f32⟩
  | .local _ .vmem, ⟨18, _⟩ => ⟨S4x256x256, .f32⟩
  | .local _ .vmem, ⟨19, _⟩ => ⟨S4x1x256, .f32⟩
  | .local _ .vmem, ⟨20, _⟩ => ⟨S1x1024, .f32⟩
  | .local _ .vmem, ⟨21, _⟩ => ⟨S1x1024, .f32⟩
  | .local _ .vmem, ⟨22, _⟩ => ⟨S4x128x128, .f32⟩
  | .local _ .vmem, ⟨23, _⟩ => ⟨S4x128x1, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S4x256x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_c_7 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_c : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_0 : Ref sig .tc := ⟨.hbm, 93, rfl⟩
abbrev main_call2_v12 : Ref sig .tc := ⟨.hbm, 94, rfl⟩
abbrev main_call2_v13 : Ref sig .tc := ⟨.hbm, 95, rfl⟩
abbrev main_v33 : Ref sig .tc := ⟨.hbm, 96, rfl⟩
abbrev main_v34 : Ref sig .tc := ⟨.hbm, 97, rfl⟩
abbrev main_c_8 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_c : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_0 : Ref sig .tc := ⟨.hbm, 112, rfl⟩
abbrev main_call3_v12 : Ref sig .tc := ⟨.hbm, 113, rfl⟩
abbrev main_call3_v13 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_cst_9 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_cst_10 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_cst_11 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_cst_12 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87_0 : Ref sig .tc := ⟨.hbm, 174, rfl⟩
abbrev main_v87_1 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== EvenRefIdeal.lean ====
abbrev S8192x6144 : Shape := ⟨2, ![8192, 6144]⟩
abbrev S1024 : Shape := ⟨1, ![1024]⟩
abbrev S4x128x128 : Shape := ⟨3, ![4, 128, 128]⟩
abbrev S4x128 : Shape := ⟨2, ![4, 128]⟩
abbrev S4096 : Shape := ⟨1, ![4096]⟩
abbrev S8192x1024 : Shape := ⟨2, ![8192, 1024]⟩
abbrev S2x4096x1024 : Shape := ⟨3, ![2, 4096, 1024]⟩
abbrev S2x4096x4x256 : Shape := ⟨4, ![2, 4096, 4, 256]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S2x4096x4x128 : Shape := ⟨4, ![2, 4096, 4, 128]⟩
abbrev S4 : Shape := ⟨1, ![4]⟩
abbrev S2x64x64x4x256 : Shape := ⟨5, ![2, 64, 64, 4, 256]⟩
abbrev S64x2x4x64x256 : Shape := ⟨5, ![64, 2, 4, 64, 256]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S1x4x64x1 : Shape := ⟨4, ![1, 4, 64, 1]⟩
abbrev S1x4x1x1 : Shape := ⟨4, ![1, 4, 1, 1]⟩
abbrev S2x4x256x256 : Shape := ⟨4, ![2, 4, 256, 256]⟩
abbrev S1x2x4x64x256 : Shape := ⟨5, ![1, 2, 4, 64, 256]⟩
abbrev S2x4x64x256 : Shape := ⟨4, ![2, 4, 64, 256]⟩
abbrev S2x4x64x64 : Shape := ⟨4, ![2, 4, 64, 64]⟩
abbrev S1x4x64x64 : Shape := ⟨4, ![1, 4, 64, 64]⟩
abbrev S2x4096x4 : Shape := ⟨3, ![2, 4096, 4]⟩
abbrev S2x4096x4x1 : Shape := ⟨4, ![2, 4096, 4, 1]⟩
abbrev S2x4096 : Shape := ⟨2, ![2, 4096]⟩
abbrev S2x4096x1 : Shape := ⟨3, ![2, 4096, 1]⟩
abbrev S1x1x1024 : Shape := ⟨3, ![1, 1, 1024]⟩
abbrev S128x1 : Shape := ⟨2, ![128, 1]⟩
abbrev S128x128 : Shape := ⟨2, ![128, 128]⟩
abbrev S1x128x128 : Shape := ⟨3, ![1, 128, 128]⟩
abbrev S2x32x128x4x256 : Shape := ⟨5, ![2, 32, 128, 4, 256]⟩
abbrev S4x2x32x256x128 : Shape := ⟨5, ![4, 2, 32, 256, 128]⟩
abbrev S128x4 : Shape := ⟨2, ![128, 4]⟩
abbrev S1x1x128x4x1 : Shape := ⟨5, ![1, 1, 128, 4, 1]⟩

abbrev nBuf : Space → Nat
  | .hbm => 333
  | .vmem => 0
  | .smem => 0
  | _ => 0

abbrev hbmTy0_0 (i : Nat) : BufTy := match i % 128 with
  | 0 => ⟨S8192x6144, .bf16⟩
  | 1 => ⟨S1024, .f32⟩
  | 2 => ⟨S1024, .f32⟩
  | 3 => ⟨S4x128x128, .f32⟩
  | 4 => ⟨S4x128, .f32⟩
  | 5 => ⟨S4096, .i32⟩
  | 6 => ⟨S8192x1024, .bf16⟩
  | 7 => ⟨S8192x1024, .f32⟩
  | 8 => ⟨S2x4096x1024, .f32⟩
  | 9 => ⟨S2x4096x4x256, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S128, .f32⟩
  | 18 => ⟨S_, .f32⟩
  | 19 => ⟨S128, .f32⟩
  | 20 => ⟨S128, .f32⟩
  | 21 => ⟨S_, .f32⟩
  | 22 => ⟨S128, .f32⟩
  | 23 => ⟨S128, .f32⟩
  | 24 => ⟨S4096, .f32⟩
  | 25 => ⟨S4096x1, .f32⟩
  | 26 => ⟨S1x128, .f32⟩
  | 27 => ⟨S4096x128, .f32⟩
  | 28 => ⟨S4096x128, .f32⟩
  | 29 => ⟨S4096x128, .f32⟩
  | 30 => ⟨S4096x128, .f32⟩
  | 31 => ⟨S1x4096x1x128, .f32⟩
  | 32 => ⟨S4096x128, .f32⟩
  | 33 => ⟨S1x4096x1x128, .f32⟩
  | 34 => ⟨S2x4096x4x128, .f32⟩
  | 35 => ⟨S2x4096x4x128, .f32⟩
  | 36 => ⟨S2x4096x4x128, .f32⟩
  | 37 => ⟨S2x4096x4x128, .f32⟩
  | 38 => ⟨S2x4096x4x128, .f32⟩
  | 39 => ⟨S2x4096x4x128, .f32⟩
  | 40 => ⟨S2x4096x4x128, .f32⟩
  | 41 => ⟨S2x4096x4x128, .f32⟩
  | 42 => ⟨S2x4096x4x128, .f32⟩
  | 43 => ⟨S2x4096x4x128, .f32⟩
  | 44 => ⟨S2x4096x4x128, .f32⟩
  | 45 => ⟨S2x4096x4x128, .f32⟩
  | 46 => ⟨S2x4096x4x256, .f32⟩
  | 47 => ⟨S8192x1024, .bf16⟩
  | 48 => ⟨S8192x1024, .f32⟩
  | 49 => ⟨S2x4096x1024, .f32⟩
  | 50 => ⟨S2x4096x4x256, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S4096, .f32⟩
  | 66 => ⟨S4096x1, .f32⟩
  | 67 => ⟨S1x128, .f32⟩
  | 68 => ⟨S4096x128, .f32⟩
  | 69 => ⟨S4096x128, .f32⟩
  | 70 => ⟨S4096x128, .f32⟩
  | 71 => ⟨S4096x128, .f32⟩
  | 72 => ⟨S1x4096x1x128, .f32⟩
  | 73 => ⟨S4096x128, .f32⟩
  | 74 => ⟨S1x4096x1x128, .f32⟩
  | 75 => ⟨S2x4096x4x128, .f32⟩
  | 76 => ⟨S2x4096x4x128, .f32⟩
  | 77 => ⟨S2x4096x4x128, .f32⟩
  | 78 => ⟨S2x4096x4x128, .f32⟩
  | 79 => ⟨S2x4096x4x128, .f32⟩
  | 80 => ⟨S2x4096x4x128, .f32⟩
  | 81 => ⟨S2x4096x4x128, .f32⟩
  | 82 => ⟨S2x4096x4x128, .f32⟩
  | 83 => ⟨S2x4096x4x128, .f32⟩
  | 84 => ⟨S2x4096x4x128, .f32⟩
  | 85 => ⟨S2x4096x4x128, .f32⟩
  | 86 => ⟨S2x4096x4x128, .f32⟩
  | 87 => ⟨S2x4096x4x256, .f32⟩
  | 88 => ⟨S8192x1024, .bf16⟩
  | 89 => ⟨S8192x1024, .f32⟩
  | 90 => ⟨S2x4096x1024, .f32⟩
  | 91 => ⟨S2x4096x4x256, .f32⟩
  | 92 => ⟨S4, .f32⟩
  | 93 => ⟨S_, .f32⟩
  | 94 => ⟨S4, .f32⟩
  | 95 => ⟨S4, .f32⟩
  | 96 => ⟨S_, .f32⟩
  | 97 => ⟨S4, .f32⟩
  | 98 => ⟨S4, .f32⟩
  | 99 => ⟨S_, .f32⟩
  | 100 => ⟨S4, .f32⟩
  | 101 => ⟨S4, .f32⟩
  | 102 => ⟨S4, .f32⟩
  | 103 => ⟨S2x64x64x4x256, .f32⟩
  | 104 => ⟨S64x2x4x64x256, .f32⟩
  | 105 => ⟨S_, .f32⟩
  | 106 => ⟨S2x4096x4x256, .f32⟩
  | 107 => ⟨S2x4096x4x256, .f32⟩
  | 108 => ⟨S2x64x64x4x256, .f32⟩
  | 109 => ⟨S64x2x4x64x256, .f32⟩
  | 110 => ⟨S2x64x64x4x256, .f32⟩
  | 111 => ⟨S64x2x4x64x256, .f32⟩
  | 112 => ⟨S64, .f32⟩
  | 113 => ⟨S4x1x1, .f32⟩
  | 114 => ⟨S64x1, .f32⟩
  | 115 => ⟨S1x64, .f32⟩
  | 116 => ⟨S64x64, .f32⟩
  | 117 => ⟨S64x64, .f32⟩
  | 118 => ⟨S64x64, .f32⟩
  | 119 => ⟨S64x64, .f32⟩
  | 120 => ⟨S1x64x64, .f32⟩
  | 121 => ⟨S4x64x64, .f32⟩
  | 122 => ⟨S4x64x64, .f32⟩
  | 123 => ⟨S4x64x64, .f32⟩
  | 124 => ⟨S4x64x64, .f32⟩
  | 125 => ⟨S4x1, .f32⟩
  | 126 => ⟨S_, .f32⟩
  | 127 => ⟨S64, .f32⟩
  | _ => ⟨S8192x6144, .bf16⟩

abbrev hbmTy0_1 (i : Nat) : BufTy := match i % 128 with
  | 0 => ⟨S64, .f32⟩
  | 1 => ⟨S1x64, .f32⟩
  | 2 => ⟨S4x64, .f32⟩
  | 3 => ⟨S4x64, .f32⟩
  | 4 => ⟨S4x64, .f32⟩
  | 5 => ⟨S4x64, .f32⟩
  | 6 => ⟨S1x4x64x1, .f32⟩
  | 7 => ⟨S4x1, .f32⟩
  | 8 => ⟨S_, .f32⟩
  | 9 => ⟨S64, .f32⟩
  | 10 => ⟨S64, .f32⟩
  | 11 => ⟨S1x64, .f32⟩
  | 12 => ⟨S4x64, .f32⟩
  | 13 => ⟨S4x64, .f32⟩
  | 14 => ⟨S4x64, .f32⟩
  | 15 => ⟨S4x64, .f32⟩
  | 16 => ⟨S1x4x64x1, .f32⟩
  | 17 => ⟨S_, .f32⟩
  | 18 => ⟨S4, .f32⟩
  | 19 => ⟨S4, .f32⟩
  | 20 => ⟨S4, .f32⟩
  | 21 => ⟨S1x4x1x1, .f32⟩
  | 22 => ⟨S_, .f32⟩
  | 23 => ⟨S2x4x256x256, .f32⟩
  | 24 => ⟨S_, .f32⟩
  | 25 => ⟨S64x2x4x64x256, .f32⟩
  | 26 => ⟨S_, .i32⟩
  | 27 => ⟨S64x2x4x64x256, .f32⟩
  | 28 => ⟨S64x2x4x64x256, .f32⟩
  | 29 => ⟨S64x2x4x64x256, .f32⟩
  | 30 => ⟨S4x64x64, .f32⟩
  | 31 => ⟨S1x4x64x1, .f32⟩
  | 32 => ⟨S1x4x1x1, .f32⟩
  | 33 => ⟨S1x4x64x1, .f32⟩
  | 34 => ⟨S_, .i32⟩
  | 35 => ⟨S2x4x256x256, .f32⟩
  | 36 => ⟨S64x2x4x64x256, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S1x2x4x64x256, .f32⟩
  | 44 => ⟨S2x4x64x256, .f32⟩
  | 45 => ⟨S_, .i32⟩
  | 46 => ⟨S_, .i32⟩
  | 47 => ⟨S_, .i32⟩
  | 48 => ⟨S_, .i32⟩
  | 49 => ⟨S1x2x4x64x256, .f32⟩
  | 50 => ⟨S2x4x64x256, .f32⟩
  | 51 => ⟨S_, .i32⟩
  | 52 => ⟨S_, .i32⟩
  | 53 => ⟨S_, .i32⟩
  | 54 => ⟨S_, .i32⟩
  | 55 => ⟨S1x2x4x64x256, .f32⟩
  | 56 => ⟨S2x4x64x256, .f32⟩
  | 57 => ⟨S2x4x64x64, .f32⟩
  | 58 => ⟨S1x4x64x64, .f32⟩
  | 59 => ⟨S2x4x64x64, .f32⟩
  | 60 => ⟨S2x4x64x64, .f32⟩
  | 61 => ⟨S2x4x64x256, .f32⟩
  | 62 => ⟨S2x4x64x256, .f32⟩
  | 63 => ⟨S2x4x64x256, .f32⟩
  | 64 => ⟨S2x4x64x256, .f32⟩
  | 65 => ⟨S2x4x256x256, .f32⟩
  | 66 => ⟨S2x4x256x256, .f32⟩
  | 67 => ⟨S2x4x64x256, .f32⟩
  | 68 => ⟨S2x4x64x256, .f32⟩
  | 69 => ⟨S2x4x256x256, .f32⟩
  | 70 => ⟨S2x4x256x256, .f32⟩
  | 71 => ⟨S2x4x64x256, .f32⟩
  | 72 => ⟨S1x2x4x64x256, .f32⟩
  | 73 => ⟨S_, .i32⟩
  | 74 => ⟨S_, .i32⟩
  | 75 => ⟨S_, .i32⟩
  | 76 => ⟨S_, .i32⟩
  | 77 => ⟨S64x2x4x64x256, .f32⟩
  | 78 => ⟨S_, .i32⟩
  | 79 => ⟨S_, .i32⟩
  | 80 => ⟨S2x64x64x4x256, .f32⟩
  | 81 => ⟨S2x4096x4x256, .f32⟩
  | 82 => ⟨S2x4096x4x256, .f32⟩
  | 83 => ⟨S_, .f32⟩
  | 84 => ⟨S2x4096x4, .f32⟩
  | 85 => ⟨S2x4096x4x1, .f32⟩
  | 86 => ⟨S_, .f32⟩
  | 87 => ⟨S2x4096x4x1, .f32⟩
  | 88 => ⟨S2x4096x4x1, .f32⟩
  | 89 => ⟨S_, .f32⟩
  | 90 => ⟨S2x4096x4x1, .f32⟩
  | 91 => ⟨S2x4096x4x1, .f32⟩
  | 92 => ⟨S2x4096x4x1, .f32⟩
  | 93 => ⟨S2x4096x4x256, .f32⟩
  | 94 => ⟨S2x4096x4x256, .f32⟩
  | 95 => ⟨S2x4096x1024, .f32⟩
  | 96 => ⟨S8192x1024, .bf16⟩
  | 97 => ⟨S8192x1024, .f32⟩
  | 98 => ⟨S2x4096x1024, .f32⟩
  | 99 => ⟨S2x4096x1024, .f32⟩
  | 100 => ⟨S2x4096x1024, .f32⟩
  | 101 => ⟨S_, .f32⟩
  | 102 => ⟨S2x4096x1024, .f32⟩
  | 103 => ⟨S2x4096x1024, .f32⟩
  | 104 => ⟨S_, .f32⟩
  | 105 => ⟨S2x4096x1024, .f32⟩
  | 106 => ⟨S2x4096x1024, .f32⟩
  | 107 => ⟨S2x4096x1024, .f32⟩
  | 108 => ⟨S2x4096x1024, .f32⟩
  | 109 => ⟨S8192x1024, .bf16⟩
  | 110 => ⟨S8192x1024, .f32⟩
  | 111 => ⟨S2x4096x1024, .f32⟩
  | 112 => ⟨S_, .f32⟩
  | 113 => ⟨S2x4096x1024, .f32⟩
  | 114 => ⟨S2x4096x1024, .f32⟩
  | 115 => ⟨S2x4096x1024, .f32⟩
  | 116 => ⟨S_, .f32⟩
  | 117 => ⟨S2x4096x1024, .f32⟩
  | 118 => ⟨S2x4096x1024, .f32⟩
  | 119 => ⟨S2x4096x1024, .f32⟩
  | 120 => ⟨S2x4096x1024, .f32⟩
  | 121 => ⟨S8192x1024, .bf16⟩
  | 122 => ⟨S8192x1024, .f32⟩
  | 123 => ⟨S2x4096x1024, .f32⟩
  | 124 => ⟨S_, .f32⟩
  | 125 => ⟨S2x4096x1024, .f32⟩
  | 126 => ⟨S2x4096x1024, .f32⟩
  | 127 => ⟨S2x4096x1024, .f32⟩
  | _ => ⟨S8192x6144, .bf16⟩

abbrev hbmTy0_2 (i : Nat) : BufTy := match i % 128 with
  | 0 => ⟨S_, .f32⟩
  | 1 => ⟨S2x4096x1024, .f32⟩
  | 2 => ⟨S2x4096x1024, .f32⟩
  | 3 => ⟨S2x4096x1024, .f32⟩
  | 4 => ⟨S2x4096x1024, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S2x4096x1024, .f32⟩
  | 12 => ⟨S2x4096x1024, .f32⟩
  | 13 => ⟨S2x4096x1024, .f32⟩
  | 14 => ⟨S_, .f32⟩
  | 15 => ⟨S2x4096, .f32⟩
  | 16 => ⟨S2x4096x1, .f32⟩
  | 17 => ⟨S_, .f32⟩
  | 18 => ⟨S2x4096x1, .f32⟩
  | 19 => ⟨S2x4096x1, .f32⟩
  | 20 => ⟨S2x4096x1024, .f32⟩
  | 21 => ⟨S2x4096x1024, .f32⟩
  | 22 => ⟨S_, .f32⟩
  | 23 => ⟨S2x4096x1, .f32⟩
  | 24 => ⟨S2x4096x1, .f32⟩
  | 25 => ⟨S2x4096x1, .f32⟩
  | 26 => ⟨S2x4096x1024, .f32⟩
  | 27 => ⟨S2x4096x1024, .f32⟩
  | 28 => ⟨S1x1x1024, .f32⟩
  | 29 => ⟨S2x4096x1024, .f32⟩
  | 30 => ⟨S2x4096x1024, .f32⟩
  | 31 => ⟨S1x1x1024, .f32⟩
  | 32 => ⟨S2x4096x1024, .f32⟩
  | 33 => ⟨S2x4096x1024, .f32⟩
  | 34 => ⟨S128, .i32⟩
  | 35 => ⟨S_, .i32⟩
  | 36 => ⟨S_, .i32⟩
  | 37 => ⟨S128, .i32⟩
  | 38 => ⟨S128, .i32⟩
  | 39 => ⟨S128, .i32⟩
  | 40 => ⟨S_, .i32⟩
  | 41 => ⟨S128, .i32⟩
  | 42 => ⟨S128, .i1⟩
  | 43 => ⟨S128, .i32⟩
  | 44 => ⟨S128, .i32⟩
  | 45 => ⟨S_, .i32⟩
  | 46 => ⟨S128, .i32⟩
  | 47 => ⟨S128, .i1⟩
  | 48 => ⟨S128, .i1⟩
  | 49 => ⟨S_, .i32⟩
  | 50 => ⟨S128, .i32⟩
  | 51 => ⟨S128, .i32⟩
  | 52 => ⟨S128, .i32⟩
  | 53 => ⟨S1x128, .i32⟩
  | 54 => ⟨S128x1, .i32⟩
  | 55 => ⟨S128x128, .i32⟩
  | 56 => ⟨S128x128, .i32⟩
  | 57 => ⟨S128x128, .i1⟩
  | 58 => ⟨S1x128x128, .i1⟩
  | 59 => ⟨S_, .f32⟩
  | 60 => ⟨S_, .f32⟩
  | 61 => ⟨S4x128x128, .i1⟩
  | 62 => ⟨S4x128x128, .f32⟩
  | 63 => ⟨S4x128x128, .f32⟩
  | 64 => ⟨S2x32x128x4x256, .f32⟩
  | 65 => ⟨S4x2x32x256x128, .f32⟩
  | 66 => ⟨S2x32x128x4x256, .f32⟩
  | 67 => ⟨S128x4, .f32⟩
  | 68 => ⟨S1x1x128x4x1, .f32⟩
  | 69 => ⟨S2x32x128x4x256, .f32⟩
  | 70 => ⟨S2x32x128x4x256, .f32⟩
  | 71 => ⟨S2x4096x1024, .f32⟩
  | 72 => ⟨S2x4096x1024, .f32⟩
  | 73 => ⟨S8192x1024, .f32⟩
  | 74 => ⟨S8192x1024, .bf16⟩
  | 75 => ⟨S8192x1024, .f32⟩
  | 76 => ⟨S8192x1024, .bf16⟩
  | _ => ⟨S8192x6144, .bf16⟩

abbrev hbmTy (i : Nat) : BufTy := match i / 128 with
  | 0 => hbmTy0_0 i
  | 1 => hbmTy0_1 i
  | 2 => hbmTy0_2 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_7 : Ref sig .tc := ⟨.hbm, 93, rfl⟩
abbrev main_v80 : Ref sig .tc := ⟨.hbm, 94, rfl⟩
abbrev main_v81 : Ref sig .tc := ⟨.hbm, 95, rfl⟩
abbrev main_cst_8 : Ref sig .tc := ⟨.hbm, 96, rfl⟩
abbrev main_v82 : Ref sig .tc := ⟨.hbm, 97, rfl⟩
abbrev main_v83 : Ref sig .tc := ⟨.hbm, 98, rfl⟩
abbrev main_cst_9 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_11 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_12 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_cst_13 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_14 : Ref sig .tc := ⟨.hbm, 150, rfl⟩
abbrev main_v130 : Ref sig .tc := ⟨.hbm, 151, rfl⟩
abbrev main_cst_15 : Ref sig .tc := ⟨.hbm, 152, rfl⟩
abbrev main_v131 : Ref sig .tc := ⟨.hbm, 153, rfl⟩
abbrev main_c : Ref sig .tc := ⟨.hbm, 154, rfl⟩
abbrev main_v132_0 : Ref sig .tc := ⟨.hbm, 155, rfl⟩
abbrev main_v132_1 : Ref sig .tc := ⟨.hbm, 156, rfl⟩
abbrev main_v132_2 : Ref sig .tc := ⟨.hbm, 157, rfl⟩
abbrev main_v132_3 : Ref sig .tc := ⟨.hbm, 158, rfl⟩
abbrev main_v132_4 : Ref sig .tc := ⟨.hbm, 159, rfl⟩
abbrev main_v132_5 : Ref sig .tc := ⟨.hbm, 160, rfl⟩
abbrev main_v132_6 : Ref sig .tc := ⟨.hbm, 161, rfl⟩
abbrev main_v132_7 : Ref sig .tc := ⟨.hbm, 162, rfl⟩
abbrev main_v132_8 : Ref sig .tc := ⟨.hbm, 163, rfl⟩
abbrev main_v132_9 : Ref sig .tc := ⟨.hbm, 164, rfl⟩
abbrev main_while0c_c_39 : Ref sig .tc := ⟨.hbm, 165, rfl⟩
abbrev main_while0c_v217 : Ref sig .tc := ⟨.hbm, 166, rfl⟩
abbrev main_while0b_call0_c : Ref sig .tc := ⟨.hbm, 167, rfl⟩
abbrev main_while0b_call0_c_0 : Ref sig .tc := ⟨.hbm, 168, rfl⟩
abbrev main_while0b_call0_c_1 : Ref sig .tc := ⟨.hbm, 169, rfl⟩
abbrev main_while0b_call0_c_2 : Ref sig .tc := ⟨.hbm, 170, rfl⟩
abbrev main_while0b_call0_v0 : Ref sig .tc := ⟨.hbm, 171, rfl⟩
abbrev main_while0b_v217 : Ref sig .tc := ⟨.hbm, 172, rfl⟩
abbrev main_while0b_call1_c : Ref sig .tc := ⟨.hbm, 173, rfl⟩
abbrev main_while0b_call1_c_0 : Ref sig .tc := ⟨.hbm, 174, rfl⟩
abbrev main_while0b_call1_c_1 : Ref sig .tc := ⟨.hbm, 175, rfl⟩
abbrev main_while0b_call1_c_2 : Ref sig .tc := ⟨.hbm, 176, rfl⟩
abbrev main_while0b_call1_v0 : Ref sig .tc := ⟨.hbm, 177, rfl⟩
abbrev main_while0b_v218 : Ref sig .tc := ⟨.hbm, 178, rfl⟩
abbrev main_while0b_call2_c : Ref sig .tc := ⟨.hbm, 179, rfl⟩
abbrev main_while0b_call2_c_0 : Ref sig .tc := ⟨.hbm, 180, rfl⟩
abbrev main_while0b_call2_c_1 : Ref sig .tc := ⟨.hbm, 181, rfl⟩
abbrev main_while0b_call2_c_2 : Ref sig .tc := ⟨.hbm, 182, rfl⟩
abbrev main_while0b_call2_v0 : Ref sig .tc := ⟨.hbm, 183, rfl⟩
abbrev main_while0b_v219 : Ref sig .tc := ⟨.hbm, 184, rfl⟩
abbrev main_while0b_v220 : Ref sig .tc := ⟨.hbm, 185, rfl⟩
abbrev main_while0b_v221 : Ref sig .tc := ⟨.hbm, 186, rfl⟩
abbrev main_while0b_v222 : Ref sig .tc := ⟨.hbm, 187, rfl⟩
abbrev main_while0b_v223 : Ref sig .tc := ⟨.hbm, 188, rfl⟩
abbrev main_while0b_v224 : Ref sig .tc := ⟨.hbm, 189, rfl⟩
abbrev main_while0b_v225 : Ref sig .tc := ⟨.hbm, 190, rfl⟩
abbrev main_while0b_v226 : Ref sig .tc := ⟨.hbm, 191, rfl⟩
abbrev main_while0b_v227 : Ref sig .tc := ⟨.hbm, 192, rfl⟩
abbrev main_while0b_v228 : Ref sig .tc := ⟨.hbm, 193, rfl⟩
abbrev main_while0b_v229 : Ref sig .tc := ⟨.hbm, 194, rfl⟩
abbrev main_while0b_v230 : Ref sig .tc := ⟨.hbm, 195, rfl⟩
abbrev main_while0b_v231 : Ref sig .tc := ⟨.hbm, 196, rfl⟩
abbrev main_while0b_v232 : Ref sig .tc := ⟨.hbm, 197, rfl⟩
abbrev main_while0b_v233 : Ref sig .tc := ⟨.hbm, 198, rfl⟩
abbrev main_while0b_v234 : Ref sig .tc := ⟨.hbm, 199, rfl⟩
abbrev main_while0b_call3_v0 : Ref sig .tc := ⟨.hbm, 200, rfl⟩
abbrev main_while0b_call3_c : Ref sig .tc := ⟨.hbm, 201, rfl⟩
abbrev main_while0b_call3_c_0 : Ref sig .tc := ⟨.hbm, 202, rfl⟩
abbrev main_while0b_call3_c_1 : Ref sig .tc := ⟨.hbm, 203, rfl⟩
abbrev main_while0b_call3_c_2 : Ref sig .tc := ⟨.hbm, 204, rfl⟩
abbrev main_while0b_v235 : Ref sig .tc := ⟨.hbm, 205, rfl⟩
abbrev main_while0b_c_39 : Ref sig .tc := ⟨.hbm, 206, rfl⟩
abbrev main_while0b_v236 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_16 : Ref sig .tc := ⟨.hbm, 211, rfl⟩
abbrev main_v136 : Ref sig .tc := ⟨.hbm, 212, rfl⟩
abbrev main_v137 : Ref sig .tc := ⟨.hbm, 213, rfl⟩
abbrev main_cst_17 : Ref sig .tc := ⟨.hbm, 214, rfl⟩
abbrev main_v138 : Ref sig .tc := ⟨.hbm, 215, rfl⟩
abbrev main_v139 : Ref sig .tc := ⟨.hbm, 216, rfl⟩
abbrev main_cst_18 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_call4_v0 : Ref sig .tc := ⟨.hbm, 227, rfl⟩
abbrev main_call4_v1 : Ref sig .tc := ⟨.hbm, 228, rfl⟩
abbrev main_call4_cst : Ref sig .tc := ⟨.hbm, 229, rfl⟩
abbrev main_call4_v2 : Ref sig .tc := ⟨.hbm, 230, rfl⟩
abbrev main_call4_v3 : Ref sig .tc := ⟨.hbm, 231, rfl⟩
abbrev main_call4_cst_0 : Ref sig .tc := ⟨.hbm, 232, rfl⟩
abbrev main_call4_v4 : Ref sig .tc := ⟨.hbm, 233, rfl⟩
abbrev main_call4_v5 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_19 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_cst_20 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_cst_21 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_cst_22 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_cst_23 : Ref sig .tc := ⟨.hbm, 261, rfl⟩
abbrev main_v171 : Ref sig .tc := ⟨.hbm, 262, rfl⟩
abbrev main_v172 : Ref sig .tc := ⟨.hbm, 263, rfl⟩
abbrev main_cst_24 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_cst_25 : Ref sig .tc := ⟨.hbm, 270, rfl⟩
abbrev main_v178 : Ref sig .tc := ⟨.hbm, 271, rfl⟩
abbrev main_v179 : Ref sig .tc := ⟨.hbm, 272, rfl⟩
abbrev main_cst_26 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_cst_27 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_c_28 : Ref sig .tc := ⟨.hbm, 291, rfl⟩
abbrev main_call5_v0 : Ref sig .tc := ⟨.hbm, 292, rfl⟩
abbrev main_call5_v1 : Ref sig .tc := ⟨.hbm, 293, rfl⟩
abbrev main_call5_v2 : Ref sig .tc := ⟨.hbm, 294, rfl⟩
abbrev main_call5_v3 : Ref sig .tc := ⟨.hbm, 295, rfl⟩
abbrev main_call5_v4 : Ref sig .tc := ⟨.hbm, 296, rfl⟩
abbrev main_call5_v5 : Ref sig .tc := ⟨.hbm, 297, rfl⟩
abbrev main_call5_v6 : Ref sig .tc := ⟨.hbm, 298, rfl⟩
abbrev main_call5_v7 : Ref sig .tc := ⟨.hbm, 299, rfl⟩
abbrev main_call5_v8 : Ref sig .tc := ⟨.hbm, 300, rfl⟩
abbrev main_call5_c : Ref sig .tc := ⟨.hbm, 301, rfl⟩
abbrev main_call5_v9 : Ref sig .tc := ⟨.hbm, 302, rfl⟩
abbrev main_call5_v10 : Ref sig .tc := ⟨.hbm, 303, rfl⟩
abbrev main_call5_v11 : Ref sig .tc := ⟨.hbm, 304, rfl⟩
abbrev main_call5_c_0 : Ref sig .tc := ⟨.hbm, 305, rfl⟩
abbrev main_call5_v12 : Ref sig .tc := ⟨.hbm, 306, rfl⟩
abbrev main_call5_v13 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_29 : Ref sig .tc := ⟨.hbm, 315, rfl⟩
abbrev main_call6_v0 : Ref sig .tc := ⟨.hbm, 316, rfl⟩
abbrev main_call6_v1 : Ref sig .tc := ⟨.hbm, 317, rfl⟩
abbrev main_call6_v2 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S8192x2048 : Shape := ⟨2, ![8192, 2048]⟩
abbrev S2048 : Shape := ⟨1, ![2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x5632, .bf16⟩
  | .hbm, ⟨3, _⟩ => ⟨S1x2048x5632, .bf16⟩
  | .hbm, ⟨4, _⟩ => ⟨S1x5632x2048, .bf16⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v3 : BitVec 32 := Scalar.extui v0
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v5 : BitVec 1 := Scalar.xori v0 v_true
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048 : Shape := ⟨1, ![2048]⟩
abbrev S1x2048x5632 : Shape := ⟨3, ![1, 2048, 5632]⟩
abbrev S1x5632x2048 : Shape := ⟨3, ![1, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x5632, .bf16⟩
  | .hbm, ⟨3, _⟩ => ⟨S1x2048x5632, .bf16⟩
  | .hbm, ⟨4, _⟩ => ⟨S1x5632x2048, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x5632, .bf16⟩
  | .hbm, ⟨22, _⟩ => ⟨S2048x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S2048x5632, .bf16⟩
  | .hbm, ⟨34, _⟩ => ⟨S2048x5632, .f32⟩
  | .hbm, ⟨35, _⟩ => ⟨S8192x5632, .f32⟩
  | .hbm, ⟨36, _⟩ => ⟨S8192x5632, .f32⟩
  | .hbm, ⟨37, _⟩ => ⟨S5632x2048, .bf16⟩
  | .hbm, ⟨38, _⟩ => ⟨S5632x2048, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Inproj.lean ====
abbrev S8192x2048 : Shape := ⟨2, ![8192, 2048]⟩
abbrev S2048 : Shape := ⟨1, ![2048]⟩
abbrev S1x2048x6144 : Shape := ⟨3, ![1, 2048, 6144]⟩
abbrev S2x2048x5632 : Shape := ⟨3, ![2, 2048, 5632]⟩
abbrev S2x5632x2048 : Shape := ⟨3, ![2, 5632, 2048]⟩
abbrev S1x2048 : Shape := ⟨2, ![1, 2048]⟩
abbrev S8192x6144 : Shape := ⟨2, ![8192, 6144]⟩
abbrev S2048x5632 : Shape := ⟨2, ![2048, 5632]⟩
abbrev S5632x2048 : Shape := ⟨2, ![5632, 2048]⟩
abbrev S1024x2048 : Shape := ⟨2, ![1024, 2048]⟩
abbrev S1x2048x1024 : Shape := ⟨3, ![1, 2048, 1024]⟩
abbrev S1x64x5632 : Shape := ⟨3, ![1, 64, 5632]⟩
abbrev S1x128x2048 : Shape := ⟨3, ![1, 128, 2048]⟩
abbrev S1024x1024 : Shape := ⟨2, ![1024, 1024]⟩
abbrev S64x5632 : Shape := ⟨2, ![64, 5632]⟩
abbrev S128x2048 : Shape := ⟨2, ![128, 2048]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6144, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S1x2048x6144, .bf16⟩
  | .hbm, ⟨7, _⟩ => ⟨S1x2048, .f32⟩
  | .hbm, ⟨8, _⟩ => ⟨S8192x6144, .bf16⟩
  | .hbm, ⟨9, _⟩ => ⟨S2048x5632, .bf16⟩
  | .hbm, ⟨10, _⟩ => ⟨S2048x5632, .bf16⟩
  | .hbm, ⟨11, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x64x5632, .f32⟩
  | .local _ .vmem, ⟨6, _⟩ => ⟨S1x64x5632, .f32⟩
  | .local _ .vmem, ⟨7, _⟩ => ⟨S1x64x5632, .f32⟩
  | .local _ .vmem, ⟨8, _⟩ => ⟨S1x64x5632, .f32⟩
  | .local _ .vmem, ⟨9, _⟩ => ⟨S1x128x2048, .f32⟩
  | .local _ .vmem, ⟨10, _⟩ => ⟨S1x128x2048, .f32⟩
  | .local _ .vmem, ⟨11, _⟩ => ⟨S1024x1024, .bf16⟩
  | .local _ .vmem, ⟨12, _⟩ => ⟨S1024x1024, .bf16⟩
  | .local _ .vmem, ⟨13, _⟩ => ⟨S64x5632, .bf16⟩
  | .local _ .vmem, ⟨14, _⟩ => ⟨S64x5632, .bf16⟩
  | .local _ .vmem, ⟨15, _⟩ => ⟨S64x5632, .bf16⟩
  | .local _ .vmem, ⟨16, _⟩ => ⟨S64x5632, .bf16⟩
  | .local _ .vmem, ⟨17, _⟩ => ⟨S128x2048, .bf16⟩
  | .local _ .vmem, ⟨18, _⟩ => ⟨S128x2048, .bf16⟩
  | .local _ .vmem, ⟨19, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InprojRefIdeal.lean ====
abbrev S8192x2048 : Shape := ⟨2, ![8192, 2048]⟩
abbrev S2048 : Shape := ⟨1, ![2048]⟩
abbrev S1x2048x6144 : Shape := ⟨3, ![1, 2048, 6144]⟩
abbrev S2x2048x5632 : Shape := ⟨3, ![2, 2048, 5632]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x6144 : Shape := ⟨2, ![2048, 6144]⟩
abbrev S8192x6144 : Shape := ⟨2, ![8192, 6144]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6144, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x6144, .f32⟩
  | .hbm, ⟨23, _⟩ => ⟨S8192x6144, .f32⟩
  | .hbm, ⟨24, _⟩ => ⟨S8192x6144, .bf16⟩
  | .hbm, ⟨25, _⟩ => ⟨S1x2048x5632, .f32⟩
  | .hbm, ⟨26, _⟩ => ⟨S2048x5632, .f32⟩
  | .hbm, ⟨27, _⟩ => ⟨S2048x5632, .bf16⟩
  | .hbm, ⟨28, _⟩ => ⟨S1x2048x5632, .f32⟩
  | .hbm, ⟨29, _⟩ => ⟨S2048x5632, .f32⟩
  | .hbm, ⟨30, _⟩ => ⟨S2048x5632, .bf16⟩
  | .hbm, ⟨31, _⟩ => ⟨S1x5632x2048, .f32⟩
  | .hbm, ⟨32, _⟩ => ⟨S5632x2048, .f32⟩
  | .hbm, ⟨33, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Outproj.lean ====
abbrev S8192x1024 : Shape := ⟨2, ![8192, 1024]⟩
abbrev S2048x2048 : Shape := ⟨2, ![2048, 2048]⟩
abbrev S8192x2048 : Shape := ⟨2, ![8192, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048x2048, .bf16⟩
  | .hbm, ⟨5, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutprojRefIdeal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Prep.lean ====
abbrev S8192x896 : Shape := ⟨2, ![8192, 896]⟩
abbrev S384 : Shape := ⟨1, ![384]⟩
abbrev S256 : Shape := ⟨1, ![256]⟩
abbrev S384x2048 : Shape := ⟨2, ![384, 2048]⟩
abbrev S384x1024 : Shape := ⟨2, ![384, 1024]⟩
abbrev S1024x384 : Shape := ⟨2, ![1024, 384]⟩
abbrev S16x64x384 : Shape := ⟨3, ![16, 64, 384]⟩
abbrev S_ : Shape := ⟨0, ![]⟩
abbrev S16x128x384 : Shape := ⟨3, ![16, 128, 384]⟩
abbrev S2048x384 : Shape := ⟨2, ![2048, 384]⟩
abbrev S1x384 : Shape := ⟨2, ![1, 384]⟩
abbrev S1x256 : Shape := ⟨2, ![1, 256]⟩
abbrev S64x8x128x256 : Shape := ⟨4, ![64, 8, 128, 256]⟩
abbrev S128x131072 : Shape := ⟨2, ![128, 131072]⟩
abbrev S8192x256 : Shape := ⟨2, ![8192, 256]⟩
abbrev S8192x128 : Shape := ⟨2, ![8192, 128]⟩
abbrev S16x8192 : Shape := ⟨2, ![16, 8192]⟩
abbrev S512x896 : Shape := ⟨2, ![512, 896]⟩
abbrev S4x8x128x256 : Shape := ⟨4, ![4, 8, 128, 256]⟩
abbrev S128x8192 : Shape := ⟨2, ![128, 8192]⟩
abbrev S512x256 : Shape := ⟨2, ![512, 256]⟩
abbrev S512x128 : Shape := ⟨2, ![512, 128]⟩
abbrev S16x512 : Shape := ⟨2, ![16, 512]⟩
abbrev S512x384 : Shape := ⟨2, ![512, 384]⟩
abbrev S512 : Shape := ⟨1, ![512]⟩
abbrev S512x1 : Shape := ⟨2, ![512, 1]⟩
abbrev S512x2048 : Shape := ⟨2, ![512, 2048]⟩
abbrev S128x256 : Shape := ⟨2, ![128, 256]⟩
abbrev S128 : Shape := ⟨1, ![128]⟩
abbrev S128x1 : Shape := ⟨2, ![128, 1]⟩
abbrev S1x1x128x256 : Shape := ⟨4, ![1, 1, 128, 256]⟩
abbrev S2048x512 : Shape := ⟨2, ![2048, 512]⟩
abbrev S128x128 : Shape := ⟨2, ![128, 128]⟩
abbrev S128x512 : Shape := ⟨2, ![128, 512]⟩

abbrev nBuf : Space → Nat
  | .hbm => 22
  | .vmem => 17
  | .smem => 0
  | _ => 0

abbrev bufTy : (tb : Table) → Fin (tcTables nBuf tb) → BufTy
  | .hbm, ⟨0, _⟩ => ⟨S8192x896, .f32⟩
  | .hbm, ⟨1, _⟩ => ⟨S384, .f32⟩
  | .hbm, ⟨2, _⟩ => ⟨S256, .f32⟩
  | .hbm, ⟨3, _⟩ => ⟨S384x2048, .f32⟩
  | .hbm, ⟨4, _⟩ => ⟨S256, .f32⟩
  | .hbm, ⟨5, _⟩ => ⟨S384x1024, .f32⟩
  | .hbm, ⟨6, _⟩ => ⟨S1024x384, .f32⟩
  | .hbm, ⟨7, _⟩ => ⟨S16x64x384, .f32⟩
  | .hbm, ⟨8, _⟩ => ⟨S_, .i32⟩
  | .hbm, ⟨9, _⟩ => ⟨S_, .f32⟩
  | .hbm, ⟨10, _⟩ => ⟨S16x128x384, .f32⟩
  | .hbm, ⟨11, _⟩ => ⟨S2048x384, .f32⟩
  | .hbm, ⟨12, _⟩ => ⟨S384x2048, .bf16⟩
  | .hbm, ⟨13, _⟩ => ⟨S2048x384, .bf16⟩
  | .hbm, ⟨14, _⟩ => ⟨S1x384, .f32⟩
  | .hbm, ⟨15, _⟩ => ⟨S1x256, .f32⟩
  | .hbm, ⟨16, _⟩ => ⟨S1x256, .f32⟩
  | .hbm, ⟨17, _⟩ => ⟨S64x8x128x256, .bf16⟩
  | .hbm, ⟨18, _⟩ => ⟨S128x131072, .bf16⟩
  | .hbm, ⟨19, _⟩ => ⟨S8192x256, .bf16⟩
  | .hbm, ⟨20, _⟩ => ⟨S8192x128, .bf16⟩
  | .hbm, ⟨21, _⟩ => ⟨S16x8192, .f32⟩
  | .local _ .vmem, ⟨0, _⟩ => ⟨S512x896, .f32⟩
  | .local _ .vmem, ⟨1, _⟩ => ⟨S512x896, .f32⟩
  | .local _ .vmem, ⟨2, _⟩ => ⟨S1x384, .f32⟩
  | .local _ .vmem, ⟨3, _⟩ => ⟨S1x256, .f32⟩
  | .local _ .vmem, ⟨4, _⟩ => ⟨S384x2048, .bf16⟩
  | .local _ .vmem, ⟨5, _⟩ => ⟨S1x256, .f32⟩
  | .local _ .vmem, ⟨6, _⟩ => ⟨S2048x384, .bf16⟩
  | .local _ .vmem, ⟨7, _⟩ => ⟨S4x8x128x256, .bf16⟩
  | .local _ .vmem, ⟨8, _⟩ => ⟨S4x8x128x256, .bf16⟩
  | .local _ .vmem, ⟨9, _⟩ => ⟨S128x8192, .bf16⟩
  | .local _ .vmem, ⟨10, _⟩ => ⟨S128x8192, .bf16⟩
  | .local _ .vmem, ⟨11, _⟩ => ⟨S512x256, .bf16⟩
  | .local _ .vmem, ⟨12, _⟩ => ⟨S512x256, .bf16⟩
  | .local _ .vmem, ⟨13, _⟩ => ⟨S512x128, .bf16⟩
  | .local _ .vmem, ⟨14, _⟩ => ⟨S512x128, .bf16⟩
  | .local _ .vmem, ⟨15, _⟩ => ⟨S16x512, .f32⟩
  | .local _ .vmem, ⟨16, _⟩ => ⟨S16x512, .f32⟩
  | _, _ => ⟨S8192x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x8x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepRefIdeal.lean ====
abbrev S8192x896 : Shape := ⟨2, ![8192, 896]⟩
abbrev S384 : Shape := ⟨1, ![384]⟩
abbrev S256 : Shape := ⟨1, ![256]⟩
abbrev S384x2048 : Shape := ⟨2, ![384, 2048]⟩
abbrev S384x1024 : Shape := ⟨2, ![384, 1024]⟩
abbrev S8192x384 : Shape := ⟨2, ![8192, 384]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S8192x2048 : Shape := ⟨2, ![8192, 2048]⟩
abbrev S8192x8x256 : Shape := ⟨3, ![8192, 8, 256]⟩
abbrev S8192x8 : Shape := ⟨2, ![8192, 8]⟩
abbrev S8192x8x1 : Shape := ⟨3, ![8192, 8, 1]⟩
abbrev S1x1x256 : Shape := ⟨3, ![1, 1, 256]⟩
abbrev S8192x1024 : Shape := ⟨2, ![8192, 1024]⟩
abbrev S8192x256 : Shape := ⟨2, ![8192, 256]⟩
abbrev S1x256 : Shape := ⟨2, ![1, 256]⟩
abbrev S64x128x8x256 : Shape := ⟨4, ![64, 128, 8, 256]⟩
abbrev S64x8x128x256 : Shape := ⟨4, ![64, 8, 128, 256]⟩
abbrev S64x128x16x64 : Shape := ⟨4, ![64, 128, 16, 64]⟩
abbrev S64x64x16x128 : Shape := ⟨4, ![64, 64, 16, 128]⟩
abbrev S64x131072 : Shape := ⟨2, ![64, 131072]⟩
abbrev S128x131072 : Shape := ⟨2, ![128, 131072]⟩
abbrev S8192x16 : Shape := ⟨2, ![8192, 16]⟩
abbrev S16x8192 : Shape := ⟨2, ![16, 8192]⟩
abbrev S8192x128 : Shape := ⟨2, ![8192, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x896, .f32⟩
  | .hbm, ⟨1, _⟩ => ⟨S384, .f32⟩
  | .hbm, ⟨2, _⟩ => ⟨S256, .f32⟩
  | .hbm, ⟨3, _⟩ => ⟨S384x2048, .f32⟩
  | .hbm, ⟨4, _⟩ => ⟨S256, .f32⟩
  | .hbm, ⟨5, _⟩ => ⟨S384x1024, .f32⟩
  | .hbm, ⟨6, _⟩ => ⟨S8192x384, .f32⟩
  | .hbm, ⟨7, _⟩ => ⟨S8192x384, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x384, .f32⟩
  | .hbm, ⟨19, _⟩ => ⟨S8192x384, .f32⟩
  | .hbm, ⟨20, _⟩ => ⟨S1x384, .f32⟩
  | .hbm, ⟨21, _⟩ => ⟨S8192x384, .f32⟩
  | .hbm, ⟨22, _⟩ => ⟨S8192x384, .f32⟩
  | .hbm, ⟨23, _⟩ => ⟨S8192x2048, .f32⟩
  | .hbm, ⟨24, _⟩ => ⟨S8192x8x256, .f32⟩
  | .hbm, ⟨25, _⟩ => ⟨S8192x8x256, .f32⟩
  | .hbm, ⟨26, _⟩ => ⟨S_, .f32⟩
  | .hbm, ⟨27, _⟩ => ⟨S8192x8, .f32⟩
  | .hbm, ⟨28, _⟩ => ⟨S8192x8x1, .f32⟩
  | .hbm, ⟨29, _⟩ => ⟨S_, .f32⟩
  | .hbm, ⟨30, _⟩ => ⟨S8192x8x1, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S8192x8x1, .f32⟩
  | .hbm, ⟨36, _⟩ => ⟨S8192x8x256, .f32⟩
  | .hbm, ⟨37, _⟩ => ⟨S8192x8x256, .f32⟩
  | .hbm, ⟨38, _⟩ => ⟨S1x1x256, .f32⟩
  | .hbm, ⟨39, _⟩ => ⟨S8192x8x256, .f32⟩
  | .hbm, ⟨40, _⟩ => ⟨S8192x8x256, .f32⟩
  | .hbm, ⟨41, _⟩ => ⟨S_, .f32⟩
  | .hbm, ⟨42, _⟩ => ⟨S8192x8x256, .f32⟩
  | .hbm, ⟨43, _⟩ => ⟨S8192x8x256, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x256, .f32⟩
  | .hbm, ⟨61, _⟩ => ⟨S8192x256, .f32⟩
  | .hbm, ⟨62, _⟩ => ⟨S1x256, .f32⟩
  | .hbm, ⟨63, _⟩ => ⟨S8192x256, .f32⟩
  | .hbm, ⟨64, _⟩ => ⟨S8192x256, .f32⟩
  | .hbm, ⟨65, _⟩ => ⟨S64x128x8x256, .f32⟩
  | .hbm, ⟨66, _⟩ => ⟨S64x8x128x256, .f32⟩
  | .hbm, ⟨67, _⟩ => ⟨S64x128x16x64, .f32⟩
  | .hbm, ⟨68, _⟩ => ⟨S64x64x16x128, .f32⟩
  | .hbm, ⟨69, _⟩ => ⟨S64x131072, .f32⟩
  | .hbm, ⟨70, _⟩ => ⟨S_, .f32⟩
  | .hbm, ⟨71, _⟩ => ⟨S64x131072, .f32⟩
  | .hbm, ⟨72, _⟩ => ⟨S128x131072, .f32⟩
  | .hbm, ⟨73, _⟩ => ⟨S8192x16, .f32⟩
  | .hbm, ⟨74, _⟩ => ⟨S_, .f32⟩
  | .hbm, ⟨75, _⟩ => ⟨S8192x16, .f32⟩
  | .hbm, ⟨76, _⟩ => ⟨S8192x16, .f32⟩
  | .hbm, ⟨77, _⟩ => ⟨S16x8192, .f32⟩
  | .hbm, ⟨78, _⟩ => ⟨S64x8x128x256, .bf16⟩
  | .hbm, ⟨79, _⟩ => ⟨S128x131072, .bf16⟩
  | .hbm, ⟨80, _⟩ => ⟨S8192x256, .bf16⟩
  | .hbm, ⟨81, _⟩ => ⟨S8192x128, .f32⟩
  | .hbm, ⟨82, _⟩ => ⟨S8192x128, .bf16⟩
  | _, _ => ⟨S8192x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Proof.Common.lean ====
/-
  Readings shared by the value modules: a row sum, a matrix product into a zero accumulator, a column spread along
  its rows, each at one index over the extended reals; and a sum over consecutive blocks as one sum.
-/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.KernelVsHost
public import Idealize.ShloMosaic.PureOps.Ideal
public import Idealize.ShloMosaic.PureOps.Ideal.Laws

@[expose] public section

set_option maxRecDepth 16384

noncomputable section

namespace Cert.Common

open Idealize.ShloMosaic Idealize.ShloMosaic.ValueIdx
open scoped BigOperators

/-- Two zero offsets are the zero function. -/
theorem zero2 : (![0, 0] : Fin 2 → Nat) = fun _ => 0 := funext fun a => by
  match a with
  | ⟨0, _⟩ => rfl
  | ⟨1, _⟩ => rfl

/-- Three zero offsets are the zero function. -/
theorem zero3 : (![0, 0, 0] : Fin 3 → Nat) = fun _ => 0 := funext fun a => by
  match a with
  | ⟨0, _⟩ => rfl
  | ⟨1, _⟩ => rfl
  | ⟨2, _⟩ => rfl

/-- The sum of a matrix along its rows, read at row `p`: the sum of that row's entries. -/
theorem rowSum_apply {M K : ℕ} {φ : FTy} (x : FVec Ideal ⟨2, ![M, K]⟩ φ) (acc : BitVec φ.bits)
    (h : (⟨2, ![M, K]⟩ : Shape).Reduces [1] ⟨1, ![M]⟩) (hφ : FKind.Formats φ) (hacc : acc = FKind.add.neutral φ hφ) (p : Fin M) :
    multiReduction .add [1] ⟨1, ![M]⟩ x acc h hφ hacc (ix1 p) = ∑ k : Fin K, x (ix2 p k) := by
  rw [Ideal.multiReduction_add_single]
  refine Finset.sum_congr rfl fun k _ => congrArg x (funext fun a => Fin.ext ?_)
  match a with
  | ⟨0, _⟩ => rfl
  | ⟨1, _⟩ => rfl

/-- A plain matrix product accumulated into zeros, read at row `r` and column `c`. -/
theorem matmul0_apply {M K N : ℕ} {φ₁ φ₂ : FTy} (prec : Option ContractPrecision)
    (a : FVec Ideal ⟨2, ![M, K]⟩ φ₁) (b : FVec Ideal ⟨2, ![K, N]⟩ φ₂) (r : Fin M) (c : Fin N) :
    matmul (DotDims.plain M K N) prec a b (constant ⟨2, ![M, N]⟩ .f32 0x00000000#32) (ix2 r c)
      = ∑ k : Fin K, a (ix2 r k) * b (ix2 k c) := by
  refine (Ideal.matmul_plain_apply prec a b _ r c).trans ?_
  rw [constant_apply, Ideal.ofBits_zero_f32, zero_add]

/-- A column broadcast along the rows reads, at `(p, c)`, the column at `p`. -/
theorem column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The single-precision word of one. -/
theorem one_f32 : Ideal.ofBits .f32 0x3F800000#32 = 1 := by
  simp [Ideal.ofBits, Ideal.ieee]
  rw [← EReal.coe_mul, ← EReal.coe_one]
  norm_num

/-- Entry `k` of a row `x` scaled by the reciprocal root of its mean square (plus the small constant) and by the gain `g`. -/
def normed (x : Fin 2048 → EReal) (g : Fin 2048 → EReal) (k : Fin 2048) : EReal :=
  x k * Ideal.rsqrt (Ideal.div (∑ q : Fin 2048, x q * x q) (Ideal.ofBits .f32 0x45000000#32) + Ideal.ofBits .f32 0x358637BD#32) * g k

end Cert.Common

end
-- ==== Proof.FfnPoint.lean ====
/-
  The feed-forward kernel's body at one grid point: what it leaves in the output block and in the carried rows.
-/
module

public import proofs.«01_k».proof.Proof.Common
public import proofs.«01_k».proof.Proof.Gen.FfnIdeal.Value
public import Idealize.ShloMosaic.Lib.Tactic

@[expose] public section

set_option maxRecDepth 16384

noncomputable section

namespace Cert.FfnIdeal.Closed

open Cert.FfnIdeal Cert.FfnIdeal.Gen Cert.FfnIdeal.Value Cert.Common
open Idealize.ShloMosaic Idealize.ShloMosaic.TcCoe Idealize.ShloMosaic.ValueIdx Idealize.SL.Sem
open scoped BigOperators

variable (m : (ℓ : Loc nD τ sig) → Buf (Elt Ideal) ℓ)

set_option maxHeartbeats 1000000 in
/-- At the first tile of a row block the body normalizes the rows into the scratch and leaves the rows plus the first tile's product. -/
theorem step_first (c : Dev nD) (t : Fin cfg0.N) (acc : Vec Ideal S1024x2048 .f32 × Vec Ideal S1024x2048 .bf16) (h : t.val % 11 = 0) :
    stAt0 m c t.val t.isLt acc =
      (k0_pay2 (F := Ideal) (iblk m c 0 t) (k0_pay1 (F := Ideal) (iblk m c 0 t) (iblk m c 1 t)) (iblk m c 2 t) (iblk m c 3 t) (iblk m c 4 t),
        k0_pay1 (F := Ideal) (iblk m c 0 t) (iblk m c 1 t)) := by
  rw [stAt0_A m c t acc h h (by omega)]
  refine Prod.ext ?_ ?_
  · dsimp only
    unfold out0_A_5
    rw [View.read_writes_eq_canon _ _ _ (fun y => cover0_A_5 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      View.readCov_unit_zero (S := S1024x2048) _ zero2, View.ld_unit_zero (S := S1024x2048) zero2, View.ld_unit_zero (S := S1x2048) zero2,
      View.ld_unit_zero (S := S1x2048x512) zero3, View.ld_unit_zero (S := S1x512x2048) zero3]
  · dsimp only
    unfold sout0_A_0
    rw [View.read_writes_eq_canon _ _ _ (fun y => scover0_A_0 (y := y) ..)]
    unfold kernelRun0_A
    dsimp only
    sl_unfold_words
    rw [View.canon_unit_zero zero2]
    simp only [View.readAt_eq_ld, (hs0_0 t).read_unread, (hs0_1 t).read_unread,
      View.ld_unit_zero (S := S1024x2048) zero2, View.ld_unit_zero (S := S1x2048) zero2]

set_option maxHeartbeats 1000000 in
/-- At a later tile the body adds the tile's product to the running block and keeps the normalized rows. -/
theorem step_later (c : Dev nD) (t : Fin cfg0.N) (acc : Vec Ideal S1024x2048 .f32 × Vec Ideal S1024x2048 .bf16) (h : ¬t.val % 11 = 0) :
    stAt0 m c t.val t.isLt acc = (k0_pay3 (F := Ideal) acc.1 acc.2 (iblk m c 2 t) (iblk m c 3 t) (iblk m c 4 t), acc.2) := by
  rw [stAt0_B m c t acc h h (by omega)]
  refine Prod.ext ?_ ?_
  · dsimp only
    unfold out0_B_5
    rw [View.read_writes_eq_canon _ _ _ (fun y => cover0_B_5 (y := y) ..)]
    unfold kernelRun0_B
    dsimp only
    sl_unfold_words
    rw [View.canon_unit_zero zero2]
    simp only [View.readAt_eq_ld, (hs0_5 t).read_unread, (hs0_2 t).read_unread, (hs0_3 t).read_unread, (hs0_4 t).read_unread,
      (Memref.isWhole_whole (b := _)).read_unread, View.ld_unit_zero (S := S1024x2048) zero2,
      View.ld_unit_zero (S := S1x2048x512) zero3, View.ld_unit_zero (S := S1x512x2048) zero3]
  · rfl

end Cert.FfnIdeal.Closed

end
-- ==== Proof.FfnTile.lean ====
/-
  The feed-forward kernel's stored blocks read at one index over the extended reals: the normalized row, and the
  tile's contribution as a sum over the tile's hidden columns.
-/
module

public import proofs.«01_k».proof.Proof.FfnPoint

@[expose] public section

set_option maxRecDepth 16384

noncomputable section

namespace Cert.FfnIdeal.Closed

open Cert.FfnIdeal Cert.FfnIdeal.Gen Cert.FfnIdeal.Value Cert.Common
open Idealize.ShloMosaic Idealize.ShloMosaic.TcCoe Idealize.ShloMosaic.ValueIdx Idealize.SL.Sem
open scoped BigOperators

/-- One hidden unit: the gate's product with its own logistic, times the up projection. -/
def hiddenUnit (y : Fin 2048 → EReal) (wg wu : Fin 2048 → EReal) : EReal :=
  (∑ k : Fin 2048, y k * wg k) * Ideal.logistic (∑ k : Fin 2048, y k * wg k) * (∑ k : Fin 2048, y k * wu k)

/-- The rows the first tile stores are the normalized rows. -/
theorem pay1_apply (x : FVec Ideal S1024x2048 .f32) (g : FVec Ideal S1x2048 .f32) (p : Fin 1024) (k : Fin 2048) :
    k0_pay1 (F := Ideal) x g (ix2 p k) = normed (fun q => x (ix2 p q)) (fun q => g (ix2 (0 : Fin 1) q)) k := by
  unfold k0_pay1 normed
  dsimp only
  rw [shapeCast_self, shapeCast_self, truncf_apply, mulf_apply, mulf_apply]
  refine congrArg₂ (· * ·) (congrArg (x (ix2 p k) * ·) ?_) (broadcastTo_1b_ab_apply _ _ p k)
  refine (column_apply _ _ p k).trans ?_
  show Ideal.rsqrt (Ideal.div (shapeCast S1024x1 _ _ (ix2 p (0 : Fin 1))) _ + _) = _
  refine congrArg (fun z => Ideal.rsqrt (Ideal.div z _ + _)) ?_
  refine (shapeCast_a_a1_apply _ _ p 0).trans ?_
  exact rowSum_apply _ _ _ _ _ p

/-- A tile's product for hidden column `f` of the tile. -/
theorem hid_apply (y : FVec Ideal S1024x2048 .bf16) (wg wu : FVec Ideal S1x2048x512 .bf16) (p : Fin 1024) (f : Fin 512)
    (hg : S1x2048x512.ShapeCasts S2048x512) :
    mulf (F := Ideal) (mulf (matmul dot_S1024x2048_S2048x512_S1024x512_1_0_0_1_n_n none y (shapeCast S2048x512 wg hg) (constant S1024x512 .f32 0x00000000#32))
        (logistic (matmul dot_S1024x2048_S2048x512_S1024x512_1_0_0_1_n_n none y (shapeCast S2048x512 wg hg) (constant S1024x512 .f32 0x00000000#32))))
      (matmul dot_S1024x2048_S2048x512_S1024x512_1_0_0_1_n_n none y (shapeCast S2048x512 wu hg) (constant S1024x512 .f32 0x00000000#32)) (ix2 p f)
      = hiddenUnit (fun k => y (ix2 p k)) (fun k => wg (ix3 (0 : Fin 1) k f)) (fun k => wu (ix3 (0 : Fin 1) k f)) := by
  have e : ∀ w : FVec Ideal S1x2048x512 .bf16, matmul (F := Ideal) dot_S1024x2048_S2048x512_S1024x512_1_0_0_1_n_n none y (shapeCast S2048x512 w hg) (constant S1024x512 .f32 0x00000000#32) (ix2 p f)
      = ∑ k : Fin 2048, y (ix2 p k) * w (ix3 (0 : Fin 1) k f) := fun w =>
    (matmul0_apply none y (shapeCast S2048x512 w hg) p f).trans (Finset.sum_congr rfl fun k _ => by rw [shapeCast_1ab_ab_apply])
  unfold hiddenUnit
  rw [mulf_apply, mulf_apply, e wu, ← e wg]
  rfl

/-- The block after a later tile: the running block plus the sum over the tile's hidden columns. -/
theorem pay3_apply (a : FVec Ideal S1024x2048 .f32) (y : FVec Ideal S1024x2048 .bf16) (wg wu : FVec Ideal S1x2048x512 .bf16) (wd : FVec Ideal S1x512x2048 .bf16)
    (p : Fin 1024) (d : Fin 2048) :
    k0_pay3 (F := Ideal) a y wg wu wd (ix2 p d) = a (ix2 p d) + ∑ f : Fin 512,
      hiddenUnit (fun k => y (ix2 p k)) (fun k => wg (ix3 (0 : Fin 1) k f)) (fun k => wu (ix3 (0 : Fin 1) k f)) * wd (ix3 (0 : Fin 1) f d) := by
  unfold k0_pay3
  rw [shapeCast_self, addf_apply]
  refine congrArg (a (ix2 p d) + ·) ((matmul0_apply none _ _ p d).trans (Finset.sum_congr rfl fun f _ => ?_))
  rw [truncf_apply, hid_apply, shapeCast_1ab_ab_apply]

/-- The block after the first tile: the rows themselves plus the sum over the tile's hidden columns. -/
theorem pay2_apply (a : FVec Ideal S1024x2048 .f32) (y : FVec Ideal S1024x2048 .bf16) (wg wu : FVec Ideal S1x2048x512 .bf16) (wd : FVec Ideal S1x512x2048 .bf16)
    (p : Fin 1024) (d : Fin 2048) :
    k0_pay2 (F := Ideal) a y wg wu wd (ix2 p d) = a (ix2 p d) + ∑ f : Fin 512,
      hiddenUnit (fun k => y (ix2 p k)) (fun k => wg (ix3 (0 : Fin 1) k f)) (fun k => wu (ix3 (0 : Fin 1) k f)) * wd (ix3 (0 : Fin 1) f d) := by
  unfold k0_pay2
  rw [addf_apply]
  refine congrArg (a (ix2 p d) + ·) ((matmul0_apply none _ _ p d).trans (Finset.sum_congr rfl fun f _ => ?_))
  rw [truncf_apply, hid_apply, shapeCast_1ab_ab_apply]

variable (m : (ℓ : Loc nD τ sig) → Buf (Elt Ideal) ℓ)

/-- The grid point's block numbers: row block `t / 11`, hidden tile `t % 11`. -/
theorem index_facts : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 11
    ∧ win0_3.index t (0 : Fin 3) = 0 ∧ win0_3.index t (1 : Fin 3) = 0 ∧ win0_3.index t (2 : Fin 3) = t.val % 11
    ∧ win0_4.index t (0 : Fin 3) = 0 ∧ win0_4.index t (1 : Fin 3) = t.val % 11 ∧ win0_4.index t (2 : Fin 3) = 0 :=
  (by decide +kernel : ∀ t : Fin grid0.N, _)

/-- The gain the kernel reads is the argument laid out as one row. -/
theorem gain_eq (c : Dev nD) (k : Fin 2048) : V m c main_v0 (ix2 (0 : Fin 1) k) = m ((c : Thread nD τ).loc main_arg1) (ix1 k) := by
  have e : V m c main_v0 = shapeCast S1x2048 (m ((c : Thread nD τ).loc main_arg1)) shapeCasts_S2048_S1x2048 := by
    unfold V hostOps0
    after_results
    rfl
  rw [e]
  exact shapeCast_a_1a_apply _ _ 0 k

/-- The rows' block at point `t`. -/
theorem rows_apply (c : Dev nD) (t : Fin cfg0.N) (p : Fin 1024) (k : Fin 2048) (h : 1024 * (t.val / 11) + p.val < 8192) :
    (iblk m c 0 t : Vec Ideal S1024x2048 .f32) (ix2 p k) = m ((c : Thread nD τ).loc main_arg0) (ix2 ⟨1024 * (t.val / 11) + p.val, h⟩ k) := by
  obtain ⟨h0, h1, -⟩ := index_facts t
  unfold iblk
  rw [View.read_apply]
  show V m c main_arg0 _ = _
  rw [V_main_arg0]
  refine congrArg _ (funext fun a => Fin.ext ?_)
  match a with
  | ⟨0, _⟩ => show win0_0.index t 0 * 1024 + 1 * p.val = 1024 * (t.val / 11) + p.val; rw [h0]; omega
  | ⟨1, _⟩ => show win0_0.index t 1 * 2048 + 1 * k.val = k.val; rw [h1]; omega

/-- The gain's block at point `t`. -/
theorem gain_apply (c : Dev nD) (t : Fin cfg0.N) (k : Fin 2048) :
    (iblk m c 1 t : Vec Ideal S1x2048 .f32) (ix2 (0 : Fin 1) k) = m ((c : Thread nD τ).loc main_arg1) (ix1 k) := by
  obtain ⟨-, -, h0, h1, -⟩ := index_facts t
  rw [← gain_eq m c k]
  unfold iblk
  rw [View.read_apply]
  show V m c main_v0 _ = _
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega

/-- The gate weight's block at point `t`. -/
theorem gate_apply (c : Dev nD) (t : Fin cfg0.N) (k : Fin 2048) (f : Fin 512) (h : 512 * (t.val % 11) + f.val < 5632) :
    (iblk m c 2 t : Vec Ideal S1x2048x512 .bf16) (ix3 (0 : Fin 1) k f) = m ((c : Thread nD τ).loc main_arg2) (ix3 (0 : Fin 1) k ⟨512 * (t.val % 11) + f.val, h⟩) := by
  obtain ⟨-, -, -, -, h0, h1, h2, -⟩ := index_facts t
  unfold iblk
  rw [View.read_apply]
  show V m c main_arg2 _ = _
  rw [V_main_arg2]
  refine congrArg _ (funext fun a => Fin.ext ?_)
  match a with
  | ⟨0, _⟩ => show win0_2.index t 0 * 1 + 1 * 0 = 0; rw [h0]
  | ⟨1, _⟩ => show win0_2.index t 1 * 2048 + 1 * k.val = k.val; rw [h1]; omega
  | ⟨2, _⟩ => show win0_2.index t 2 * 512 + 1 * f.val = 512 * (t.val % 11) + f.val; rw [h2]; omega

/-- The up weight's block at point `t`. -/
theorem up_apply (c : Dev nD) (t : Fin cfg0.N) (k : Fin 2048) (f : Fin 512) (h : 512 * (t.val % 11) + f.val < 5632) :
    (iblk m c 3 t : Vec Ideal S1x2048x512 .bf16) (ix3 (0 : Fin 1) k f) = m ((c : Thread nD τ).loc main_arg3) (ix3 (0 : Fin 1) k ⟨512 * (t.val % 11) + f.val, h⟩) := by
  obtain ⟨-, -, -, -, -, -, -, h0, h1, h2, -⟩ := index_facts t
  unfold iblk
  rw [View.read_apply]
  show V m c main_arg3 _ = _
  rw [V_main_arg3]
  refine congrArg _ (funext fun a => Fin.ext ?_)
  match a with
  | ⟨0, _⟩ => show win0_3.index t 0 * 1 + 1 * 0 = 0; rw [h0]
  | ⟨1, _⟩ => show win0_3.index t 1 * 2048 + 1 * k.val = k.val; rw [h1]; omega
  | ⟨2, _⟩ => show win0_3.index t 2 * 512 + 1 * f.val = 512 * (t.val % 11) + f.val; rw [h2]; omega

/-- The down weight's block at point `t`. -/
theorem down_apply (c : Dev nD) (t : Fin cfg0.N) (f : Fin 512) (d : Fin 2048) (h : 512 * (t.val % 11) + f.val < 5632) :
    (iblk m c 4 t : Vec Ideal S1x512x2048 .bf16) (ix3 (0 : Fin 1) f d) = m ((c : Thread nD τ).loc main_arg4) (ix3 (0 : Fin 1) ⟨512 * (t.val % 11) + f.val, h⟩ d) := by
  obtain ⟨-, -, -, -, -, -, -, -, -, -, h0, h1, h2⟩ := index_facts t
  unfold iblk
  rw [View.read_apply]
  show V m c main_arg4 _ = _
  rw [V_main_arg4]
  refine congrArg _ (funext fun a => Fin.ext ?_)
  match a with
  | ⟨0, _⟩ => show win0_4.index t 0 * 1 + 1 * 0 = 0; rw [h0]
  | ⟨1, _⟩ => show win0_4.index t 1 * 512 + 1 * f.val = 512 * (t.val % 11) + f.val; rw [h1]; omega
  | ⟨2, _⟩ => show win0_4.index t 2 * 2048 + 1 * d.val = d.val; rw [h2]; omega

end Cert.FfnIdeal.Closed

end
-- ==== Proof.FfnValue.lean ====
/-
  The feed-forward kernel's result: the running block after each hidden tile is a partial sum over the hidden columns,
  so the result array is the host's residual plus the full product; the two sides of the value claim meet here.
-/
module

public import proofs.«01_k».proof.Proof.FfnTile
public import proofs.«01_k».proof.Proof.Gen.FfnRefIdeal.Read

@[expose] public section

set_option maxRecDepth 16384

noncomputable section

namespace Cert.FfnIdeal.Closed

open Cert.FfnIdeal Cert.FfnIdeal.Gen Cert.FfnIdeal.Value Cert.Common
open Idealize.ShloMosaic Idealize.ShloMosaic.TcCoe Idealize.ShloMosaic.ValueIdx Idealize.SL.Sem
open scoped BigOperators

section Spec

variable (x : FVec Ideal S8192x2048 .f32) (g : FVec Ideal S2048 .f32) (wg wu : FVec Ideal S1x2048x5632 .bf16) (wd : FVec Ideal S1x5632x2048 .bf16)

/-- Row `r` normalized. -/
def rowN (r : Fin 8192) (k : Fin 2048) : EReal := normed (fun q => x (ix2 r q)) (fun q => g (ix1 q)) k

/-- The summand of hidden column `f` in the result at row `r` and column `d`; zero past the last column. -/
def part (r : Fin 8192) (d : Fin 2048) (f : ℕ) : EReal :=
  if h : f < 5632 then
    hiddenUnit (rowN x g r) (fun k => wg (ix3 (0 : Fin 1) k ⟨f, h⟩)) (fun k => wu (ix3 (0 : Fin 1) k ⟨f, h⟩)) * wd (ix3 (0 : Fin 1) ⟨f, h⟩ d)
  else 0

/-- The result at row `r` and column `d`: the input plus the sum over all hidden columns. -/
def result (r : Fin 8192) (d : Fin 2048) : EReal := x (ix2 r d) + ∑ f ∈ Finset.range 5632, part x g wg wu wd r d f

end Spec

variable (m : (ℓ : Loc nD τ sig) → Buf (Elt Ideal) ℓ)

/-- The arrays the launch finds, by their own types. -/
abbrev aX (c : Dev nD) : FVec Ideal S8192x2048 .f32 := m ((c : Thread nD τ).loc main_arg0)
abbrev aG (c : Dev nD) : FVec Ideal S2048 .f32 := m ((c : Thread nD τ).loc main_arg1)
abbrev aWg (c : Dev nD) : FVec Ideal S1x2048x5632 .bf16 := m ((c : Thread nD τ).loc main_arg2)
abbrev aWu (c : Dev nD) : FVec Ideal S1x2048x5632 .bf16 := m ((c : Thread nD τ).loc main_arg3)
abbrev aWd (c : Dev nD) : FVec Ideal S1x5632x2048 .bf16 := m ((c : Thread nD τ).loc main_arg4)

/-- The part of the result's summands that tile `t % 11` contributes, read off the point's blocks. -/
theorem tile_sum (c : Dev nD) (t : Fin cfg0.N) (r : Fin 8192) (y : Fin 2048 → EReal) (hy : y = rowN (aX m c) (aG m c) r) (d : Fin 2048) :
    ∑ f : Fin 512, hiddenUnit y (fun k => (iblk m c 2 t : Vec Ideal S1x2048x512 .bf16) (ix3 (0 : Fin 1) k f))
        (fun k => (iblk m c 3 t : Vec Ideal S1x2048x512 .bf16) (ix3 (0 : Fin 1) k f)) * (iblk m c 4 t : Vec Ideal S1x512x2048 .bf16) (ix3 (0 : Fin 1) f d)
      = ∑ f ∈ Finset.range 512, part (aX m c) (aG m c) (aWg m c) (aWu m c) (aWd m c) r d (512 * (t.val % 11) + f) := by
  rw [Finset.sum_range]
  refine Finset.sum_congr rfl fun f _ => ?_
  have hf : 512 * (t.val % 11) + f.val < 5632 := by have := f.isLt; omega
  unfold part
  rw [dif_pos hf, hy, down_apply m c t f d hf]
  congr 2
  · funext k; exact gate_apply m c t k f hf
  · funext k; exact up_apply m c t k f hf

/-- After point `n` the output block holds, at `(p, d)`, the input plus the sum over the hidden columns met so far in this row
    block, and the scratch holds the normalized rows. -/
theorem fold_apply (c : Dev nD) : ∀ (n : ℕ) (hn : 0 + n < cfg0.N) (p : Fin 1024) (r : Fin 8192), r.val = 1024 * (n / 11) + p.val →
    (∀ d : Fin 2048, (Pipeline.accAt (fun n h => stAt0 m c n h junk0) (stAt0 m c) 0 n hn).1 (ix2 p d)
      = aX m c (ix2 r d) + ∑ f ∈ Finset.range (512 * (n % 11) + 512), part (aX m c) (aG m c) (aWg m c) (aWu m c) (aWd m c) r d f)
    ∧ (∀ k : Fin 2048, (Pipeline.accAt (fun n h => stAt0 m c n h junk0) (stAt0 m c) 0 n hn).2 (ix2 p k) = rowN (aX m c) (aG m c) r k) := by
  have first : ∀ (n : ℕ) (hn : n < cfg0.N) (acc : Vec Ideal S1024x2048 .f32 × Vec Ideal S1024x2048 .bf16), n % 11 = 0 → ∀ (p : Fin 1024) (r : Fin 8192), r.val = 1024 * (n / 11) + p.val →
      (∀ d : Fin 2048, (stAt0 m c n hn acc).1 (ix2 p d)
        = aX m c (ix2 r d) + ∑ f ∈ Finset.range (512 * (n % 11) + 512), part (aX m c) (aG m c) (aWg m c) (aWu m c) (aWd m c) r d f)
      ∧ (∀ k : Fin 2048, (stAt0 m c n hn acc).2 (ix2 p k) = rowN (aX m c) (aG m c) r k) := by
    intro n hn acc h p r hr
    have hlt := r.isLt
    have hN : n < 88 := lt_of_lt_of_eq hn (show cfg0.N = 88 from N_0)
    have er : (⟨1024 * (n / 11) + p.val, by omega⟩ : Fin 8192) = r := Fin.ext hr.symm
    have ex : ∀ q : Fin 2048, (iblk m c 0 ⟨n, hn⟩ : Vec Ideal S1024x2048 .f32) (ix2 p q) = aX m c (ix2 r q) := fun q => by
      rw [← er]; exact rows_apply m c ⟨n, hn⟩ p q _
    have ey : ∀ k : Fin 2048, k0_pay1 (F := Ideal) (iblk m c 0 ⟨n, hn⟩) (iblk m c 1 ⟨n, hn⟩) (ix2 p k) = rowN (aX m c) (aG m c) r k := fun k => by
      rw [pay1_apply]
      unfold rowN
      congr 1
      · funext q; exact ex q
      · funext q; exact gain_apply m c ⟨n, hn⟩ q
    have e := step_first m c ⟨n, hn⟩ acc h
    dsimp only at e
    rw [e]
    refine ⟨fun d => ?_, ey⟩
    dsimp only
    rw [pay2_apply, ex d, tile_sum m c ⟨n, hn⟩ r _ (funext ey) d]
    dsimp only
    rw [h]
    simp only [Nat.mul_zero, Nat.zero_add]
  intro n
  induction n with
  | zero => intro hn p r hr; exact first 0 _ _ (Nat.zero_mod _) p r hr
  | succ n ih =>
    intro hn p r hr
    have hn' : n + 1 < cfg0.N := by omega
    have es : Pipeline.accAt (fun n h => stAt0 m c n h junk0) (stAt0 m c) 0 (n + 1) hn
        = stAt0 m c (n + 1) hn' (Pipeline.accAt (fun n h => stAt0 m c n h junk0) (stAt0 m c) 0 n (by omega)) := by
      rw [Pipeline.accAt_succ]
      congr 1
      omega
    rw [es]
    by_cases h : (n + 1) % 11 = 0
    · exact first (n + 1) hn' _ h p r hr
    · obtain ⟨i1, i2⟩ := ih (by omega) p r (by omega)
      have e := step_later m c ⟨n + 1, hn'⟩ (Pipeline.accAt (fun n h => stAt0 m c n h junk0) (stAt0 m c) 0 n (by omega)) h
      dsimp only at e
      rw [e]
      refine ⟨fun d => ?_, i2⟩
      dsimp only
      rw [pay3_apply, i1 d, tile_sum m c ⟨n + 1, hn'⟩ r _ (funext i2) d, add_assoc]
      dsimp only
      rw [show 512 * (n % 11) + 512 = 512 * ((n + 1) % 11) from by omega, Finset.sum_range_add]

/-- The kernel's result array at row `r`, column `d`. -/
theorem kernel_apply (c : Dev nD) (r : Fin 8192) (d : Fin 2048) :
    G5 m c (ix2 r d) = result (aX m c) (aG m c) (aWg m c) (aWu m c) (aWd m c) r d := by
  have hr := r.isLt
  have hd := d.isLt
  have hp : pt5Of (ix2 r d) = 11 * (r.val / 1024) + 10 := by
    show 11 * (1 * (r.val / 1024 - 0) + 1 * (d.val / 2048 - 0)) + 10 = _
    omega
  have hl : loc5Of (ix2 r d) = ix2 (⟨r.val % 1024, Nat.mod_lt _ (by decide)⟩ : Fin 1024) d := by
    funext a; apply Fin.ext
    match a with
    | ⟨0, _⟩ => rfl
    | ⟨1, _⟩ => show d.val % 2048 = d.val; omega
  have hlt : pt5Of (ix2 r d) < cfg0.N := by rw [hp, show cfg0.N = 88 from N_0]; omega
  unfold G5
  rw [dif_pos hlt, hl, (fold_apply m c _ _ _ r (by rw [hp]; dsimp only; omega)).1 d]
  unfold result
  rw [show 512 * (pt5Of (ix2 r d) % 11) + 512 = 5632 from by rw [hp]; omega]

end Cert.FfnIdeal.Closed

/-! ## The reference, read at one index -/

namespace Cert.FfnRefIdeal.Closed

open Cert.FfnRefIdeal Cert.FfnRefIdeal.Gen Cert.FfnRefIdeal.Read Cert.FfnIdeal.Closed Cert.Common
open Idealize.ShloMosaic Idealize.ShloMosaic.TcCoe Idealize.ShloMosaic.ValueIdx Idealize.SL.Sem
open scoped BigOperators

variable (x : FVec Ideal S8192x2048 .f32) (g : FVec Ideal S2048 .f32) (wg wu : FVec Ideal S1x2048x5632 .bf16) (wd : FVec Ideal S1x5632x2048 .bf16)

/-- The reference's normalized row. -/
theorem norm_apply (r : Fin 8192) (k : Fin 2048) : val_main_v12 (F := Ideal) x g (ix2 r k) = rowN x g r k := by
  rw [val_main_v12_apply, val_main_v9_apply, val_main_v8_apply, val_main_v7_apply, val_main_v6_apply, val_main_v4_apply, val_main_v2_apply,
    val_main_v1_apply, val_main_v3_apply, val_main_v5_apply, val_main_cst_0_apply, val_main_cst_1_apply, val_main_cst_apply, val_main_v11_apply, val_main_v10_apply]
  simp only [val_main_v0_apply]
  unfold rowN normed
  have ei : ∀ q : Fin 2048, idx_main_v1 (idx_main_v2 (idx_main_v8 (ix2 r k))) q = ix2 r q := fun q => eq_ix2 _
  have eg : idx_main_v10 (idx_main_v11 (ix2 r k)) = ix1 k := eq_ix1 _
  simp only [ei, eg]
  show _ * Ideal.rsqrt (Ideal.div (Ideal.ofBits .f32 0x00000000#32 + _) _ + _) * _ = _
  rw [Ideal.ofBits_zero_f32, zero_add]
  rfl

/-- The reference's hidden unit at row `r` and hidden column `f`. -/
theorem hid_apply (r : Fin 8192) (f : Fin 5632) : val_main_v20 (F := Ideal) x g wg wu (ix2 r f)
    = hiddenUnit (rowN x g r) (fun k => wg (ix3 (0 : Fin 1) k f)) (fun k => wu (ix3 (0 : Fin 1) k f)) := by
  have e15 : val_main_v15 (F := Ideal) x g wg (ix2 r f) = ∑ k : Fin 2048, rowN x g r k * wg (ix3 (0 : Fin 1) k f) := by
    rw [val_main_v15_apply]
    refine Finset.sum_congr rfl fun k _ => congrArg₂ (· * ·) ?_ ?_
    · exact (congrArg _ (eq_ix2 _)).trans (norm_apply x g r k)
    · rw [val_main_v14_apply, val_main_v13_apply]
      refine congrArg wg (funext fun a => Fin.ext ?_)
      have hk := k.isLt
      have hf := f.isLt
      match a with
      | ⟨0, _⟩ => rfl
      | ⟨1, _⟩ => show (k.val * 5632 + f.val) / 5632 % 2048 = k.val; omega
      | ⟨2, _⟩ => show (k.val * 5632 + f.val) % 5632 = f.val; omega
  have e19 : val_main_v19 (F := Ideal) x g wu (ix2 r f) = ∑ k : Fin 2048, rowN x g r k * wu (ix3 (0 : Fin 1) k f) := by
    rw [val_main_v19_apply]
    refine Finset.sum_congr rfl fun k _ => congrArg₂ (· * ·) ?_ ?_
    · exact (congrArg _ (eq_ix2 _)).trans (norm_apply x g r k)
    · rw [val_main_v18_apply, val_main_v17_apply]
      refine congrArg wu (funext fun a => Fin.ext ?_)
      have hk := k.isLt
      have hf := f.isLt
      match a with
      | ⟨0, _⟩ => rfl
      | ⟨1, _⟩ => show (k.val * 5632 + f.val) / 5632 % 2048 = k.val; omega
      | ⟨2, _⟩ => show (k.val * 5632 + f.val) % 5632 = f.val; omega
  rw [val_main_v20_apply, val_main_v16_apply, val_main_call0_v5_apply, val_main_call0_v4_apply, val_main_call0_v3_apply, val_main_call0_v2_apply,
    val_main_call0_v1_apply, val_main_call0_v0_apply, val_main_call0_cst_apply, val_main_call0_cst_0_apply, e15, e19]
  unfold hiddenUnit Ideal.logistic
  rw [← Common.one_f32]
  rfl

/-- The reference's result at row `r`, column `d`. -/
theorem reference_apply (r : Fin 8192) (d : Fin 2048) : val_main_v24 (F := Ideal) x g wg wu wd (ix2 r d) = result x g wg wu wd r d := by
  rw [val_main_v24_apply, val_main_v23_apply]
  unfold result
  rw [Finset.sum_range]
  refine congrArg (x (ix2 r d) + ·) (Finset.sum_congr rfl fun f _ => ?_)
  have hf := f.isLt
  have hd := d.isLt
  unfold part
  rw [dif_pos f.isLt]
  refine congrArg₂ (· * ·) ?_ ?_
  · exact (congrArg _ (eq_ix2 _)).trans (hid_apply x g wg wu r f)
  · rw [val_main_v22_apply, val_main_v21_apply]
    refine congrArg wd (funext fun a => Fin.ext ?_)
    match a with
    | ⟨0, _⟩ => rfl
    | ⟨1, _⟩ => show (f.val * 2048 + d.val) / 2048 % 5632 = f.val; omega
    | ⟨2, _⟩ => show (f.val * 2048 + d.val) % 2048 = d.val; omega

end Cert.FfnRefIdeal.Closed

end
-- ==== Proof.InprojPoint.lean ====
/-
  The input projection's body at one grid point: what it leaves in the four output blocks and in the carried rows.
-/
module

public import proofs.«01_k».proof.Proof.Common
public import proofs.«01_k».proof.Proof.Gen.InprojIdeal.Value
public import Idealize.ShloMosaic.Lib.Tactic

@[expose] public section

set_option maxRecDepth 16384

noncomputable section

namespace Cert.InprojIdeal.Closed

open Cert.InprojIdeal Cert.InprojIdeal.Gen Cert.InprojIdeal.Value Cert.Common
open Idealize.ShloMosaic Idealize.ShloMosaic.TcCoe Idealize.ShloMosaic.ValueIdx Idealize.SL.Sem
open scoped BigOperators

variable (m : (ℓ : Loc nD τ sig) → Buf (Elt Ideal) ℓ)

set_option maxHeartbeats 1000000 in
/-- At the first column block of a row block the body normalizes the rows into the scratch; it stores the rows' product and the three cast weight blocks. -/
theorem step_first (c : Dev nD) (t : Fin cfg0.N) (h : t.val % 6 = 0) :
    outsAt0 m c t.val t.isLt =
      (k0_pay5 (F := Ideal) (k0_pay4 (F := Ideal) (iblk m c 0 t) (iblk m c 1 t)) (iblk m c 2 t),
        k0_pay1 (F := Ideal) (iblk m c 3 t), k0_pay2 (F := Ideal) (iblk m c 4 t), k0_pay3 (F := Ideal) (iblk m c 5 t), (k0_pay4 (F := Ideal) (iblk m c 0 t) (iblk m c 1 t))) := by
  rw [outsAt0_A m c t h]
  refine Prod.ext ?_ (Prod.ext ?_ (Prod.ext ?_ (Prod.ext ?_ ?_)))
  · dsimp only
    unfold out0_A_6
    rw [View.read_writes_eq_canon _ _ _ (fun y => cover0_A_6 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · dsimp only
    unfold out0_A_7
    rw [View.read_writes_eq_canon _ _ _ (fun y => cover0_A_7 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · dsimp only
    unfold out0_A_8
    rw [View.read_writes_eq_canon _ _ _ (fun y => cover0_A_8 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · dsimp only
    unfold out0_A_9
    rw [View.read_writes_eq_canon _ _ _ (fun y => cover0_A_9 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · dsimp only
    unfold sout0_A_0
    rw [View.read_writes_eq_canon _ _ _ (fun y => scover0_A_0 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]

set_option maxHeartbeats 1000000 in
/-- At a later column block the body multiplies the rows kept in the scratch; it stores their product and the three cast weight blocks. -/
theorem step_later (c : Dev nD) (t : Fin cfg0.N) (h : ¬t.val % 6 = 0) :
    outsAt0 m c t.val t.isLt =
      (k0_pay5 (F := Ideal) (outsAt0 m c (t.val - 1) (Nat.lt_of_le_of_lt (Nat.sub_le _ _) t.isLt)).2.2.2.2 (iblk m c 2 t),
        k0_pay1 (F := Ideal) (iblk m c 3 t), k0_pay2 (F := Ideal) (iblk m c 4 t), k0_pay3 (F := Ideal) (iblk m c 5 t), (outsAt0 m c (t.val - 1) (Nat.lt_of_le_of_lt (Nat.sub_le _ _) t.isLt)).2.2.2.2) := by
  rw [outsAt0_B m c t h]
  refine Prod.ext ?_ (Prod.ext ?_ (Prod.ext ?_ (Prod.ext ?_ ?_)))
  · dsimp only
    unfold out0_B_6
    rw [View.read_writes_eq_canon _ _ _ (fun y => cover0_B_6 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · dsimp only
    unfold out0_B_7
    rw [View.read_writes_eq_canon _ _ _ (fun y => cover0_B_7 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · dsimp only
    unfold out0_B_8
    rw [View.read_writes_eq_canon _ _ _ (fun y => cover0_B_8 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · dsimp only
    unfold out0_B_9
    rw [View.read_writes_eq_canon _ _ _ (fun y => cover0_B_9 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      (Memref.isWhole_whole (b := _)).read_unread, View.readCov_unit_zero (S := S1024x2048) _ zero2, View.ld_unit_zero (S := S1024x2048) zero2, View.ld_unit_zero (S := S1x2048) zero2,
      View.ld_unit_zero (S := S1x2048x1024) zero3, View.ld_unit_zero (S := S1x64x5632) zero3, View.ld_unit_zero (S := S1x128x2048) zero3]
  · rfl

end Cert.InprojIdeal.Closed

end
-- ==== Proof.InprojValue.lean ====
/-
  The input projection: the kernel's first result is the normalized rows times the weight, the three others are layer 0 of the
  feed-forward weights; the reference gives the same four arrays.
-/
module

public import proofs.«01_k».proof.Proof.InprojPoint
public import proofs.«01_k».proof.Proof.Gen.InprojRefIdeal.Read

@[expose] public section

set_option maxRecDepth 16384

noncomputable section

namespace Cert.InprojIdeal.Closed

open Cert.InprojIdeal Cert.InprojIdeal.Gen Cert.InprojIdeal.Value Cert.Common
open Idealize.ShloMosaic Idealize.ShloMosaic.TcCoe Idealize.ShloMosaic.ValueIdx Idealize.SL.Sem
open scoped BigOperators

/-- Entry `k` of the normalized row `r`. -/
def rowN (x : FVec Ideal S8192x2048 .f32) (g : FVec Ideal S2048 .f32) (r : Fin 8192) (k : Fin 2048) : EReal :=
  normed (fun q => x (ix2 r q)) (fun q => g (ix1 q)) k

/-- The first result at row `r`, column `d`: the normalized row times the weight's column. -/
def result (x : FVec Ideal S8192x2048 .f32) (g : FVec Ideal S2048 .f32) (w : FVec Ideal S1x2048x6144 .f32) (r : Fin 8192) (d : Fin 6144) : EReal :=
  ∑ k : Fin 2048, rowN x g r k * w (ix3 (0 : Fin 1) k d)

/-- The rows the first column block stores are the normalized rows. -/
theorem pay4_apply (x : FVec Ideal S1024x2048 .f32) (g : FVec Ideal S1x2048 .f32) (p : Fin 1024) (k : Fin 2048) :
    k0_pay4 (F := Ideal) x g (ix2 p k) = normed (fun q => x (ix2 p q)) (fun q => g (ix2 (0 : Fin 1) q)) k := by
  unfold k0_pay4 normed
  dsimp only
  rw [shapeCast_self, shapeCast_self, truncf_apply, mulf_apply, mulf_apply]
  refine congrArg₂ (· * ·) (congrArg (x (ix2 p k) * ·) ?_) (broadcastTo_1b_ab_apply _ _ p k)
  refine (column_apply _ _ p k).trans ?_
  show Ideal.rsqrt (Ideal.div (shapeCast S1024x1 _ _ (ix2 p (0 : Fin 1))) _ + _) = _
  refine congrArg (fun z => Ideal.rsqrt (Ideal.div z _ + _)) ?_
  refine (shapeCast_a_a1_apply _ _ p 0).trans ?_
  exact rowSum_apply _ _ _ _ _ p

/-- The stored product at one index. -/
theorem pay5_apply (y : FVec Ideal S1024x2048 .bf16) (w : FVec Ideal S1x2048x1024 .bf16) (p : Fin 1024) (d : Fin 1024) :
    k0_pay5 (F := Ideal) y w (ix2 p d) = ∑ k : Fin 2048, y (ix2 p k) * w (ix3 (0 : Fin 1) k d) := by
  unfold k0_pay5
  rw [truncf_apply]
  exact (matmul0_apply none y _ p d).trans (Finset.sum_congr rfl fun k _ => by rw [shapeCast_1ab_ab_apply])

variable (m : (ℓ : Loc nD τ sig) → Buf (Elt Ideal) ℓ)

/-- The grid point's block numbers: row block `t / 6`, column block `t % 6`. -/
theorem index_facts : ∀ t : Fin cfg0.N, win0_0.index t (0 : Fin 2) = t.val / 6 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 6
    ∧ win0_6.index t (0 : Fin 2) = t.val / 6 ∧ win0_6.index t (1 : Fin 2) = t.val % 6 :=
  (by decide +kernel : ∀ t : Fin grid0.N, _)

/-- The gain the kernel reads is the argument laid out as one row. -/
theorem gain_eq (c : Dev nD) (k : Fin 2048) : V m c main_v1 (ix2 (0 : Fin 1) k) = m ((c : Thread nD τ).loc main_arg1) (ix1 k) := by
  have e : V m c main_v1 = shapeCast S1x2048 (m ((c : Thread nD τ).loc main_arg1)) shapeCasts_S2048_S1x2048 := by
    unfold V hostOps0
    after_results
    rfl
  rw [e]
  exact shapeCast_a_1a_apply _ _ 0 k

/-- The weight the kernel reads is the argument. -/
theorem weight_eq (c : Dev nD) (i : S1x2048x6144.Idx) : V m c main_v0 i = m ((c : Thread nD τ).loc main_arg2) i := by
  have e : V m c main_v0 = (truncf (F := Ideal) .bf16 (m ((c : Thread nD τ).loc main_arg2)) bitsLt_bf16_f32 : FVec Ideal S1x2048x6144 .bf16) := by
    unfold V hostOps0
    after_results
  rw [e]
  rfl

/-- The rows' block at point `t`. -/
theorem rows_apply (c : Dev nD) (t : Fin cfg0.N) (p : Fin 1024) (k : Fin 2048) (h : 1024 * (t.val / 6) + p.val < 8192) :
    (iblk m c 0 t : Vec Ideal S1024x2048 .f32) (ix2 p k) = m ((c : Thread nD τ).loc main_arg0) (ix2 ⟨1024 * (t.val / 6) + p.val, h⟩ k) := by
  obtain ⟨h0, h1, -⟩ := index_facts t
  unfold iblk
  rw [View.read_apply]
  show V m c main_arg0 _ = _
  rw [V_main_arg0]
  refine congrArg _ (funext fun a => Fin.ext ?_)
  match a with
  | ⟨0, _⟩ => show win0_0.index t 0 * 1024 + 1 * p.val = 1024 * (t.val / 6) + p.val; rw [h0]; omega
  | ⟨1, _⟩ => show win0_0.index t 1 * 2048 + 1 * k.val = k.val; rw [h1]; omega

/-- The gain's block at point `t`. -/
theorem gain_apply (c : Dev nD) (t : Fin cfg0.N) (k : Fin 2048) :
    (iblk m c 1 t : Vec Ideal S1x2048 .f32) (ix2 (0 : Fin 1) k) = m ((c : Thread nD τ).loc main_arg1) (ix1 k) := by
  obtain ⟨-, -, h0, h1, -⟩ := index_facts t
  rw [← gain_eq m c k]
  unfold iblk
  rw [View.read_apply]
  show V m c main_v1 _ = _
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega

/-- The weight's block at point `t`. -/
theorem weight_apply (c : Dev nD) (t : Fin cfg0.N) (k : Fin 2048) (d : Fin 1024) (h : 1024 * (t.val % 6) + d.val < 6144) :
    (iblk m c 2 t : Vec Ideal S1x2048x1024 .bf16) (ix3 (0 : Fin 1) k d) = m ((c : Thread nD τ).loc main_arg2) (ix3 (0 : Fin 1) k ⟨1024 * (t.val % 6) + d.val, h⟩) := by
  obtain ⟨-, -, -, -, h0, h1, h2, -⟩ := index_facts t
  unfold iblk
  rw [View.read_apply]
  show V m c main_v0 _ = _
  rw [weight_eq]
  refine congrArg _ (funext fun a => Fin.ext ?_)
  match a with
  | ⟨0, _⟩ => show win0_2.index t 0 * 1 + 1 * 0 = 0; rw [h0]
  | ⟨1, _⟩ => show win0_2.index t 1 * 2048 + 1 * k.val = k.val; rw [h1]; omega
  | ⟨2, _⟩ => show win0_2.index t 2 * 1024 + 1 * d.val = 1024 * (t.val % 6) + d.val; rw [h2]; omega

/-- What the body leaves at point `t`, whatever the case, from the rows in its scratch. -/
theorem point (c : Dev nD) (t : Fin cfg0.N) :
    outsAt0 m c t.val t.isLt =
      (k0_pay5 (F := Ideal) (outsAt0 m c t.val t.isLt).2.2.2.2 (iblk m c 2 t),
        k0_pay1 (F := Ideal) (iblk m c 3 t), k0_pay2 (F := Ideal) (iblk m c 4 t), k0_pay3 (F := Ideal) (iblk m c 5 t), (outsAt0 m c t.val t.isLt).2.2.2.2) := by
  by_cases h : t.val % 6 = 0
  · rw [step_first m c t h]
  · rw [step_later m c t h]

/-- After point `n` the scratch holds the normalized rows of the point's row block. -/
theorem scratch_apply (c : Dev nD) : ∀ (n : ℕ) (hn : n < cfg0.N) (p : Fin 1024) (r : Fin 8192), r.val = 1024 * (n / 6) + p.val → ∀ k : Fin 2048,
    (outsAt0 m c n hn).2.2.2.2 (ix2 p k) = rowN (m ((c : Thread nD τ).loc main_arg0)) (m ((c : Thread nD τ).loc main_arg1)) r k := by
  have first : ∀ (n : ℕ) (hn : n < cfg0.N), n % 6 = 0 → ∀ (p : Fin 1024) (r : Fin 8192), r.val = 1024 * (n / 6) + p.val → ∀ k : Fin 2048,
      (outsAt0 m c n hn).2.2.2.2 (ix2 p k) = rowN (m ((c : Thread nD τ).loc main_arg0)) (m ((c : Thread nD τ).loc main_arg1)) r k := by
    intro n hn h p r hr k
    have hlt := r.isLt
    have er : (⟨1024 * (n / 6) + p.val, by omega⟩ : Fin 8192) = r := Fin.ext hr.symm
    have e := step_first m c ⟨n, hn⟩ h
    dsimp only at e
    rw [e]
    dsimp only
    rw [pay4_apply]
    unfold rowN
    congr 1
    · funext q; rw [← er]; exact rows_apply m c ⟨n, hn⟩ p q _
    · funext q; exact gain_apply m c ⟨n, hn⟩ q
  intro n
  induction n with
  | zero => intro hn p r hr; exact first 0 hn (Nat.zero_mod _) p r hr
  | succ n ih =>
    intro hn p r hr k
    by_cases h : (n + 1) % 6 = 0
    · exact first (n + 1) hn h p r hr k
    · have e := step_later m c ⟨n + 1, hn⟩ h
      dsimp only at e
      rw [e]
      dsimp only
      exact ih (by omega) p r (by omega) k

/-- The first result array, by its two coordinates. -/
def outZ (c : Dev nD) : Buf (Elt Ideal) ((c : Thread nD τ).loc main_v2_0) := fun i =>
  result (m ((c : Thread nD τ).loc main_arg0)) (m ((c : Thread nD τ).loc main_arg1)) (m ((c : Thread nD τ).loc main_arg2)) (i 0) (i 1)

/-- What point `t` writes back to the first result is its block of it. -/
theorem flushed6_eq (c : Dev nD) (t : Fin cfg0.N) :
    (dats m 0 c).flushed 6 t = ((cfg0.win 6).blk t).view.read (Elt Ideal) (outZ m c) := by
  have hN : t.val < 48 := lt_of_lt_of_eq t.isLt (show cfg0.N = 48 from N_0)
  obtain ⟨-, -, -, -, -, -, -, h0, h1⟩ := index_facts t
  rw [flushed6, point m c t]
  funext y
  obtain ⟨p, d, rfl⟩ : ∃ (p : Fin 1024) (d : Fin 1024), y = ix2 p d := ⟨y 0, y 1, eq_ix2 y⟩
  have hp := p.isLt
  have hd := d.isLt
  have hr : 1024 * (t.val / 6) + p.val < 8192 := by omega
  have hc : 1024 * (t.val % 6) + d.val < 6144 := by omega
  rw [View.read_apply]
  have hb : ((cfg0.win 6).blk t).view.emb (ix2 p d) = ix2 (⟨1024 * (t.val / 6) + p.val, hr⟩ : Fin 8192) (⟨1024 * (t.val % 6) + d.val, hc⟩ : Fin 6144) := by
    funext a; apply Fin.ext
    match a with
    | ⟨0, _⟩ => show win0_6.index t 0 * 1024 + 1 * p.val = 1024 * (t.val / 6) + p.val; rw [h0]; omega
    | ⟨1, _⟩ => show win0_6.index t 1 * 1024 + 1 * d.val = 1024 * (t.val % 6) + d.val; rw [h1]; omega
  rw [hb]
  refine (pay5_apply _ _ p d).trans ?_
  unfold outZ result
  refine Finset.sum_congr rfl fun k _ => congrArg₂ (· * ·) ?_ ?_
  · exact scratch_apply m c t.val t.isLt p _ rfl k
  · exact weight_apply m c t k d hc

/-- The first result array after the run. -/
theorem final6 (c : Dev nD) : (dats m 0 c).arrAt 6 cfg0.N = outZ m c :=
  (dats m 0 c).arrAt_eq_of_cover 6 _ (fun t _ => flushed6_eq m c t) fun i => by
    have h0 : (i 0).val < 8192 := (i 0).isLt
    have h1 : (i 1).val < 6144 := (i 1).isLt
    have hN : cfg0.N = 48 := N_0
    obtain ⟨t, ht⟩ : ∃ t : Fin cfg0.N, t.val = 6 * ((i 0).val / 1024) + (i 1).val / 1024 := ⟨⟨6 * ((i 0).val / 1024) + (i 1).val / 1024, by rw [hN]; omega⟩, rfl⟩
    obtain ⟨-, -, -, -, -, -, -, e0, e1⟩ := index_facts t
    refine ⟨t, flush0_6 t, ?_⟩
    show i ∈ ((View.whole main_v2_0).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + 1024; rw [e0]; omega
    | ⟨1, _⟩ => show win0_6.index t 1 * 1024 ≤ (i 1 : Nat) ∧ (i 1 : Nat) < win0_6.index t 1 * 1024 + 1024; rw [e1]; omega

/-- The stored gate weight block at one index is the loaded block's entry. -/
theorem pay1_apply (x : FVec Ideal S1x64x5632 .f32) (p : Fin 64) (d : Fin 5632) : k0_pay1 (F := Ideal) x (ix2 p d) = x (ix3 (0 : Fin 1) p d) := by
  unfold k0_pay1
  rw [truncf_apply, shapeCast_1ab_ab_apply]

/-- The gate weight block is read and written at the same block row, which lies inside the array. -/
theorem index7 : ∀ t : Fin cfg0.N, win0_3.index t (0 : Fin 3) = 0 ∧ win0_3.index t (1 : Fin 3) = win0_7.index t (0 : Fin 2) ∧ win0_3.index t (2 : Fin 3) = 0
    ∧ win0_7.index t (0 : Fin 2) < 32 ∧ win0_7.index t (1 : Fin 2) = 0 :=
  (by decide +kernel : ∀ t : Fin grid0.N, _)

/-- Every block row of the gate weight array is written back at some grid point. -/
theorem reached7 : ∀ b : Fin 32, ∃ t : Fin cfg0.N, (cfg0.win 7).flush t = true ∧ win0_7.index t (0 : Fin 2) = b.val :=
  (by decide +kernel : ∀ b : Fin 32, ∃ t : Fin grid0.N, _)

/-- The gate weight array: layer 0 of the argument. -/
def outG (c : Dev nD) : Buf (Elt Ideal) ((c : Thread nD τ).loc main_v2_1) := fun i =>
  (m ((c : Thread nD τ).loc main_arg3) : FVec Ideal S2x2048x5632 .f32) (ix3 (0 : Fin 2) (i 0) (i 1))

/-- The gate weight block read at point `t`. -/
theorem block3_apply (c : Dev nD) (t : Fin cfg0.N) (p : Fin 64) (d : Fin 5632) (h : win0_7.index t (0 : Fin 2) * 64 + p.val < 2048) :
    (iblk m c 3 t : Vec Ideal S1x64x5632 .f32) (ix3 (0 : Fin 1) p d)
      = (m ((c : Thread nD τ).loc main_arg3) : FVec Ideal S2x2048x5632 .f32) (ix3 (0 : Fin 2) ⟨win0_7.index t (0 : Fin 2) * 64 + p.val, h⟩ d) := by
  obtain ⟨h0, h1, h2, -, -⟩ := index7 t
  unfold iblk
  rw [View.read_apply]
  show V m c main_arg3 _ = _
  rw [V_main_arg3]
  refine congrArg _ (funext fun a => Fin.ext ?_)
  match a with
  | ⟨0, _⟩ => show win0_3.index t 0 * 1 + 1 * 0 = 0; rw [h0]
  | ⟨1, _⟩ => show win0_3.index t 1 * 64 + 1 * p.val = win0_7.index t 0 * 64 + p.val; rw [h1]; omega
  | ⟨2, _⟩ => show win0_3.index t 2 * 5632 + 1 * d.val = d.val; rw [h2]; omega

/-- What point `t` writes back to the gate weight array is its block of layer 0. -/
theorem flushed7_eq (c : Dev nD) (t : Fin cfg0.N) :
    (dats m 0 c).flushed 7 t = ((cfg0.win 7).blk t).view.read (Elt Ideal) (outG m c) := by
  obtain ⟨-, -, -, hb, h1⟩ := index7 t
  rw [flushed7, point m c t]
  funext y
  obtain ⟨p, d, rfl⟩ : ∃ (p : Fin 64) (d : Fin 5632), y = ix2 p d := ⟨y 0, y 1, eq_ix2 y⟩
  have hp := p.isLt
  have hr : win0_7.index t (0 : Fin 2) * 64 + p.val < 2048 := by omega
  rw [View.read_apply]
  have he : ((cfg0.win 7).blk t).view.emb (ix2 p d) = ix2 (⟨win0_7.index t (0 : Fin 2) * 64 + p.val, hr⟩ : Fin 2048) d := by
    funext a; apply Fin.ext
    match a with
    | ⟨0, _⟩ => show win0_7.index t 0 * 64 + 1 * p.val = win0_7.index t 0 * 64 + p.val; omega
    | ⟨1, _⟩ => show win0_7.index t 1 * 5632 + 1 * d.val = d.val; rw [h1]; omega
  rw [he]
  exact (pay1_apply _ p d).trans (block3_apply m c t p d hr)

/-- The gate weight array after the run. -/
theorem final7 (c : Dev nD) : (dats m 0 c).arrAt 7 cfg0.N = outG m c :=
  (dats m 0 c).arrAt_eq_of_cover 7 _ (fun t _ => flushed7_eq m c t) fun i => by
    have h0 : (i 0).val < 2048 := (i 0).isLt
    have h1 : (i 1).val < 5632 := (i 1).isLt
    obtain ⟨t, hf, ht⟩ := reached7 ⟨(i 0).val / 64, by omega⟩
    obtain ⟨-, -, -, -, e1⟩ := index7 t
    refine ⟨t, hf, ?_⟩
    show i ∈ ((View.whole main_v2_1).slice (win0_7.rect t)).set
    rw [View.set_slice_whole, Rect.mem_set_unit]
    intro a
    match a with
    | ⟨0, _⟩ => show win0_7.index t 0 * 64 ≤ (i 0 : Nat) ∧ (i 0 : Nat) < win0_7.index t 0 * 64 + 64; rw [ht]; dsimp only; omega
    | ⟨1, _⟩ => show win0_7.index t 1 * 5632 ≤ (i 1 : Nat) ∧ (i 1 : Nat) < win0_7.index t 1 * 5632 + 5632; rw [e1]; omega

/-- The stored up weight block at one index is the loaded block's entry. -/
theorem pay2_apply (x : FVec Ideal S1x64x5632 .f32) (p : Fin 64) (d : Fin 5632) : k0_pay2 (F := Ideal) x (ix2 p d) = x (ix3 (0 : Fin 1) p d) := by
  unfold k0_pay2
  rw [truncf_apply, shapeCast_1ab_ab_apply]

/-- The up weight block is read and written at the same block row, which lies inside the array. -/
theorem index8 : ∀ t : Fin cfg0.N, win0_4.index t (0 : Fin 3) = 0 ∧ win0_4.index t (1 : Fin 3) = win0_8.index t (0 : Fin 2) ∧ win0_4.index t (2 : Fin 3) = 0
    ∧ win0_8.index t (0 : Fin 2) < 32 ∧ win0_8.index t (1 : Fin 2) = 0 :=
  (by decide +kernel : ∀ t : Fin grid0.N, _)

/-- Every block row of the up weight array is written back at some grid point. -/
theorem reached8 : ∀ b : Fin 32, ∃ t : Fin cfg0.N, (cfg0.win 8).flush t = true ∧ win0_8.index t (0 : Fin 2) = b.val :=
  (by decide +kernel : ∀ b : Fin 32, ∃ t : Fin grid0.N, _)

/-- The up weight array: layer 0 of the argument. -/
def outU (c : Dev nD) : Buf (Elt Ideal) ((c : Thread nD τ).loc main_v2_2) := fun i =>
  (m ((c : Thread nD τ).loc main_arg4) : FVec Ideal S2x2048x5632 .f32) (ix3 (0 : Fin 2) (i 0) (i 1))

/-- The up weight block read at point `t`. -/
theorem block4_apply (c : Dev nD) (t : Fin cfg0.N) (p : Fin 64) (d : Fin 5632) (h : win0_8.index t (0 : Fin 2) * 64 + p.val < 2048) :
    (iblk m c 4 t : Vec Ideal S1x64x5632 .f32) (ix3 (0 : Fin 1) p d)
      = (m ((c : Thread nD τ).loc main_arg4) : FVec Ideal S2x2048x5632 .f32) (ix3 (0 : Fin 2) ⟨win0_8.index t (0 : Fin 2) * 64 + p.val, h⟩ d) := by
  obtain ⟨h0, h1, h2, -, -⟩ := index8 t
  unfold iblk
  rw [View.read_apply]
  show V m c main_arg4 _ = _
  rw [V_main_arg4]
  refine congrArg _ (funext fun a => Fin.ext ?_)
  match a with
  | ⟨0, _⟩ => show win0_4.index t 0 * 1 + 1 * 0 = 0; rw [h0]
  | ⟨1, _⟩ => show win0_4.index t 1 * 64 + 1 * p.val = win0_8.index t 0 * 64 + p.val; rw [h1]; omega
  | ⟨2, _⟩ => show win0_4.index t 2 * 5632 + 1 * d.val = d.val; rw [h2]; omega

/-- What point `t` writes back to the up weight array is its block of layer 0. -/
theorem flushed8_eq (c : Dev nD) (t : Fin cfg0.N) :
    (dats m 0 c).flushed 8 t = ((cfg0.win 8).blk t).view.read (Elt Ideal) (outU m c) := by
  obtain ⟨-, -, -, hb, h1⟩ := index8 t
  rw [flushed8, point m c t]
  funext y
  obtain ⟨p, d, rfl⟩ : ∃ (p : Fin 64) (d : Fin 5632), y = ix2 p d := ⟨y 0, y 1, eq_ix2 y⟩
  have hp := p.isLt
  have hr : win0_8.index t (0 : Fin 2) * 64 + p.val < 2048 := by omega
  rw [View.read_apply]
  have he : ((cfg0.win 8).blk t).view.emb (ix2 p d) = ix2 (⟨win0_8.index t (0 : Fin 2) * 64 + p.val, hr⟩ : Fin 2048) d := by
    funext a; apply Fin.ext
    match a with
    | ⟨0, _⟩ => show win0_8.index t 0 * 64 + 1 * p.val = win0_8.index t 0 * 64 + p.val; omega
    | ⟨1, _⟩ => show win0_8.index t 1 * 5632 + 1 * d.val = d.val; rw [h1]; omega
  rw [he]
  exact (pay2_apply _ p d).trans (block4_apply m c t p d hr)

/-- The up weight array after the run. -/
theorem final8 (c : Dev nD) : (dats m 0 c).arrAt 8 cfg0.N = outU m c :=
  (dats m 0 c).arrAt_eq_of_cover 8 _ (fun t _ => flushed8_eq m c t) fun i => by
    have h0 : (i 0).val < 2048 := (i 0).isLt
    have h1 : (i 1).val < 5632 := (i 1).isLt
    obtain ⟨t, hf, ht⟩ := reached8 ⟨(i 0).val / 64, by omega⟩
    obtain ⟨-, -, -, -, e1⟩ := index8 t
    refine ⟨t, hf, ?_⟩
    show i ∈ ((View.whole main_v2_2).slice (win0_8.rect t)).set
    rw [View.set_slice_whole, Rect.mem_set_unit]
    intro a
    match a with
    | ⟨0, _⟩ => show win0_8.index t 0 * 64 ≤ (i 0 : Nat) ∧ (i 0 : Nat) < win0_8.index t 0 * 64 + 64; rw [ht]; dsimp only; omega
    | ⟨1, _⟩ => show win0_8.index t 1 * 5632 ≤ (i 1 : Nat) ∧ (i 1 : Nat) < win0_8.index t 1 * 5632 + 5632; rw [e1]; omega

/-- The stored down weight block at one index is the loaded block's entry. -/
theorem pay3_apply (x : FVec Ideal S1x128x2048 .f32) (p : Fin 128) (d : Fin 2048) : k0_pay3 (F := Ideal) x (ix2 p d) = x (ix3 (0 : Fin 1) p d) := by
  unfold k0_pay3
  rw [truncf_apply, shapeCast_1ab_ab_apply]

/-- The down weight block is read and written at the same block row, which lies inside the array. -/
theorem index9 : ∀ t : Fin cfg0.N, win0_5.index t (0 : Fin 3) = 0 ∧ win0_5.index t (1 : Fin 3) = win0_9.index t (0 : Fin 2) ∧ win0_5.index t (2 : Fin 3) = 0
    ∧ win0_9.index t (0 : Fin 2) < 44 ∧ win0_9.index t (1 : Fin 2) = 0 :=
  (by decide +kernel : ∀ t : Fin grid0.N, _)

/-- Every block row of the down weight array is written back at some grid point. -/
theorem reached9 : ∀ b : Fin 44, ∃ t : Fin cfg0.N, (cfg0.win 9).flush t = true ∧ win0_9.index t (0 : Fin 2) = b.val :=
  (by decide +kernel : ∀ b : Fin 44, ∃ t : Fin grid0.N, _)

/-- The down weight array: layer 0 of the argument. -/
def outD (c : Dev nD) : Buf (Elt Ideal) ((c : Thread nD τ).loc main_v2_3) := fun i =>
  (m ((c : Thread nD τ).loc main_arg5) : FVec Ideal S2x5632x2048 .f32) (ix3 (0 : Fin 2) (i 0) (i 1))

/-- The down weight block read at point `t`. -/
theorem block5_apply (c : Dev nD) (t : Fin cfg0.N) (p : Fin 128) (d : Fin 2048) (h : win0_9.index t (0 : Fin 2) * 128 + p.val < 5632) :
    (iblk m c 5 t : Vec Ideal S1x128x2048 .f32) (ix3 (0 : Fin 1) p d)
      = (m ((c : Thread nD τ).loc main_arg5) : FVec Ideal S2x5632x2048 .f32) (ix3 (0 : Fin 2) ⟨win0_9.index t (0 : Fin 2) * 128 + p.val, h⟩ d) := by
  obtain ⟨h0, h1, h2, -, -⟩ := index9 t
  unfold iblk
  rw [View.read_apply]
  show V m c main_arg5 _ = _
  rw [V_main_arg5]
  refine congrArg _ (funext fun a => Fin.ext ?_)
  match a with
  | ⟨0, _⟩ => show win0_5.index t 0 * 1 + 1 * 0 = 0; rw [h0]
  | ⟨1, _⟩ => show win0_5.index t 1 * 128 + 1 * p.val = win0_9.index t 0 * 128 + p.val; rw [h1]; omega
  | ⟨2, _⟩ => show win0_5.index t 2 * 2048 + 1 * d.val = d.val; rw [h2]; omega

/-- What point `t` writes back to the down weight array is its block of layer 0. -/
theorem flushed9_eq (c : Dev nD) (t : Fin cfg0.N) :
    (dats m 0 c).flushed 9 t = ((cfg0.win 9).blk t).view.read (Elt Ideal) (outD m c) := by
  obtain ⟨-, -, -, hb, h1⟩ := index9 t
  rw [flushed9, point m c t]
  funext y
  obtain ⟨p, d, rfl⟩ : ∃ (p : Fin 128) (d : Fin 2048), y = ix2 p d := ⟨y 0, y 1, eq_ix2 y⟩
  have hp := p.isLt
  have hr : win0_9.index t (0 : Fin 2) * 128 + p.val < 5632 := by omega
  rw [View.read_apply]
  have he : ((cfg0.win 9).blk t).view.emb (ix2 p d) = ix2 (⟨win0_9.index t (0 : Fin 2) * 128 + p.val, hr⟩ : Fin 5632) d := by
    funext a; apply Fin.ext
    match a with
    | ⟨0, _⟩ => show win0_9.index t 0 * 128 + 1 * p.val = win0_9.index t 0 * 128 + p.val; omega
    | ⟨1, _⟩ => show win0_9.index t 1 * 2048 + 1 * d.val = d.val; rw [h1]; omega
  rw [he]
  exact (pay3_apply _ p d).trans (block5_apply m c t p d hr)

/-- The down weight array after the run. -/
theorem final9 (c : Dev nD) : (dats m 0 c).arrAt 9 cfg0.N = outD m c :=
  (dats m 0 c).arrAt_eq_of_cover 9 _ (fun t _ => flushed9_eq m c t) fun i => by
    have h0 : (i 0).val < 5632 := (i 0).isLt
    have h1 : (i 1).val < 2048 := (i 1).isLt
    obtain ⟨t, hf, ht⟩ := reached9 ⟨(i 0).val / 128, by omega⟩
    obtain ⟨-, -, -, -, e1⟩ := index9 t
    refine ⟨t, hf, ?_⟩
    show i ∈ ((View.whole main_v2_3).slice (win0_9.rect t)).set
    rw [View.set_slice_whole, Rect.mem_set_unit]
    intro a
    match a with
    | ⟨0, _⟩ => show win0_9.index t 0 * 128 ≤ (i 0 : Nat) ∧ (i 0 : Nat) < win0_9.index t 0 * 128 + 128; rw [ht]; dsimp only; omega
    | ⟨1, _⟩ => show win0_9.index t 1 * 2048 ≤ (i 1 : Nat) ∧ (i 1 : Nat) < win0_9.index t 1 * 2048 + 2048; rw [e1]; omega

end Cert.InprojIdeal.Closed

/-! ## The reference, read at one index -/

namespace Cert.InprojRefIdeal.Closed

open Cert.InprojRefIdeal Cert.InprojRefIdeal.Gen Cert.InprojRefIdeal.Read Cert.InprojIdeal.Closed Cert.Common
open Idealize.ShloMosaic Idealize.ShloMosaic.TcCoe Idealize.ShloMosaic.ValueIdx Idealize.SL.Sem
open scoped BigOperators

/-- The reference's normalized row. -/
theorem norm_apply (x : FVec Ideal S8192x2048 .f32) (g : FVec Ideal S2048 .f32) (r : Fin 8192) (k : Fin 2048) :
    val_main_v12 (F := Ideal) x g (ix2 r k) = rowN x g r k := by
  rw [val_main_v12_apply, val_main_v9_apply, val_main_v8_apply, val_main_v7_apply, val_main_v6_apply, val_main_v4_apply, val_main_v2_apply,
    val_main_v1_apply, val_main_v3_apply, val_main_v5_apply, val_main_cst_0_apply, val_main_cst_1_apply, val_main_cst_apply, val_main_v11_apply, val_main_v10_apply]
  simp only [val_main_v0_apply]
  unfold rowN normed
  have ei : ∀ q : Fin 2048, idx_main_v1 (idx_main_v2 (idx_main_v8 (ix2 r k))) q = ix2 r q := fun q => eq_ix2 _
  have eg : idx_main_v10 (idx_main_v11 (ix2 r k)) = ix1 k := eq_ix1 _
  simp only [ei, eg]
  show _ * Ideal.rsqrt (Ideal.div (Ideal.ofBits .f32 0x00000000#32 + _) _ + _) * _ = _
  rw [Ideal.ofBits_zero_f32, zero_add]
  rfl

/-- The reference's first result at row `r`, column `d`. -/
theorem reference_apply (x : FVec Ideal S8192x2048 .f32) (g : FVec Ideal S2048 .f32) (w : FVec Ideal S1x2048x6144 .f32) (r : Fin 8192) (d : Fin 6144) :
    val_main_v15 (F := Ideal) x g w (ix2 r d) = result x g w r d := by
  rw [val_main_v15_apply]
  refine (val_main_v14_apply _ _ _ _).trans ?_
  unfold result
  refine Finset.sum_congr rfl fun k _ => congrArg₂ (· * ·) ?_ ?_
  · exact (congrArg _ (eq_ix2 _)).trans (norm_apply x g r k)
  · rw [val_main_v13_apply]
    refine congrArg w (funext fun a => Fin.ext ?_)
    have hk := k.isLt
    have hd := d.isLt
    match a with
    | ⟨0, _⟩ => rfl
    | ⟨1, _⟩ => show (k.val * 6144 + d.val) / 6144 % 2048 = k.val; omega
    | ⟨2, _⟩ => show (k.val * 6144 + d.val) % 6144 = d.val; omega

/-- The reference's gate weight is layer 0 of the argument. -/
theorem gate_apply (x : FVec Ideal S2x2048x5632 .f32) (r : Fin 2048) (d : Fin 5632) : val_main_v18 (F := Ideal) x (ix2 r d) = x (ix3 (0 : Fin 2) r d) := by
  rw [val_main_v18_apply]
  refine (val_main_v17_apply _ _).trans ?_
  rw [val_main_v16_apply]
  refine congrArg x (funext fun a => Fin.ext ?_)
  have hr := r.isLt
  have hd := d.isLt
  match a with
  | ⟨0, _⟩ => rfl
  | ⟨1, _⟩ => show (r.val * 5632 + d.val) / 5632 % 2048 = r.val; omega
  | ⟨2, _⟩ => show (r.val * 5632 + d.val) % 5632 = d.val; omega

/-- The reference's up weight is layer 0 of the argument. -/
theorem up_apply (x : FVec Ideal S2x2048x5632 .f32) (r : Fin 2048) (d : Fin 5632) : val_main_v21 (F := Ideal) x (ix2 r d) = x (ix3 (0 : Fin 2) r d) := by
  rw [val_main_v21_apply]
  refine (val_main_v20_apply _ _).trans ?_
  rw [val_main_v19_apply]
  refine congrArg x (funext fun a => Fin.ext ?_)
  have hr := r.isLt
  have hd := d.isLt
  match a with
  | ⟨0, _⟩ => rfl
  | ⟨1, _⟩ => show (r.val * 5632 + d.val) / 5632 % 2048 = r.val; omega
  | ⟨2, _⟩ => show (r.val * 5632 + d.val) % 5632 = d.val; omega

/-- The reference's down weight is layer 0 of the argument. -/
theorem down_apply (x : FVec Ideal S2x5632x2048 .f32) (r : Fin 5632) (d : Fin 2048) : val_main_v24 (F := Ideal) x (ix2 r d) = x (ix3 (0 : Fin 2) r d) := by
  rw [val_main_v24_apply]
  refine (val_main_v23_apply _ _).trans ?_
  rw [val_main_v22_apply]
  refine congrArg x (funext fun a => Fin.ext ?_)
  have hr := r.isLt
  have hd := d.isLt
  match a with
  | ⟨0, _⟩ => rfl
  | ⟨1, _⟩ => show (r.val * 2048 + d.val) / 2048 % 5632 = r.val; omega
  | ⟨2, _⟩ => show (r.val * 2048 + d.val) % 2048 = d.val; omega

end Cert.InprojRefIdeal.Closed

end
-- ==== Proof.OutprojValue.lean ====
/-
  The output projection: each block of the kernel's result is the residual plus the two halves' products, and the
  reference's one product over the concatenated operands is the sum of those halves.
-/
module

public import proofs.«01_k».proof.Proof.Common
public import proofs.«01_k».proof.Proof.Gen.OutprojIdeal.Value
public import proofs.«01_k».proof.Proof.Gen.OutprojRefIdeal.Read
public import Idealize.ShloMosaic.Lib.Tactic

@[expose] public section

set_option maxRecDepth 16384

noncomputable section

namespace Cert.OutprojIdeal.Closed

open Cert.OutprojIdeal Cert.OutprojIdeal.Gen Cert.OutprojIdeal.Value Cert.Common
open Idealize.ShloMosaic Idealize.ShloMosaic.TcCoe Idealize.ShloMosaic.ValueIdx Idealize.SL.Sem
open scoped BigOperators

/-- The result at row `r`, column `d`: the residual plus the first operand times the upper half of the weight plus the second
    operand times the lower half. -/
def result (a b : FVec Ideal S8192x1024 .bf16) (w : FVec Ideal S2048x2048 .f32) (x : FVec Ideal S8192x2048 .f32) (r : Fin 8192) (d : Fin 2048) : EReal :=
  x (ix2 r d) + ((∑ k : Fin 1024, a (ix2 r k) * w (ix2 ⟨k.val, by omega⟩ d)) + ∑ k : Fin 1024, b (ix2 r k) * w (ix2 ⟨1024 + k.val, by omega⟩ d))

/-- The stored block at one index. -/
theorem pay1_apply (a : FVec Ideal S512x1024 .bf16) (u : FVec Ideal S1024x2048 .bf16) (b : FVec Ideal S512x1024 .bf16) (v : FVec Ideal S1024x2048 .bf16)
    (x : FVec Ideal S512x2048 .f32) (p : Fin 512) (d : Fin 2048) :
    k0_pay1 (F := Ideal) a u b v x (ix2 p d) = x (ix2 p d) + ((∑ k : Fin 1024, a (ix2 p k) * u (ix2 k d)) + ∑ k : Fin 1024, b (ix2 p k) * v (ix2 k d)) := by
  unfold k0_pay1
  rw [shapeCast_self, shapeCast_self, addf_apply, addf_apply]
  exact congrArg (x (ix2 p d) + ·) (congrArg₂ (· + ·) (matmul0_apply none a u p d) (matmul0_apply none b v p d))

variable (m : (ℓ : Loc nD τ sig) → Buf (Elt Ideal) ℓ)

/-- The grid point's block numbers. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 1 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The weight the kernel reads is the argument. -/
theorem weight_eq (c : Dev nD) (i : S2048x2048.Idx) : V m c main_v0 i = m ((c : Thread nD τ).loc main_arg2) i := by
  have e : V m c main_v0 = (truncf (F := Ideal) .bf16 (m ((c : Thread nD τ).loc main_arg2)) bitsLt_bf16_f32 : FVec Ideal S2048x2048 .bf16) := by
    unfold V hostOps0
    after_results
  rw [e]
  rfl

/-- The first operand's block at point `t`. -/
theorem left_apply (c : Dev nD) (t : Fin cfg0.N) (p : Fin 512) (k : Fin 1024) (h : 512 * t.val + p.val < 8192) :
    (iblk m c 0 t : Vec Ideal S512x1024 .bf16) (ix2 p k) = m ((c : Thread nD τ).loc main_arg0) (ix2 ⟨512 * t.val + p.val, h⟩ k) := by
  obtain ⟨h0, h1, -⟩ := index_facts t
  unfold iblk
  rw [View.read_apply]
  show V m c main_arg0 _ = _
  rw [V_main_arg0]
  refine congrArg _ (funext fun a => Fin.ext ?_)
  match a with
  | ⟨0, _⟩ => show win0_0.index t 0 * 512 + 1 * p.val = 512 * t.val + p.val; rw [h0]; omega
  | ⟨1, _⟩ => show win0_0.index t 1 * 1024 + 1 * k.val = k.val; rw [h1]; omega

/-- The second operand's block at point `t`. -/
theorem right_apply (c : Dev nD) (t : Fin cfg0.N) (p : Fin 512) (k : Fin 1024) (h : 512 * t.val + p.val < 8192) :
    (iblk m c 1 t : Vec Ideal S512x1024 .bf16) (ix2 p k) = m ((c : Thread nD τ).loc main_arg1) (ix2 ⟨512 * t.val + p.val, h⟩ k) := by
  obtain ⟨-, -, h0, h1, -⟩ := index_facts t
  unfold iblk
  rw [View.read_apply]
  show V m c main_arg1 _ = _
  rw [V_main_arg1]
  refine congrArg _ (funext fun a => Fin.ext ?_)
  match a with
  | ⟨0, _⟩ => show win0_1.index t 0 * 512 + 1 * p.val = 512 * t.val + p.val; rw [h0]; omega
  | ⟨1, _⟩ => show win0_1.index t 1 * 1024 + 1 * k.val = k.val; rw [h1]; omega

/-- The weight's upper half. -/
theorem upper_apply (c : Dev nD) (t : Fin cfg0.N) (k : Fin 1024) (d : Fin 2048) :
    (iblk m c 2 t : Vec Ideal S1024x2048 .bf16) (ix2 k d) = m ((c : Thread nD τ).loc main_arg2) (ix2 ⟨k.val, by omega⟩ d) := by
  obtain ⟨-, -, -, -, h0, h1, -⟩ := index_facts t
  unfold iblk
  rw [View.read_apply]
  show V m c main_v0 _ = _
  rw [weight_eq]
  refine congrArg _ (funext fun a => Fin.ext ?_)
  match a with
  | ⟨0, _⟩ => show win0_2.index t 0 * 1024 + 1 * k.val = k.val; rw [h0]; omega
  | ⟨1, _⟩ => show win0_2.index t 1 * 2048 + 1 * d.val = d.val; rw [h1]; omega

/-- The weight's lower half. -/
theorem lower_apply (c : Dev nD) (t : Fin cfg0.N) (k : Fin 1024) (d : Fin 2048) :
    (iblk m c 3 t : Vec Ideal S1024x2048 .bf16) (ix2 k d) = m ((c : Thread nD τ).loc main_arg2) (ix2 ⟨1024 + k.val, by omega⟩ d) := by
  obtain ⟨-, -, -, -, -, -, h0, h1, -⟩ := index_facts t
  unfold iblk
  rw [View.read_apply]
  show V m c main_v0 _ = _
  rw [weight_eq]
  refine congrArg _ (funext fun a => Fin.ext ?_)
  match a with
  | ⟨0, _⟩ => show win0_3.index t 0 * 1024 + 1 * k.val = 1024 + k.val; rw [h0]; omega
  | ⟨1, _⟩ => show win0_3.index t 1 * 2048 + 1 * d.val = d.val; rw [h1]; omega

/-- The residual's block at point `t`. -/
theorem resid_apply (c : Dev nD) (t : Fin cfg0.N) (p : Fin 512) (d : Fin 2048) (h : 512 * t.val + p.val < 8192) :
    (iblk m c 4 t : Vec Ideal S512x2048 .f32) (ix2 p d) = m ((c : Thread nD τ).loc main_arg3) (ix2 ⟨512 * t.val + p.val, h⟩ d) := by
  obtain ⟨-, -, -, -, -, -, -, -, h0, h1, -⟩ := index_facts t
  unfold iblk
  rw [View.read_apply]
  show V m c main_arg3 _ = _
  rw [V_main_arg3]
  refine congrArg _ (funext fun a => Fin.ext ?_)
  match a with
  | ⟨0, _⟩ => show win0_4.index t 0 * 512 + 1 * p.val = 512 * t.val + p.val; rw [h0]; omega
  | ⟨1, _⟩ => show win0_4.index t 1 * 2048 + 1 * d.val = d.val; rw [h1]; omega

/-- The result array, by its two coordinates. -/
def out (c : Dev nD) : Buf (Elt Ideal) ((c : Thread nD τ).loc main_v1) := fun i =>
  result (m ((c : Thread nD τ).loc main_arg0)) (m ((c : Thread nD τ).loc main_arg1)) (m ((c : Thread nD τ).loc main_arg2)) (m ((c : Thread nD τ).loc main_arg3)) (i 0) (i 1)

/-- The body's output block is the one stored payload. -/
theorem out0_5_eq (a : Vec Ideal S512x1024 .bf16) (b : Vec Ideal S512x1024 .bf16) (u : Vec Ideal S1024x2048 .bf16) (v : Vec Ideal S1024x2048 .bf16)
    (x : Vec Ideal S512x2048 .f32) : out0_5 (F := Ideal) a b u v x = k0_pay1 (F := Ideal) a u b v x := by
  unfold out0_5
  rw [View.canon_unit_zero zero2]
  simp only [View.ld_unit_zero (S := S512x1024) zero2, View.ld_unit_zero (S := S1024x2048) zero2, View.ld_unit_zero (S := S512x2048) zero2]

/-- What point `t` writes back is block `t` of the result. -/
theorem flushed_eq (c : Dev nD) (t : Fin cfg0.N) :
    (dats m 0 c).flushed 5 t = ((cfg0.win 5).blk t).view.read (Elt Ideal) (out m c) := by
  have hN : t.val < 16 := lt_of_lt_of_eq t.isLt (show cfg0.N = 16 from N_0)
  obtain ⟨-, -, -, -, -, -, -, -, -, -, h0, h1⟩ := index_facts t
  rw [flushed5, out0_5_eq]
  funext y
  obtain ⟨p, d, rfl⟩ : ∃ (p : Fin 512) (d : Fin 2048), y = ix2 p d := ⟨y 0, y 1, eq_ix2 y⟩
  have hp := p.isLt
  have hr : 512 * t.val + p.val < 8192 := by omega
  rw [View.read_apply]
  have hb : ((cfg0.win 5).blk t).view.emb (ix2 p d) = ix2 (⟨512 * t.val + p.val, hr⟩ : Fin 8192) d := by
    funext a; apply Fin.ext
    match a with
    | ⟨0, _⟩ => show win0_5.index t 0 * 512 + 1 * p.val = 512 * t.val + p.val; rw [h0]; omega
    | ⟨1, _⟩ => show win0_5.index t 1 * 2048 + 1 * d.val = d.val; rw [h1]; omega
  rw [hb]
  refine (pay1_apply _ _ _ _ _ p d).trans ?_
  unfold out result
  simp only [left_apply m c t p _ hr, right_apply m c t p _ hr, upper_apply, lower_apply, resid_apply m c t p _ hr]
  rfl

/-- The result array after the run. -/
theorem final (c : Dev nD) : (dats m 0 c).arrAt 5 cfg0.N = out m c :=
  (dats m 0 c).arrAt_eq_of_cover 5 _ (fun t _ => flushed_eq m c t) fun i => by
    have h0 : (i 0).val < 8192 := (i 0).isLt
    have h1 : (i 1).val < 2048 := (i 1).isLt
    have hN : cfg0.N = 16 := N_0
    obtain ⟨t, ht⟩ : ∃ t : Fin cfg0.N, t.val = (i 0).val / 512 := ⟨⟨(i 0).val / 512, by rw [hN]; omega⟩, rfl⟩
    obtain ⟨-, -, -, -, -, -, -, -, -, -, e0, e1⟩ := index_facts t
    refine ⟨t, flush0_5 t, ?_⟩
    show i ∈ ((View.whole main_v1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [e0]; omega
    | ⟨1, _⟩ => show win0_5.index t 1 * 2048 ≤ (i 1 : Nat) ∧ (i 1 : Nat) < win0_5.index t 1 * 2048 + 2048; rw [e1]; omega

end Cert.OutprojIdeal.Closed

namespace Cert.OutprojRefIdeal.Closed

open Cert.OutprojRefIdeal Cert.OutprojRefIdeal.Gen Cert.OutprojRefIdeal.Read Cert.OutprojIdeal.Closed
open Idealize.ShloMosaic Idealize.ShloMosaic.TcCoe Idealize.ShloMosaic.ValueIdx Idealize.SL.Sem
open scoped BigOperators

/-- The reference's result at row `r`, column `d`. -/
theorem reference_apply (a b : FVec Ideal S8192x1024 .bf16) (w : FVec Ideal S2048x2048 .f32) (x : FVec Ideal S8192x2048 .f32) (r : Fin 8192) (d : Fin 2048) :
    val_main_v4 (F := Ideal) a b w x (ix2 r d) = result a b w x r d := by
  rw [val_main_v4_apply, val_main_v3_apply]
  unfold result
  refine congrArg (x (ix2 r d) + ·) ?_
  refine (Fin.sum_univ_add (a := 1024) (b := 1024) _).trans ?_
  refine congrArg₂ (· + ·) (Finset.sum_congr rfl fun k _ => congrArg₂ (· * ·) ?_ ?_) (Finset.sum_congr rfl fun k _ => congrArg₂ (· * ·) ?_ ?_)
  · unfold val_main_v2
    refine concatenate_pair_apply_left (s₁ := S8192x1024) (s₂ := S8192x1024) (t := S8192x2048) 1 (val_main_v0 (F := Ideal) a) (val_main_v1 (F := Ideal) b) _ _ rfl (ix2 r k) ?_
    intro b
    match b with
    | ⟨0, _⟩ => rfl
    | ⟨1, _⟩ => rfl
  · exact congrArg w (eq_ix2 _)
  · unfold val_main_v2
    refine concatenate_pair_apply_right (s₁ := S8192x1024) (s₂ := S8192x1024) (t := S8192x2048) 1 (val_main_v0 (F := Ideal) a) (val_main_v1 (F := Ideal) b) _ _ rfl rfl (ix2 r k) ?_ ?_
    · intro b hb
      match b with
      | ⟨0, _⟩ => rfl
      | ⟨1, _⟩ => exact absurd rfl hb
    · show k.val + 1024 = 1024 + k.val
      omega
  · exact congrArg w (eq_ix2 _)

end Cert.OutprojRefIdeal.Closed

end
-- ==== Proof.SideClaims.lean ====
/-
  The claims of the feed-forward block, the input projection and the output projection: each program runs and leaves its
  arguments as they were, and the kernel's results are the reference's.
-/
module

public import proofs.«01_k».proof.Defs
public import proofs.«01_k».proof.Proof.FfnValue
public import proofs.«01_k».proof.Proof.InprojValue
public import proofs.«01_k».proof.Proof.OutprojValue
public import proofs.«01_k».proof.Proof.Gen.Ffn.Frame
public import proofs.«01_k».proof.Proof.Gen.Inproj.Frame
public import proofs.«01_k».proof.Proof.Gen.Outproj.Frame
public import proofs.«01_k».proof.Proof.Gen.FfnRefIdeal.Run
public import proofs.«01_k».proof.Proof.Gen.InprojRefIdeal.Run
public import proofs.«01_k».proof.Proof.Gen.OutprojRefIdeal.Run
public import Idealize.ShloMosaic.Lib.Quiescent

@[expose] public section

set_option maxRecDepth 16384

noncomputable section

namespace Cert.Proof

open Idealize.ShloMosaic Idealize.ShloMosaic.TcCoe Idealize.ShloMosaic.ValueIdx Idealize.SL.Sem

/-- The feed-forward reference runs and leaves its arguments as they were. -/
theorem ffn_reference_frame : Cert.quiescent_FfnRefIdeal := fun m ρ _ =>
  (θ_run _ _ _).mono (fun r h => ⟨fun c => (h c).2, sem_eq_zero_of_no_sems (by decide) r.2⟩) (Cert.FfnRefIdeal.Value.run m ρ)

/-- The input projection's reference runs and leaves its arguments as they were. -/
theorem inproj_reference_frame : Cert.quiescent_InprojRefIdeal := fun m ρ _ =>
  (θ_run _ _ _).mono (fun r h => ⟨fun c => (h c).2.2.2.2, sem_eq_zero_of_no_sems (by decide) r.2⟩) (Cert.InprojRefIdeal.Value.run m ρ)

/-- The output projection's reference runs and leaves its arguments as they were. -/
theorem outproj_reference_frame : Cert.quiescent_OutprojRefIdeal := fun m ρ _ =>
  (θ_run _ _ _).mono (fun r h => ⟨fun c => (h c).2, sem_eq_zero_of_no_sems (by decide) r.2⟩) (Cert.OutprojRefIdeal.Value.run m ρ)

/-- The feed-forward kernel's result array is the reference's. -/
theorem ffn_algebraic : Cert.algebraic_FfnIdeal_FfnRefIdeal := fun m ρ m' ρ' _ hag => by
  refine ⟨fun c => Cert.FfnIdeal.Value.G5 m c, Cert.FfnIdeal.Value.run m ρ,
    (θ_run _ _ _).mono (fun _ h c => ⟨(h c).1.trans ?_, (h c).2⟩) (Cert.FfnRefIdeal.Value.run m' ρ')⟩
  obtain ⟨h0, h1, h2, h3, h4⟩ := hag c
  rw [h0, h1, h2, h3, h4]
  refine (Cert.FfnRefIdeal.Read.val_main_v24_eq _ _ _ _ _).trans (funext fun i => ?_)
  obtain ⟨r, d, rfl⟩ : ∃ (r : Fin 8192) (d : Fin 2048), i = ix2 r d := ⟨i 0, i 1, eq_ix2 i⟩
  exact (Cert.FfnRefIdeal.Closed.reference_apply _ _ _ _ _ r d).trans (Cert.FfnIdeal.Closed.kernel_apply m c r d).symm

/-- The output projection kernel's result array is the reference's. -/
theorem outproj_algebraic : Cert.algebraic_OutprojIdeal_OutprojRefIdeal := fun m ρ m' ρ' _ hag => by
  refine ⟨fun c => Cert.OutprojIdeal.Closed.out m c,
    (θ_run _ _ _).mono (fun _ h c => ⟨(h c).1.trans (Cert.OutprojIdeal.Closed.final m c), (h c).2⟩) (Cert.OutprojIdeal.Value.run_blocks m ρ),
    (θ_run _ _ _).mono (fun _ h c => ⟨(h c).1.trans ?_, (h c).2⟩) (Cert.OutprojRefIdeal.Value.run m' ρ')⟩
  obtain ⟨h0, h1, h2, h3⟩ := hag c
  rw [h0, h1, h2, h3]
  refine (Cert.OutprojRefIdeal.Read.val_main_v4_eq _ _ _ _).trans (funext fun i => ?_)
  obtain ⟨r, d, rfl⟩ : ∃ (r : Fin 8192) (d : Fin 2048), i = ix2 r d := ⟨i 0, i 1, eq_ix2 i⟩
  exact Cert.OutprojRefIdeal.Closed.reference_apply _ _ _ _ r d

/-- The input projection kernel's four result arrays are the reference's. -/
theorem inproj_algebraic : Cert.algebraic_InprojIdeal_InprojRefIdeal := fun m ρ m' ρ' _ hag => by
  refine ⟨fun c => Cert.InprojIdeal.Closed.outZ m c, fun c => Cert.InprojIdeal.Closed.outG m c, fun c => Cert.InprojIdeal.Closed.outU m c,
    fun c => Cert.InprojIdeal.Closed.outD m c,
    (θ_run _ _ _).mono (fun _ h c => ⟨(h c).1.trans (Cert.InprojIdeal.Closed.final6 m c), (h c).2.1.trans (Cert.InprojIdeal.Closed.final7 m c),
      (h c).2.2.1.trans (Cert.InprojIdeal.Closed.final8 m c), (h c).2.2.2.1.trans (Cert.InprojIdeal.Closed.final9 m c), (h c).2.2.2.2⟩)
      (Cert.InprojIdeal.Value.run_blocks m ρ),
    (θ_run _ _ _).mono (fun _ h c => ⟨(h c).1.trans ?_, (h c).2.1.trans ?_, (h c).2.2.1.trans ?_, (h c).2.2.2.1.trans ?_, (h c).2.2.2.2⟩)
      (Cert.InprojRefIdeal.Value.run m' ρ')⟩
  · obtain ⟨h0, h1, h2, h3, h4, h5⟩ := hag c
    rw [h0, h1, h2]
    refine (Cert.InprojRefIdeal.Read.val_main_v15_eq _ _ _).trans (funext fun i => ?_)
    obtain ⟨r, d, rfl⟩ : ∃ (r : Fin 8192) (d : Fin 6144), i = ix2 r d := ⟨i 0, i 1, eq_ix2 i⟩
    exact Cert.InprojRefIdeal.Closed.reference_apply _ _ _ r d
  · obtain ⟨h0, h1, h2, h3, h4, h5⟩ := hag c
    rw [h3]
    refine (Cert.InprojRefIdeal.Read.val_main_v18_eq _).trans (funext fun i => ?_)
    obtain ⟨r, d, rfl⟩ : ∃ (r : Fin 2048) (d : Fin 5632), i = ix2 r d := ⟨i 0, i 1, eq_ix2 i⟩
    exact Cert.InprojRefIdeal.Closed.gate_apply _ r d
  · obtain ⟨h0, h1, h2, h3, h4, h5⟩ := hag c
    rw [h4]
    refine (Cert.InprojRefIdeal.Read.val_main_v21_eq _).trans (funext fun i => ?_)
    obtain ⟨r, d, rfl⟩ : ∃ (r : Fin 2048) (d : Fin 5632), i = ix2 r d := ⟨i 0, i 1, eq_ix2 i⟩
    exact Cert.InprojRefIdeal.Closed.up_apply _ r d
  · obtain ⟨h0, h1, h2, h3, h4, h5⟩ := hag c
    rw [h5]
    refine (Cert.InprojRefIdeal.Read.val_main_v24_eq _).trans (funext fun i => ?_)
    obtain ⟨r, d, rfl⟩ : ∃ (r : Fin 5632) (d : Fin 2048), i = ix2 r d := ⟨i 0, i 1, eq_ix2 i⟩
    exact Cert.InprojRefIdeal.Closed.down_apply _ r d

end Cert.Proof

end
-- ==== Proof.EvenRefOps.lean ====
module

public import proofs.«01_k».proof.Proof.Gen.EvenRefIdeal.Run
public import Idealize.ShloMosaic.Lib.Pointwise
public import Idealize.ShloMosaic.Lib.StableHlo.ReadAt

@[expose] public section

set_option maxRecDepth 16384

noncomputable section

namespace Cert.Even.Ref

open Idealize.ShloMosaic Idealize.ShloMosaic.TcCoe Idealize.SL.Sem
open Cert.EvenRefIdeal Cert.EvenRefIdeal.Gen Cert.EvenRefIdeal.Value Idealize.ShloMosaic.StableHlo
open scoped BigOperators

/-- Arrays of extended reals of one shape. -/
abbrev Arr (S : Shape) := FVec Ideal S .f32

/-- A buffer that no operation from position `i` on writes holds after them what it held before them. -/
theorem upto_eq {τ : Topo} {sig : RefSig} {Val : EltTy → Type} {ops : List (HloOp τ sig Val)} (i : ℕ) (W : List (Ref sig .tc)) {r : Ref sig .tc}
    (hW : (ops.drop i).map HloOp.writes = W.map fun w => {Proc.devRef (τ := τ) .tc w}) (hr : r ∉ W) (V : Valuation τ sig Val) :
    upto ops V i (Proc.devRef .tc r) = after ops V (Proc.devRef .tc r) := by
  rw [← after_of_writes_sub (ops.drop i) (upto ops V i) (forall_writes_sub_of_map hW) hr]
  unfold upto
  have h : ∀ (l l' : List (HloOp τ sig Val)) (V : Valuation τ sig Val), after l' (after l V) = after (l ++ l') V := by
    intro l l' V
    induction l generalizing V with
    | nil => rfl
    | cons op l ih => exact ih _
  rw [h, List.take_append_drop]

/-- What the reference's buffer 2 holds after the operations before the loop. -/
abbrev x2 (V : Valuation τ sig (Elt Ideal)) : Arr S8192x1024 := after hostOps0 V (Proc.devRef .tc main_v2)

/-- What the reference's buffer 3 holds after the operations before the loop. -/
abbrev x3 (V : Valuation τ sig (Elt Ideal)) : Arr S2x4096x1024 := after hostOps0 V (Proc.devRef .tc main_v3)

/-- Buffer 3 of the reference in terms of the buffers its operation reads. -/
theorem e3 (V : Valuation τ sig (Elt Ideal)) : x3 V = shapeCast S2x4096x1024 (x2 V) shapeCasts_S8192x1024_S2x4096x1024 := by
  have h : after hostOps0 V (Proc.devRef .tc main_v3) = (StableHlo.reshape main_v2 main_v3 (rfl : (.f32 : EltTy) = .f32) shapeCasts_S8192x1024_S2x4096x1024).result (upto hostOps0 V 3) (Proc.devRef .tc main_v3) := by
    refine after_last_write (rest := hostOps0.drop 4) (hostOps0_W.drop 4) ?_ ?_ ?_ V
    · rfl
    · rfl
    · decide
  rw [reshape_result', upto_eq (r := main_v2) 3 (hostOps0_W.drop 3) rfl (by decide) V] at h
  exact h

/-- What the reference's buffer 4 holds after the operations before the loop. -/
abbrev x4 (V : Valuation τ sig (Elt Ideal)) : Arr S2x4096x4x256 := after hostOps0 V (Proc.devRef .tc main_v4)

/-- Buffer 4 of the reference in terms of the buffers its operation reads. -/
theorem e4 (V : Valuation τ sig (Elt Ideal)) : x4 V = shapeCast S2x4096x4x256 (x3 V) shapeCasts_S2x4096x1024_S2x4096x4x256 := by
  have h : after hostOps0 V (Proc.devRef .tc main_v4) = (StableHlo.reshape main_v3 main_v4 (rfl : (.f32 : EltTy) = .f32) shapeCasts_S2x4096x1024_S2x4096x4x256).result (upto hostOps0 V 4) (Proc.devRef .tc main_v4) := by
    refine after_last_write (rest := hostOps0.drop 5) (hostOps0_W.drop 5) ?_ ?_ ?_ V
    · rfl
    · rfl
    · decide
  rw [reshape_result', upto_eq (r := main_v3) 4 (hostOps0_W.drop 4) rfl (by decide) V] at h
  exact h

/-- What the reference's buffer 39 holds after the operations before the loop. -/
abbrev x39 (V : Valuation τ sig (Elt Ideal)) : Arr S8192x1024 := after hostOps0 V (Proc.devRef .tc main_v39)

/-- What the reference's buffer 40 holds after the operations before the loop. -/
abbrev x40 (V : Valuation τ sig (Elt Ideal)) : Arr S2x4096x1024 := after hostOps0 V (Proc.devRef .tc main_v40)

/-- Buffer 40 of the reference in terms of the buffers its operation reads. -/
theorem e40 (V : Valuation τ sig (Elt Ideal)) : x40 V = shapeCast S2x4096x1024 (x39 V) shapeCasts_S8192x1024_S2x4096x1024 := by
  have h : after hostOps0 V (Proc.devRef .tc main_v40) = (StableHlo.reshape main_v39 main_v40 (rfl : (.f32 : EltTy) = .f32) shapeCasts_S8192x1024_S2x4096x1024).result (upto hostOps0 V 44) (Proc.devRef .tc main_v40) := by
    refine after_last_write (rest := hostOps0.drop 45) (hostOps0_W.drop 45) ?_ ?_ ?_ V
    · rfl
    · rfl
    · decide
  rw [reshape_result', upto_eq (r := main_v39) 44 (hostOps0_W.drop 44) rfl (by decide) V] at h
  exact h

/-- What the reference's buffer 41 holds after the operations before the loop. -/
abbrev x41 (V : Valuation τ sig (Elt Ideal)) : Arr S2x4096x4x256 := after hostOps0 V (Proc.devRef .tc main_v41)

/-- Buffer 41 of the reference in terms of the buffers its operation reads. -/
theorem e41 (V : Valuation τ sig (Elt Ideal)) : x41 V = shapeCast S2x4096x4x256 (x40 V) shapeCasts_S2x4096x1024_S2x4096x4x256 := by
  have h : after hostOps0 V (Proc.devRef .tc main_v41) = (StableHlo.reshape main_v40 main_v41 (rfl : (.f32 : EltTy) = .f32) shapeCasts_S2x4096x1024_S2x4096x4x256).result (upto hostOps0 V 45) (Proc.devRef .tc main_v41) := by
    refine after_last_write (rest := hostOps0.drop 46) (hostOps0_W.drop 46) ?_ ?_ ?_ V
    · rfl
    · rfl
    · decide
  rw [reshape_result', upto_eq (r := main_v40) 45 (hostOps0_W.drop 45) rfl (by decide) V] at h
  exact h

/-- What the reference's buffer 76 holds after the operations before the loop. -/
abbrev x76 (V : Valuation τ sig (Elt Ideal)) : Arr S8192x1024 := after hostOps0 V (Proc.devRef .tc main_v76)

/-- What the reference's buffer 77 holds after the operations before the loop. -/
abbrev x77 (V : Valuation τ sig (Elt Ideal)) : Arr S2x4096x1024 := after hostOps0 V (Proc.devRef .tc main_v77)

/-- Buffer 77 of the reference in terms of the buffers its operation reads. -/
theorem e77 (V : Valuation τ sig (Elt Ideal)) : x77 V = shapeCast S2x4096x1024 (x76 V) shapeCasts_S8192x1024_S2x4096x1024 := by
  have h : after hostOps0 V (Proc.devRef .tc main_v77) = (StableHlo.reshape main_v76 main_v77 (rfl : (.f32 : EltTy) = .f32) shapeCasts_S8192x1024_S2x4096x1024).result (upto hostOps0 V 85) (Proc.devRef .tc main_v77) := by
    refine after_last_write (rest := hostOps0.drop 86) (hostOps0_W.drop 86) ?_ ?_ ?_ V
    · rfl
    · rfl
    · decide
  rw [reshape_result', upto_eq (r := main_v76) 85 (hostOps0_W.drop 85) rfl (by decide) V] at h
  exact h

/-- What the reference's buffer 78 holds after the operations before the loop. -/
abbrev x78 (V : Valuation τ sig (Elt Ideal)) : Arr S2x4096x4x256 := after hostOps0 V (Proc.devRef .tc main_v78)

/-- Buffer 78 of the reference in terms of the buffers its operation reads. -/
theorem e78 (V : Valuation τ sig (Elt Ideal)) : x78 V = shapeCast S2x4096x4x256 (x77 V) shapeCasts_S2x4096x1024_S2x4096x4x256 := by
  have h : after hostOps0 V (Proc.devRef .tc main_v78) = (StableHlo.reshape main_v77 main_v78 (rfl : (.f32 : EltTy) = .f32) shapeCasts_S2x4096x1024_S2x4096x4x256).result (upto hostOps0 V 86) (Proc.devRef .tc main_v78) := by
    refine after_last_write (rest := hostOps0.drop 87) (hostOps0_W.drop 87) ?_ ?_ ?_ V
    · rfl
    · rfl
    · decide
  rw [reshape_result', upto_eq (r := main_v77) 86 (hostOps0_W.drop 86) rfl (by decide) V] at h
  exact h

/-- What the reference's buffer 88 holds after the operations before the loop. -/
abbrev x88 (V : Valuation τ sig (Elt Ideal)) : Arr S64x2x4x64x256 := after hostOps0 V (Proc.devRef .tc main_v88)

/-- What the reference's buffer 132_0 holds after the operations before the loop. -/
abbrev x132_0 (V : Valuation τ sig (Elt Ideal)) : Arr S64x2x4x64x256 := after hostOps0 V (Proc.devRef .tc main_v132_0)

/-- Buffer 132_0 of the reference in terms of the buffers its operation reads. -/
theorem e132_0 (V : Valuation τ sig (Elt Ideal)) : x132_0 V = (x88 V) := by
  have h : after hostOps0 V (Proc.devRef .tc main_v132_0) = (StableHlo.unary main_v88 main_v132_0 id).result (upto hostOps0 V 150) (Proc.devRef .tc main_v132_0) := by
    refine after_last_write (rest := hostOps0.drop 151) (hostOps0_W.drop 151) ?_ ?_ ?_ V
    · rfl
    · rfl
    · decide
  rw [unary_result', upto_eq (r := main_v88) 150 (hostOps0_W.drop 150) rfl (by decide) V] at h
  exact h

/-- What the reference's buffer 92 holds after the operations before the loop. -/
abbrev x92 (V : Valuation τ sig (Elt Ideal)) : Arr S64x2x4x64x256 := after hostOps0 V (Proc.devRef .tc main_v92)

/-- What the reference's buffer 132_1 holds after the operations before the loop. -/
abbrev x132_1 (V : Valuation τ sig (Elt Ideal)) : Arr S64x2x4x64x256 := after hostOps0 V (Proc.devRef .tc main_v132_1)

/-- Buffer 132_1 of the reference in terms of the buffers its operation reads. -/
theorem e132_1 (V : Valuation τ sig (Elt Ideal)) : x132_1 V = (x92 V) := by
  have h : after hostOps0 V (Proc.devRef .tc main_v132_1) = (StableHlo.unary main_v92 main_v132_1 id).result (upto hostOps0 V 151) (Proc.devRef .tc main_v132_1) := by
    refine after_last_write (rest := hostOps0.drop 152) (hostOps0_W.drop 152) ?_ ?_ ?_ V
    · rfl
    · rfl
    · decide
  rw [unary_result', upto_eq (r := main_v92) 151 (hostOps0_W.drop 151) rfl (by decide) V] at h
  exact h

/-- What the reference's buffer 94 holds after the operations before the loop. -/
abbrev x94 (V : Valuation τ sig (Elt Ideal)) : Arr S64x2x4x64x256 := after hostOps0 V (Proc.devRef .tc main_v94)

/-- What the reference's buffer 132_2 holds after the operations before the loop. -/
abbrev x132_2 (V : Valuation τ sig (Elt Ideal)) : Arr S64x2x4x64x256 := after hostOps0 V (Proc.devRef .tc main_v132_2)

/-- Buffer 132_2 of the reference in terms of the buffers its operation reads. -/
theorem e132_2 (V : Valuation τ sig (Elt Ideal)) : x132_2 V = (x94 V) := by
  have h : after hostOps0 V (Proc.devRef .tc main_v132_2) = (StableHlo.unary main_v94 main_v132_2 id).result (upto hostOps0 V 152) (Proc.devRef .tc main_v132_2) := by
    refine after_last_write (rest := hostOps0.drop 153) (hostOps0_W.drop 153) ?_ ?_ ?_ V
    · rfl
    · rfl
    · decide
  rw [unary_result', upto_eq (r := main_v94) 152 (hostOps0_W.drop 152) rfl (by decide) V] at h
  exact h

/-- What the reference's buffer 25 holds after the operations before the loop. -/
abbrev x25 (V : Valuation τ sig (Elt Ideal)) : Arr S2x4096x4x128 := after hostOps0 V (Proc.devRef .tc main_v25)

/-- Buffer 25 of the reference in terms of the buffers its operation reads. -/
theorem e25 (V : Valuation τ sig (Elt Ideal)) : x25 V = extractStridedSlice S2x4096x4x128 ![0, 0, 0, 0] (x4 V) slices_S2x4096x4x256_S2x4096x4x128_0_0_0_0 := by
  have h : after hostOps0 V (Proc.devRef .tc main_v25) = (StableHlo.unary main_v4 main_v25 ((extractStridedSlice S2x4096x4x128 ![0, 0, 0, 0] · slices_S2x4096x4x256_S2x4096x4x128_0_0_0_0) : (⟨S2x4096x4x256, .f32⟩ : BufTy).Contents (Elt Ideal) → (⟨S2x4096x4x128, .f32⟩ : BufTy).Contents (Elt Ideal))).result (upto hostOps0 V 29) (Proc.devRef .tc main_v25) := by
    refine after_last_write (rest := hostOps0.drop 30) (hostOps0_W.drop 30) ?_ ?_ ?_ V
    · rfl
    · rfl
    · decide
  rw [unary_result', upto_eq (r := main_v4) 29 (hostOps0_W.drop 29) rfl (by decide) V] at h
  exact h

/-- What the reference's buffer 26 holds after the operations before the loop. -/
abbrev x26 (V : Valuation τ sig (Elt Ideal)) : Arr S2x4096x4x128 := after hostOps0 V (Proc.devRef .tc main_v26)

/-- Buffer 26 of the reference in terms of the buffers its operation reads. -/
theorem e26 (V : Valuation τ sig (Elt Ideal)) : x26 V = extractStridedSlice S2x4096x4x128 ![0, 0, 0, 128] (x4 V) slices_S2x4096x4x256_S2x4096x4x128_0_0_0_128 := by
  have h : after hostOps0 V (Proc.devRef .tc main_v26) = (StableHlo.unary main_v4 main_v26 ((extractStridedSlice S2x4096x4x128 ![0, 0, 0, 128] · slices_S2x4096x4x256_S2x4096x4x128_0_0_0_128) : (⟨S2x4096x4x256, .f32⟩ : BufTy).Contents (Elt Ideal) → (⟨S2x4096x4x128, .f32⟩ : BufTy).Contents (Elt Ideal))).result (upto hostOps0 V 30) (Proc.devRef .tc main_v26) := by
    refine after_last_write (rest := hostOps0.drop 31) (hostOps0_W.drop 31) ?_ ?_ ?_ V
    · rfl
    · rfl
    · decide
  rw [unary_result', upto_eq (r := main_v4) 30 (hostOps0_W.drop 30) rfl (by decide) V] at h
  exact h

/-- What the reference's buffer 22 holds after the operations before the loop. -/
abbrev x22 (V : Valuation τ sig (Elt Ideal)) : Arr S1x4096x1x128 := after hostOps0 V (Proc.devRef .tc main_v22)

/-- What the reference's buffer 27 holds after the operations before the loop. -/
abbrev x27 (V : Valuation τ sig (Elt Ideal)) : Arr S2x4096x4x128 := after hostOps0 V (Proc.devRef .tc main_v27)

/-- Buffer 27 of the reference in terms of the buffers its operation reads. -/
theorem e27 (V : Valuation τ sig (Elt Ideal)) : x27 V = broadcastInDim S2x4096x4x128 ![0, 1, 2, 3] bcast_S1x4096x1x128_S2x4096x4x128_0_1_2_3 (x22 V) := by
  have h : after hostOps0 V (Proc.devRef .tc main_v27) = (StableHlo.unary main_v22 main_v27 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 31) (Proc.devRef .tc main_v27) := by
    refine after_last_write (rest := hostOps0.drop 32) (hostOps0_W.drop 32) ?_ ?_ ?_ V
    · rfl
    · rfl
    · decide
  rw [unary_result', upto_eq (r := main_v22) 31 (hostOps0_W.drop 31) rfl (by decide) V] at h
  exact h

/-- What the reference's buffer 28 holds after the operations before the loop. -/
abbrev x28 (V : Valuation τ sig (Elt Ideal)) : Arr S2x4096x4x128 := after hostOps0 V (Proc.devRef .tc main_v28)

/-- Buffer 28 of the reference in terms of the buffers its operation reads. -/
theorem e28 (V : Valuation τ sig (Elt Ideal)) : x28 V = mulf (x25 V) (x27 V) := by
  have h : after hostOps0 V (Proc.devRef .tc main_v28) = (StableHlo.binary main_v25 main_v27 main_v28 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 32) (Proc.devRef .tc main_v28) := by
    refine after_last_write (rest := hostOps0.drop 33) (hostOps0_W.drop 33) ?_ ?_ ?_ V
    · rfl
    · rfl
    · decide
  rw [binary_result', upto_eq (r := main_v25) 32 (hostOps0_W.drop 32) rfl (by decide) V, upto_eq (r := main_v27) 32 (hostOps0_W.drop 32) rfl (by decide) V] at h
  exact h

/-- What the reference's buffer 24 holds after the operations before the loop. -/
abbrev x24 (V : Valuation τ sig (Elt Ideal)) : Arr S1x4096x1x128 := after hostOps0 V (Proc.devRef .tc main_v24)

/-- What the reference's buffer 29 holds after the operations before the loop. -/
abbrev x29 (V : Valuation τ sig (Elt Ideal)) : Arr S2x4096x4x128 := after hostOps0 V (Proc.devRef .tc main_v29)

/-- Buffer 29 of the reference in terms of the buffers its operation reads. -/
theorem e29 (V : Valuation τ sig (Elt Ideal)) : x29 V = broadcastInDim S2x4096x4x128 ![0, 1, 2, 3] bcast_S1x4096x1x128_S2x4096x4x128_0_1_2_3 (x24 V) := by
  have h : after hostOps0 V (Proc.devRef .tc main_v29) = (StableHlo.unary main_v24 main_v29 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 33) (Proc.devRef .tc main_v29) := by
    refine after_last_write (rest := hostOps0.drop 34) (hostOps0_W.drop 34) ?_ ?_ ?_ V
    · rfl
    · rfl
    · decide
  rw [unary_result', upto_eq (r := main_v24) 33 (hostOps0_W.drop 33) rfl (by decide) V] at h
  exact h

/-- What the reference's buffer 30 holds after the operations before the loop. -/
abbrev x30 (V : Valuation τ sig (Elt Ideal)) : Arr S2x4096x4x128 := after hostOps0 V (Proc.devRef .tc main_v30)

/-- Buffer 30 of the reference in terms of the buffers its operation reads. -/
theorem e30 (V : Valuation τ sig (Elt Ideal)) : x30 V = mulf (x26 V) (x29 V) := by
  have h : after hostOps0 V (Proc.devRef .tc main_v30) = (StableHlo.binary main_v26 main_v29 main_v30 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 34) (Proc.devRef .tc main_v30) := by
    refine after_last_write (rest := hostOps0.drop 35) (hostOps0_W.drop 35) ?_ ?_ ?_ V
    · rfl
    · rfl
    · decide
  rw [binary_result', upto_eq (r := main_v26) 34 (hostOps0_W.drop 34) rfl (by decide) V, upto_eq (r := main_v29) 34 (hostOps0_W.drop 34) rfl (by decide) V] at h
  exact h

/-- What the reference's buffer 31 holds after the operations before the loop. -/
abbrev x31 (V : Valuation τ sig (Elt Ideal)) : Arr S2x4096x4x128 := after hostOps0 V (Proc.devRef .tc main_v31)

/-- Buffer 31 of the reference in terms of the buffers its operation reads. -/
theorem e31 (V : Valuation τ sig (Elt Ideal)) : x31 V = subf (x28 V) (x30 V) := by
  have h : after hostOps0 V (Proc.devRef .tc main_v31) = (StableHlo.binary main_v28 main_v30 main_v31 ((fun a b => (subf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 35) (Proc.devRef .tc main_v31) := by
    refine after_last_write (rest := hostOps0.drop 36) (hostOps0_W.drop 36) ?_ ?_ ?_ V
    · rfl
    · rfl
    · decide
  rw [binary_result', upto_eq (r := main_v28) 35 (hostOps0_W.drop 35) rfl (by decide) V, upto_eq (r := main_v30) 35 (hostOps0_W.drop 35) rfl (by decide) V] at h
  exact h

/-- What the reference's buffer 32 holds after the operations before the loop. -/
abbrev x32 (V : Valuation τ sig (Elt Ideal)) : Arr S2x4096x4x128 := after hostOps0 V (Proc.devRef .tc main_v32)

/-- Buffer 32 of the reference in terms of the buffers its operation reads. -/
theorem e32 (V : Valuation τ sig (Elt Ideal)) : x32 V = broadcastInDim S2x4096x4x128 ![0, 1, 2, 3] bcast_S1x4096x1x128_S2x4096x4x128_0_1_2_3 (x24 V) := by
  have h : after hostOps0 V (Proc.devRef .tc main_v32) = (StableHlo.unary main_v24 main_v32 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 36) (Proc.devRef .tc main_v32) := by
    refine after_last_write (rest := hostOps0.drop 37) (hostOps0_W.drop 37) ?_ ?_ ?_ V
    · rfl
    · rfl
    · decide
  rw [unary_result', upto_eq (r := main_v24) 36 (hostOps0_W.drop 36) rfl (by decide) V] at h
  exact h

/-- What the reference's buffer 33 holds after the operations before the loop. -/
abbrev x33 (V : Valuation τ sig (Elt Ideal)) : Arr S2x4096x4x128 := after hostOps0 V (Proc.devRef .tc main_v33)

/-- Buffer 33 of the reference in terms of the buffers its operation reads. -/
theorem e33 (V : Valuation τ sig (Elt Ideal)) : x33 V = mulf (x25 V) (x32 V) := by
  have h : after hostOps0 V (Proc.devRef .tc main_v33) = (StableHlo.binary main_v25 main_v32 main_v33 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 37) (Proc.devRef .tc main_v33) := by
    refine after_last_write (rest := hostOps0.drop 38) (hostOps0_W.drop 38) ?_ ?_ ?_ V
    · rfl
    · rfl
    · decide
  rw [binary_result', upto_eq (r := main_v25) 37 (hostOps0_W.drop 37) rfl (by decide) V, upto_eq (r := main_v32) 37 (hostOps0_W.drop 37) rfl (by decide) V] at h
  exact h

/-- What the reference's buffer 34 holds after the operations before the loop. -/
abbrev x34 (V : Valuation τ sig (Elt Ideal)) : Arr S2x4096x4x128 := after hostOps0 V (Proc.devRef .tc main_v34)

/-- Buffer 34 of the reference in terms of the buffers its operation reads. -/
theorem e34 (V : Valuation τ sig (Elt Ideal)) : x34 V = broadcastInDim S2x4096x4x128 ![0, 1, 2, 3] bcast_S1x4096x1x128_S2x4096x4x128_0_1_2_3 (x22 V) := by
  have h : after hostOps0 V (Proc.devRef .tc main_v34) = (StableHlo.unary main_v22 main_v34 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 38) (Proc.devRef .tc main_v34) := by
    refine after_last_write (rest := hostOps0.drop 39) (hostOps0_W.drop 39) ?_ ?_ ?_ V
    · rfl
    · rfl
    · decide
  rw [unary_result', upto_eq (r := main_v22) 38 (hostOps0_W.drop 38) rfl (by decide) V] at h
  exact h

/-- What the reference's buffer 35 holds after the operations before the loop. -/
abbrev x35 (V : Valuation τ sig (Elt Ideal)) : Arr S2x4096x4x128 := after hostOps0 V (Proc.devRef .tc main_v35)

/-- Buffer 35 of the reference in terms of the buffers its operation reads. -/
theorem e35 (V : Valuation τ sig (Elt Ideal)) : x35 V = mulf (x26 V) (x34 V) := by
  have h : after hostOps0 V (Proc.devRef .tc main_v35) = (StableHlo.binary main_v26 main_v34 main_v35 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 39) (Proc.devRef .tc main_v35) := by
    refine after_last_write (rest := hostOps0.drop 40) (hostOps0_W.drop 40) ?_ ?_ ?_ V
    · rfl
    · rfl
    · decide
  rw [binary_result', upto_eq (r := main_v26) 39 (hostOps0_W.drop 39) rfl (by decide) V, upto_eq (r := main_v34) 39 (hostOps0_W.drop 39) rfl (by decide) V] at h
  exact h

/-- What the reference's buffer 36 holds after the operations before the loop. -/
abbrev x36 (V : Valuation τ sig (Elt Ideal)) : Arr S2x4096x4x128 := after hostOps0 V (Proc.devRef .tc main_v36)

/-- Buffer 36 of the reference in terms of the buffers its operation reads. -/
theorem e36 (V : Valuation τ sig (Elt Ideal)) : x36 V = addf (x33 V) (x35 V) := by
  have h : after hostOps0 V (Proc.devRef .tc main_v36) = (StableHlo.binary main_v33 main_v35 main_v36 ((fun a b => (addf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 40) (Proc.devRef .tc main_v36) := by
    refine after_last_write (rest := hostOps0.drop 41) (hostOps0_W.drop 41) ?_ ?_ ?_ V
    · rfl
    · rfl
    · decide
  rw [binary_result', upto_eq (r := main_v33) 40 (hostOps0_W.drop 40) rfl (by decide) V, upto_eq (r := main_v35) 40 (hostOps0_W.drop 40) rfl (by decide) V] at h
  exact h

/-- What the reference's buffer 37 holds after the operations before the loop. -/
abbrev x37 (V : Valuation τ sig (Elt Ideal)) : Arr S2x4096x4x256 := after hostOps0 V (Proc.devRef .tc main_v37)

/-- Buffer 37 of the reference in terms of the buffers its operation reads. -/
theorem e37 (V : Valuation τ sig (Elt Ideal)) : x37 V = concatenate S2x4096x4x256 3 [⟨S2x4096x4x128, x31 V⟩, ⟨S2x4096x4x128, x36 V⟩] concatenates_S2x4096x4x128_S2x4096x4x128_S2x4096x4x256_d3 := by
  have h : after hostOps0 V (Proc.devRef .tc main_v37) = (StableHlo.binary main_v31 main_v36 main_v37 ((fun a b => concatenate S2x4096x4x256 3 [⟨S2x4096x4x128, a⟩, ⟨S2x4096x4x128, b⟩] concatenates_S2x4096x4x128_S2x4096x4x128_S2x4096x4x256_d3) : (⟨S2x4096x4x128, .f32⟩ : BufTy).Contents (Elt Ideal) → (⟨S2x4096x4x128, .f32⟩ : BufTy).Contents (Elt Ideal) → (⟨S2x4096x4x256, .f32⟩ : BufTy).Contents (Elt Ideal))).result (upto hostOps0 V 41) (Proc.devRef .tc main_v37) := by
    refine after_last_write (rest := hostOps0.drop 42) (hostOps0_W.drop 42) ?_ ?_ ?_ V
    · rfl
    · rfl
    · decide
  rw [binary_result', upto_eq (r := main_v31) 41 (hostOps0_W.drop 41) rfl (by decide) V, upto_eq (r := main_v36) 41 (hostOps0_W.drop 41) rfl (by decide) V] at h
  exact h

/-- What the reference's buffer 87 holds after the operations before the loop. -/
abbrev x87 (V : Valuation τ sig (Elt Ideal)) : Arr S2x64x64x4x256 := after hostOps0 V (Proc.devRef .tc main_v87)

/-- Buffer 87 of the reference in terms of the buffers its operation reads. -/
theorem e87 (V : Valuation τ sig (Elt Ideal)) : x87 V = shapeCast S2x64x64x4x256 (x37 V) shapeCasts_S2x4096x4x256_S2x64x64x4x256 := by
  have h : after hostOps0 V (Proc.devRef .tc main_v87) = (StableHlo.reshape main_v37 main_v87 (rfl : (.f32 : EltTy) = .f32) shapeCasts_S2x4096x4x256_S2x64x64x4x256).result (upto hostOps0 V 98) (Proc.devRef .tc main_v87) := by
    refine after_last_write (rest := hostOps0.drop 99) (hostOps0_W.drop 99) ?_ ?_ ?_ V
    · rfl
    · rfl
    · decide
  rw [reshape_result', upto_eq (r := main_v37) 98 (hostOps0_W.drop 98) rfl (by decide) V] at h
  exact h

/-- Buffer 88 of the reference in terms of the buffers its operation reads. -/
theorem e88 (V : Valuation τ sig (Elt Ideal)) : x88 V = transpose S64x2x4x64x256 [1, 0, 3, 2, 4] (x87 V) transposes_S2x64x64x4x256_S64x2x4x64x256_1_0_3_2_4 := by
  have h : after hostOps0 V (Proc.devRef .tc main_v88) = (StableHlo.unary main_v87 main_v88 ((transpose S64x2x4x64x256 [1, 0, 3, 2, 4] · transposes_S2x64x64x4x256_S64x2x4x64x256_1_0_3_2_4) : (⟨S2x64x64x4x256, .f32⟩ : BufTy).Contents (Elt Ideal) → (⟨S64x2x4x64x256, .f32⟩ : BufTy).Contents (Elt Ideal))).result (upto hostOps0 V 99) (Proc.devRef .tc main_v88) := by
    refine after_last_write (rest := hostOps0.drop 100) (hostOps0_W.drop 100) ?_ ?_ ?_ V
    · rfl
    · rfl
    · decide
  rw [unary_result', upto_eq (r := main_v87) 99 (hostOps0_W.drop 99) rfl (by decide) V] at h
  exact h

/-- What the reference's buffer 62 holds after the operations before the loop. -/
abbrev x62 (V : Valuation τ sig (Elt Ideal)) : Arr S2x4096x4x128 := after hostOps0 V (Proc.devRef .tc main_v62)

/-- Buffer 62 of the reference in terms of the buffers its operation reads. -/
theorem e62 (V : Valuation τ sig (Elt Ideal)) : x62 V = extractStridedSlice S2x4096x4x128 ![0, 0, 0, 0] (x41 V) slices_S2x4096x4x256_S2x4096x4x128_0_0_0_0 := by
  have h : after hostOps0 V (Proc.devRef .tc main_v62) = (StableHlo.unary main_v41 main_v62 ((extractStridedSlice S2x4096x4x128 ![0, 0, 0, 0] · slices_S2x4096x4x256_S2x4096x4x128_0_0_0_0) : (⟨S2x4096x4x256, .f32⟩ : BufTy).Contents (Elt Ideal) → (⟨S2x4096x4x128, .f32⟩ : BufTy).Contents (Elt Ideal))).result (upto hostOps0 V 70) (Proc.devRef .tc main_v62) := by
    refine after_last_write (rest := hostOps0.drop 71) (hostOps0_W.drop 71) ?_ ?_ ?_ V
    · rfl
    · rfl
    · decide
  rw [unary_result', upto_eq (r := main_v41) 70 (hostOps0_W.drop 70) rfl (by decide) V] at h
  exact h

/-- What the reference's buffer 63 holds after the operations before the loop. -/
abbrev x63 (V : Valuation τ sig (Elt Ideal)) : Arr S2x4096x4x128 := after hostOps0 V (Proc.devRef .tc main_v63)

/-- Buffer 63 of the reference in terms of the buffers its operation reads. -/
theorem e63 (V : Valuation τ sig (Elt Ideal)) : x63 V = extractStridedSlice S2x4096x4x128 ![0, 0, 0, 128] (x41 V) slices_S2x4096x4x256_S2x4096x4x128_0_0_0_128 := by
  have h : after hostOps0 V (Proc.devRef .tc main_v63) = (StableHlo.unary main_v41 main_v63 ((extractStridedSlice S2x4096x4x128 ![0, 0, 0, 128] · slices_S2x4096x4x256_S2x4096x4x128_0_0_0_128) : (⟨S2x4096x4x256, .f32⟩ : BufTy).Contents (Elt Ideal) → (⟨S2x4096x4x128, .f32⟩ : BufTy).Contents (Elt Ideal))).result (upto hostOps0 V 71) (Proc.devRef .tc main_v63) := by
    refine after_last_write (rest := hostOps0.drop 72) (hostOps0_W.drop 72) ?_ ?_ ?_ V
    · rfl
    · rfl
    · decide
  rw [unary_result', upto_eq (r := main_v41) 71 (hostOps0_W.drop 71) rfl (by decide) V] at h
  exact h

/-- What the reference's buffer 59 holds after the operations before the loop. -/
abbrev x59 (V : Valuation τ sig (Elt Ideal)) : Arr S1x4096x1x128 := after hostOps0 V (Proc.devRef .tc main_v59)

/-- What the reference's buffer 64 holds after the operations before the loop. -/
abbrev x64 (V : Valuation τ sig (Elt Ideal)) : Arr S2x4096x4x128 := after hostOps0 V (Proc.devRef .tc main_v64)

/-- Buffer 64 of the reference in terms of the buffers its operation reads. -/
theorem e64 (V : Valuation τ sig (Elt Ideal)) : x64 V = broadcastInDim S2x4096x4x128 ![0, 1, 2, 3] bcast_S1x4096x1x128_S2x4096x4x128_0_1_2_3 (x59 V) := by
  have h : after hostOps0 V (Proc.devRef .tc main_v64) = (StableHlo.unary main_v59 main_v64 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 72) (Proc.devRef .tc main_v64) := by
    refine after_last_write (rest := hostOps0.drop 73) (hostOps0_W.drop 73) ?_ ?_ ?_ V
    · rfl
    · rfl
    · decide
  rw [unary_result', upto_eq (r := main_v59) 72 (hostOps0_W.drop 72) rfl (by decide) V] at h
  exact h

/-- What the reference's buffer 65 holds after the operations before the loop. -/
abbrev x65 (V : Valuation τ sig (Elt Ideal)) : Arr S2x4096x4x128 := after hostOps0 V (Proc.devRef .tc main_v65)

/-- Buffer 65 of the reference in terms of the buffers its operation reads. -/
theorem e65 (V : Valuation τ sig (Elt Ideal)) : x65 V = mulf (x62 V) (x64 V) := by
  have h : after hostOps0 V (Proc.devRef .tc main_v65) = (StableHlo.binary main_v62 main_v64 main_v65 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 73) (Proc.devRef .tc main_v65) := by
    refine after_last_write (rest := hostOps0.drop 74) (hostOps0_W.drop 74) ?_ ?_ ?_ V
    · rfl
    · rfl
    · decide
  rw [binary_result', upto_eq (r := main_v62) 73 (hostOps0_W.drop 73) rfl (by decide) V, upto_eq (r := main_v64) 73 (hostOps0_W.drop 73) rfl (by decide) V] at h
  exact h

/-- What the reference's buffer 61 holds after the operations before the loop. -/
abbrev x61 (V : Valuation τ sig (Elt Ideal)) : Arr S1x4096x1x128 := after hostOps0 V (Proc.devRef .tc main_v61)

/-- What the reference's buffer 66 holds after the operations before the loop. -/
abbrev x66 (V : Valuation τ sig (Elt Ideal)) : Arr S2x4096x4x128 := after hostOps0 V (Proc.devRef .tc main_v66)

/-- Buffer 66 of the reference in terms of the buffers its operation reads. -/
theorem e66 (V : Valuation τ sig (Elt Ideal)) : x66 V = broadcastInDim S2x4096x4x128 ![0, 1, 2, 3] bcast_S1x4096x1x128_S2x4096x4x128_0_1_2_3 (x61 V) := by
  have h : after hostOps0 V (Proc.devRef .tc main_v66) = (StableHlo.unary main_v61 main_v66 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 74) (Proc.devRef .tc main_v66) := by
    refine after_last_write (rest := hostOps0.drop 75) (hostOps0_W.drop 75) ?_ ?_ ?_ V
    · rfl
    · rfl
    · decide
  rw [unary_result', upto_eq (r := main_v61) 74 (hostOps0_W.drop 74) rfl (by decide) V] at h
  exact h

/-- What the reference's buffer 67 holds after the operations before the loop. -/
abbrev x67 (V : Valuation τ sig (Elt Ideal)) : Arr S2x4096x4x128 := after hostOps0 V (Proc.devRef .tc main_v67)

/-- Buffer 67 of the reference in terms of the buffers its operation reads. -/
theorem e67 (V : Valuation τ sig (Elt Ideal)) : x67 V = mulf (x63 V) (x66 V) := by
  have h : after hostOps0 V (Proc.devRef .tc main_v67) = (StableHlo.binary main_v63 main_v66 main_v67 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 75) (Proc.devRef .tc main_v67) := by
    refine after_last_write (rest := hostOps0.drop 76) (hostOps0_W.drop 76) ?_ ?_ ?_ V
    · rfl
    · rfl
    · decide
  rw [binary_result', upto_eq (r := main_v63) 75 (hostOps0_W.drop 75) rfl (by decide) V, upto_eq (r := main_v66) 75 (hostOps0_W.drop 75) rfl (by decide) V] at h
  exact h

/-- What the reference's buffer 68 holds after the operations before the loop. -/
abbrev x68 (V : Valuation τ sig (Elt Ideal)) : Arr S2x4096x4x128 := after hostOps0 V (Proc.devRef .tc main_v68)

/-- Buffer 68 of the reference in terms of the buffers its operation reads. -/
theorem e68 (V : Valuation τ sig (Elt Ideal)) : x68 V = subf (x65 V) (x67 V) := by
  have h : after hostOps0 V (Proc.devRef .tc main_v68) = (StableHlo.binary main_v65 main_v67 main_v68 ((fun a b => (subf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 76) (Proc.devRef .tc main_v68) := by
    refine after_last_write (rest := hostOps0.drop 77) (hostOps0_W.drop 77) ?_ ?_ ?_ V
    · rfl
    · rfl
    · decide
  rw [binary_result', upto_eq (r := main_v65) 76 (hostOps0_W.drop 76) rfl (by decide) V, upto_eq (r := main_v67) 76 (hostOps0_W.drop 76) rfl (by decide) V] at h
  exact h

/-- What the reference's buffer 69 holds after the operations before the loop. -/
abbrev x69 (V : Valuation τ sig (Elt Ideal)) : Arr S2x4096x4x128 := after hostOps0 V (Proc.devRef .tc main_v69)

/-- Buffer 69 of the reference in terms of the buffers its operation reads. -/
theorem e69 (V : Valuation τ sig (Elt Ideal)) : x69 V = broadcastInDim S2x4096x4x128 ![0, 1, 2, 3] bcast_S1x4096x1x128_S2x4096x4x128_0_1_2_3 (x61 V) := by
  have h : after hostOps0 V (Proc.devRef .tc main_v69) = (StableHlo.unary main_v61 main_v69 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 77) (Proc.devRef .tc main_v69) := by
    refine after_last_write (rest := hostOps0.drop 78) (hostOps0_W.drop 78) ?_ ?_ ?_ V
    · rfl
    · rfl
    · decide
  rw [unary_result', upto_eq (r := main_v61) 77 (hostOps0_W.drop 77) rfl (by decide) V] at h
  exact h

/-- What the reference's buffer 70 holds after the operations before the loop. -/
abbrev x70 (V : Valuation τ sig (Elt Ideal)) : Arr S2x4096x4x128 := after hostOps0 V (Proc.devRef .tc main_v70)

/-- Buffer 70 of the reference in terms of the buffers its operation reads. -/
theorem e70 (V : Valuation τ sig (Elt Ideal)) : x70 V = mulf (x62 V) (x69 V) := by
  have h : after hostOps0 V (Proc.devRef .tc main_v70) = (StableHlo.binary main_v62 main_v69 main_v70 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 78) (Proc.devRef .tc main_v70) := by
    refine after_last_write (rest := hostOps0.drop 79) (hostOps0_W.drop 79) ?_ ?_ ?_ V
    · rfl
    · rfl
    · decide
  rw [binary_result', upto_eq (r := main_v62) 78 (hostOps0_W.drop 78) rfl (by decide) V, upto_eq (r := main_v69) 78 (hostOps0_W.drop 78) rfl (by decide) V] at h
  exact h

/-- What the reference's buffer 71 holds after the operations before the loop. -/
abbrev x71 (V : Valuation τ sig (Elt Ideal)) : Arr S2x4096x4x128 := after hostOps0 V (Proc.devRef .tc main_v71)

/-- Buffer 71 of the reference in terms of the buffers its operation reads. -/
theorem e71 (V : Valuation τ sig (Elt Ideal)) : x71 V = broadcastInDim S2x4096x4x128 ![0, 1, 2, 3] bcast_S1x4096x1x128_S2x4096x4x128_0_1_2_3 (x59 V) := by
  have h : after hostOps0 V (Proc.devRef .tc main_v71) = (StableHlo.unary main_v59 main_v71 (broadcastInDim S2x4096x4x128 ![0, 1, 2, 3] bcast_S1x4096x1x128_S2x4096x4x128_0_1_2_3 : (⟨S1x4096x1x128, .f32⟩ : BufTy).Contents (Elt Ideal) → (⟨S2x4096x4x128, .f32⟩ : BufTy).Contents (Elt Ideal))).result (upto hostOps0 V 79) (Proc.devRef .tc main_v71) := by
    refine after_last_write (rest := hostOps0.drop 80) (hostOps0_W.drop 80) ?_ ?_ ?_ V
    · rfl
    · rfl
    · decide
  rw [unary_result', upto_eq (r := main_v59) 79 (hostOps0_W.drop 79) rfl (by decide) V] at h
  exact h

/-- What the reference's buffer 72 holds after the operations before the loop. -/
abbrev x72 (V : Valuation τ sig (Elt Ideal)) : Arr S2x4096x4x128 := after hostOps0 V (Proc.devRef .tc main_v72)

/-- Buffer 72 of the reference in terms of the buffers its operation reads. -/
theorem e72 (V : Valuation τ sig (Elt Ideal)) : x72 V = mulf (x63 V) (x71 V) := by
  have h : after hostOps0 V (Proc.devRef .tc main_v72) = (StableHlo.binary main_v63 main_v71 main_v72 ((fun a b => (mulf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 80) (Proc.devRef .tc main_v72) := by
    refine after_last_write (rest := hostOps0.drop 81) (hostOps0_W.drop 81) ?_ ?_ ?_ V
    · rfl
    · rfl
    · decide
  rw [binary_result', upto_eq (r := main_v63) 80 (hostOps0_W.drop 80) rfl (by decide) V, upto_eq (r := main_v71) 80 (hostOps0_W.drop 80) rfl (by decide) V] at h
  exact h

/-- What the reference's buffer 73 holds after the operations before the loop. -/
abbrev x73 (V : Valuation τ sig (Elt Ideal)) : Arr S2x4096x4x128 := after hostOps0 V (Proc.devRef .tc main_v73)

/-- Buffer 73 of the reference in terms of the buffers its operation reads. -/
theorem e73 (V : Valuation τ sig (Elt Ideal)) : x73 V = addf (x70 V) (x72 V) := by
  have h : after hostOps0 V (Proc.devRef .tc main_v73) = (StableHlo.binary main_v70 main_v72 main_v73 ((fun a b => (addf (F := Ideal) (show Arr S2x4096x4x128 from a) (show Arr S2x4096x4x128 from b) : Arr S2x4096x4x128)) : (⟨S2x4096x4x128, .f32⟩ : BufTy).Contents (Elt Ideal) → (⟨S2x4096x4x128, .f32⟩ : BufTy).Contents (Elt Ideal) → (⟨S2x4096x4x128, .f32⟩ : BufTy).Contents (Elt Ideal))).result (upto hostOps0 V 81) (Proc.devRef .tc main_v73) := by
    refine after_last_write (rest := hostOps0.drop 82) (hostOps0_W.drop 82) ?_ ?_ ?_ V
    · rfl
    · rfl
    · decide
  rw [binary_result', upto_eq (r := main_v70) 81 (hostOps0_W.drop 81) rfl (by decide) V, upto_eq (r := main_v72) 81 (hostOps0_W.drop 81) rfl (by decide) V] at h
  exact h

/-- What the reference's buffer 74 holds after the operations before the loop. -/
abbrev x74 (V : Valuation τ sig (Elt Ideal)) : Arr S2x4096x4x256 := after hostOps0 V (Proc.devRef .tc main_v74)

/-- Buffer 74 of the reference in terms of the buffers its operation reads. -/
theorem e74 (V : Valuation τ sig (Elt Ideal)) : x74 V = concatenate S2x4096x4x256 3 [⟨S2x4096x4x128, x68 V⟩, ⟨S2x4096x4x128, x73 V⟩] concatenates_S2x4096x4x128_S2x4096x4x128_S2x4096x4x256_d3 := by
  have h : after hostOps0 V (Proc.devRef .tc main_v74) = (StableHlo.binary main_v68 main_v73 main_v74 ((fun a b => concatenate S2x4096x4x256 3 [⟨S2x4096x4x128, a⟩, ⟨S2x4096x4x128, b⟩] concatenates_S2x4096x4x128_S2x4096x4x128_S2x4096x4x256_d3) : (⟨S2x4096x4x128, .f32⟩ : BufTy).Contents (Elt Ideal) → (⟨S2x4096x4x128, .f32⟩ : BufTy).Contents (Elt Ideal) → (⟨S2x4096x4x256, .f32⟩ : BufTy).Contents (Elt Ideal))).result (upto hostOps0 V 82) (Proc.devRef .tc main_v74) := by
    refine after_last_write (rest := hostOps0.drop 83) (hostOps0_W.drop 83) ?_ ?_ ?_ V
    · rfl
    · rfl
    · decide
  rw [binary_result', upto_eq (r := main_v68) 82 (hostOps0_W.drop 82) rfl (by decide) V, upto_eq (r := main_v73) 82 (hostOps0_W.drop 82) rfl (by decide) V] at h
  exact h

/-- What the reference's buffer 89 holds after the operations before the loop. -/
abbrev x89 (V : Valuation τ sig (Elt Ideal)) : Arr S2x4096x4x256 := after hostOps0 V (Proc.devRef .tc main_v89)

/-- What the reference's buffer 90 holds after the operations before the loop. -/
abbrev x90 (V : Valuation τ sig (Elt Ideal)) : Arr S2x4096x4x256 := after hostOps0 V (Proc.devRef .tc main_v90)

/-- Buffer 90 of the reference in terms of the buffers its operation reads. -/
theorem e90 (V : Valuation τ sig (Elt Ideal)) : x90 V = mulf (x74 V) (x89 V) := by
  have h : after hostOps0 V (Proc.devRef .tc main_v90) = (StableHlo.binary main_v74 main_v89 main_v90 ((fun a b => (mulf (F := Ideal) (show Arr S2x4096x4x256 from a) (show Arr S2x4096x4x256 from b) : Arr S2x4096x4x256)) : (⟨S2x4096x4x256, .f32⟩ : BufTy).Contents (Elt Ideal) → (⟨S2x4096x4x256, .f32⟩ : BufTy).Contents (Elt Ideal) → (⟨S2x4096x4x256, .f32⟩ : BufTy).Contents (Elt Ideal))).result (upto hostOps0 V 102) (Proc.devRef .tc main_v90) := by
    refine after_last_write (rest := hostOps0.drop 103) (hostOps0_W.drop 103) ?_ ?_ ?_ V
    · rfl
    · rfl
    · decide
  rw [binary_result', upto_eq (r := main_v74) 102 (hostOps0_W.drop 102) rfl (by decide) V, upto_eq (r := main_v89) 102 (hostOps0_W.drop 102) rfl (by decide) V] at h
  exact h

/-- What the reference's buffer 91 holds after the operations before the loop. -/
abbrev x91 (V : Valuation τ sig (Elt Ideal)) : Arr S2x64x64x4x256 := after hostOps0 V (Proc.devRef .tc main_v91)

/-- Buffer 91 of the reference in terms of the buffers its operation reads. -/
theorem e91 (V : Valuation τ sig (Elt Ideal)) : x91 V = shapeCast S2x64x64x4x256 (x90 V) shapeCasts_S2x4096x4x256_S2x64x64x4x256 := by
  have h : after hostOps0 V (Proc.devRef .tc main_v91) = (StableHlo.reshape main_v90 main_v91 (rfl : (.f32 : EltTy) = .f32) shapeCasts_S2x4096x4x256_S2x64x64x4x256).result (upto hostOps0 V 103) (Proc.devRef .tc main_v91) := by
    refine after_last_write (rest := hostOps0.drop 104) (hostOps0_W.drop 104) ?_ ?_ ?_ V
    · rfl
    · rfl
    · decide
  rw [reshape_result', upto_eq (r := main_v90) 103 (hostOps0_W.drop 103) rfl (by decide) V] at h
  exact h

/-- Buffer 92 of the reference in terms of the buffers its operation reads. -/
theorem e92 (V : Valuation τ sig (Elt Ideal)) : x92 V = transpose S64x2x4x64x256 [1, 0, 3, 2, 4] (x91 V) transposes_S2x64x64x4x256_S64x2x4x64x256_1_0_3_2_4 := by
  have h : after hostOps0 V (Proc.devRef .tc main_v92) = (StableHlo.unary main_v91 main_v92 ((transpose S64x2x4x64x256 [1, 0, 3, 2, 4] · transposes_S2x64x64x4x256_S64x2x4x64x256_1_0_3_2_4) : (⟨S2x64x64x4x256, .f32⟩ : BufTy).Contents (Elt Ideal) → (⟨S64x2x4x64x256, .f32⟩ : BufTy).Contents (Elt Ideal))).result (upto hostOps0 V 104) (Proc.devRef .tc main_v92) := by
    refine after_last_write (rest := hostOps0.drop 105) (hostOps0_W.drop 105) ?_ ?_ ?_ V
    · rfl
    · rfl
    · decide
  rw [unary_result', upto_eq (r := main_v91) 104 (hostOps0_W.drop 104) rfl (by decide) V] at h
  exact h

/-- What the reference's buffer 93 holds after the operations before the loop. -/
abbrev x93 (V : Valuation τ sig (Elt Ideal)) : Arr S2x64x64x4x256 := after hostOps0 V (Proc.devRef .tc main_v93)

/-- Buffer 93 of the reference in terms of the buffers its operation reads. -/
theorem e93 (V : Valuation τ sig (Elt Ideal)) : x93 V = shapeCast S2x64x64x4x256 (x78 V) shapeCasts_S2x4096x4x256_S2x64x64x4x256 := by
  have h : after hostOps0 V (Proc.devRef .tc main_v93) = (StableHlo.reshape main_v78 main_v93 (rfl : (.f32 : EltTy) = .f32) shapeCasts_S2x4096x4x256_S2x64x64x4x256).result (upto hostOps0 V 105) (Proc.devRef .tc main_v93) := by
    refine after_last_write (rest := hostOps0.drop 106) (hostOps0_W.drop 106) ?_ ?_ ?_ V
    · rfl
    · rfl
    · decide
  rw [reshape_result', upto_eq (r := main_v78) 105 (hostOps0_W.drop 105) rfl (by decide) V] at h
  exact h

/-- Buffer 94 of the reference in terms of the buffers its operation reads. -/
theorem e94 (V : Valuation τ sig (Elt Ideal)) : x94 V = transpose S64x2x4x64x256 [1, 0, 3, 2, 4] (x93 V) transposes_S2x64x64x4x256_S64x2x4x64x256_1_0_3_2_4 := by
  have h : after hostOps0 V (Proc.devRef .tc main_v94) = (StableHlo.unary main_v93 main_v94 ((transpose S64x2x4x64x256 [1, 0, 3, 2, 4] · transposes_S2x64x64x4x256_S64x2x4x64x256_1_0_3_2_4) : (⟨S2x64x64x4x256, .f32⟩ : BufTy).Contents (Elt Ideal) → (⟨S64x2x4x64x256, .f32⟩ : BufTy).Contents (Elt Ideal))).result (upto hostOps0 V 106) (Proc.devRef .tc main_v94) := by
    refine after_last_write (rest := hostOps0.drop 107) (hostOps0_W.drop 107) ?_ ?_ ?_ V
    · rfl
    · rfl
    · decide
  rw [unary_result', upto_eq (r := main_v93) 106 (hostOps0_W.drop 106) rfl (by decide) V] at h
  exact h

end Cert.Even.Ref

end
-- ==== Proof.EvenMath.lean ====
module

public import Idealize.ShloMosaic.Lib.Pointwise

@[expose] public section

set_option maxRecDepth 16384

noncomputable section

namespace Cert.Even

open Idealize.ShloMosaic
open scoped BigOperators

/-- The inclusion of the reals in the extended reals takes finite sums to finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The retention state before row `N`: the key-value products of all earlier rows, each with its decay. -/
def state (lg : ℝ) (K V : ℕ → Fin 256 → ℝ) (N : ℕ) (d e : Fin 256) : ℝ :=
  ∑ r ∈ Finset.range N, Real.exp (lg * ((N : ℝ) - 1 - r)) * K r d * V r e

/-- What row `n` gets from the first `N` rows: every row of its own chunk of 64 and of the chunks before it, weighed by
the decay of the distance and by the product of query and key. -/
def seen (lg : ℝ) (Q K V : ℕ → Fin 256 → ℝ) (n N : ℕ) (e : Fin 256) : ℝ :=
  ∑ r ∈ Finset.range N,
    (if r / 64 ≤ n / 64 then Real.exp (lg * |(n : ℝ) - r|) else 0) * (∑ y, Q n y * K r y) * V r e

/-- Before the first row the state is zero. -/
theorem state_zero (lg : ℝ) (K V : ℕ → Fin 256 → ℝ) (d e : Fin 256) : state lg K V 0 d e = 0 := by
  simp [state]

/-- The rows behind the chunk of row `n` add nothing. -/
theorem seen_eq (lg : ℝ) (Q K V : ℕ → Fin 256 → ℝ) (n N M : ℕ) (e : Fin 256) (h : n < N) (hN : 64 ∣ N) (hM : N ≤ M) :
    seen lg Q K V n M e = seen lg Q K V n N e := by
  unfold seen
  refine (Finset.sum_subset (Finset.range_subset_range.2 hM) fun r _ hr => ?_).symm
  have hr' : N ≤ r := by simpa using hr
  obtain ⟨w, rfl⟩ := hN
  rw [if_neg (by omega), zero_mul, zero_mul]

/-- One step of the state by a block of `B` rows, over the reals. -/
theorem state_step_real (lg : ℝ) (K V : ℕ → Fin 256 → ℝ) (B c : ℕ) (d e : Fin 256) :
    state lg K V (c * B) d e * Real.exp (lg * B) + ∑ p : Fin B, K (c * B + p.val) d * Real.exp (lg * ((B : ℝ) - 1 - p.val)) * V (c * B + p.val) e
      = state lg K V ((c + 1) * B) d e := by
  unfold state
  rw [show (c + 1) * B = c * B + B by ring, Finset.sum_range_add, Finset.sum_mul, Finset.sum_range (n := B)]
  congr 1
  · refine Finset.sum_congr rfl fun r _ => ?_
    rw [show lg * (((c * B + B : ℕ) : ℝ) - 1 - r) = lg * (((c * B : ℕ) : ℝ) - 1 - r) + lg * B by push_cast; ring, Real.exp_add]
    ring
  · refine Finset.sum_congr rfl fun p _ => ?_
    rw [show lg * (((c * B + B : ℕ) : ℝ) - 1 - ((c * B + p.val : ℕ) : ℝ)) = lg * ((B : ℝ) - 1 - p.val) by push_cast; ring]
    ring

/-- One row of a block of `B` rows: the rows of its block plus what the state holds make up all the rows it sees. -/
theorem seen_block_real (lg : ℝ) (Q K V : ℕ → Fin 256 → ℝ) (B c : ℕ) (hB : 64 ∣ B) (p : Fin B) (e : Fin 256) :
    (∑ x : Fin B, ((∑ y, Q (c * B + p.val) y * K (c * B + x.val) y) * (if x.val / 64 ≤ p.val / 64 then Real.exp (lg * |(p.val : ℝ) - x.val|) else 0)) * V (c * B + x.val) e)
      + (∑ y, Q (c * B + p.val) y * state lg K V (c * B) y e) * Real.exp (lg * ((p.val : ℝ) + 1))
      = seen lg Q K V (c * B + p.val) ((c + 1) * B) e := by
  obtain ⟨w, rfl⟩ := hB
  unfold seen state
  rw [show (c + 1) * (64 * w) = c * (64 * w) + 64 * w by ring, Finset.sum_range_add, add_comm, Finset.sum_range (n := 64 * w)]
  congr 1
  · rw [Finset.sum_mul]
    simp only [Finset.mul_sum, Finset.sum_mul]
    rw [Finset.sum_comm]
    refine Finset.sum_congr rfl fun r hr => ?_
    have hr' : r < c * (64 * w) := by simpa using hr
    have hle : r / 64 ≤ (c * (64 * w) + p.val) / 64 := Nat.div_le_div_right (by omega)
    refine Finset.sum_congr rfl fun y _ => ?_
    have hpos : (0 : ℝ) ≤ ((c * (64 * w) + p.val : ℕ) : ℝ) - r := by
      have : (r : ℝ) ≤ ((c * (64 * w) + p.val : ℕ) : ℝ) := by exact_mod_cast (by omega)
      linarith
    rw [if_pos hle, abs_of_nonneg hpos,
      show lg * (((c * (64 * w) + p.val : ℕ) : ℝ) - r) = lg * (((c * (64 * w) : ℕ) : ℝ) - 1 - r) + lg * ((p.val : ℝ) + 1) by push_cast; ring, Real.exp_add]
    ring
  · refine Finset.sum_congr rfl fun x _ => ?_
    have e1 : ∀ z : ℕ, (c * (64 * w) + z) / 64 = c * w + z / 64 := fun z => by
      rw [show c * (64 * w) + z = z + 64 * (c * w) by ring, Nat.add_mul_div_left _ _ (by norm_num)]; ring
    have e2 : (((c * (64 * w) + p.val : ℕ) : ℝ) - ((c * (64 * w) + x.val : ℕ) : ℝ)) = (p.val : ℝ) - x.val := by push_cast; ring
    rw [e1, e1, e2]
    by_cases hx : x.val / 64 ≤ p.val / 64
    · rw [if_pos hx, if_pos (by omega)]; ring
    · rw [if_neg hx, if_neg (by omega)]; ring

/-- One step of the state by a block of `B` rows, over the extended reals. -/
theorem state_step (lg : ℝ) (K V : ℕ → Fin 256 → ℝ) (B c : ℕ) (d e : Fin 256) :
    ((state lg K V (c * B) d e : ℝ) : EReal) * (Real.exp (lg * B) : ℝ)
        + ∑ p : Fin B, ((K (c * B + p.val) d : ℝ) : EReal) * (Real.exp (lg * ((B : ℝ) - 1 - p.val)) : ℝ) * (V (c * B + p.val) e : ℝ)
      = ((state lg K V ((c + 1) * B) d e : ℝ) : EReal) := by
  rw [← state_step_real, EReal.coe_add, EReal.coe_mul, coe_sum]
  simp only [EReal.coe_mul]

/-- One row of a block of `B` rows, over the extended reals. -/
theorem seen_block (lg : ℝ) (Q K V : ℕ → Fin 256 → ℝ) (B c : ℕ) (hB : 64 ∣ B) (p : Fin B) (e : Fin 256) :
    (∑ x : Fin B, ((∑ y, ((Q (c * B + p.val) y : ℝ) : EReal) * (K (c * B + x.val) y : ℝ)) * ((if x.val / 64 ≤ p.val / 64 then Real.exp (lg * |(p.val : ℝ) - x.val|) else 0 : ℝ) : EReal)) * (V (c * B + x.val) e : ℝ))
      + (∑ y, ((Q (c * B + p.val) y : ℝ) : EReal) * (state lg K V (c * B) y e : ℝ)) * (Real.exp (lg * ((p.val : ℝ) + 1)) : ℝ)
      = ((seen lg Q K V (c * B + p.val) ((c + 1) * B) e : ℝ) : EReal) := by
  rw [← seen_block_real lg Q K V B c hB p e, EReal.coe_add, EReal.coe_mul, coe_sum, coe_sum]
  simp only [EReal.coe_mul, coe_sum]

end Cert.Even

end
-- ==== Proof.EvenSpec.lean ====
/-
  The arithmetic both programs of the even mixer do on the first three parts of `z`: the rotation of queries and keys,
  the decay of each head, and that every one of these numbers is a real number when the entries of `z` are.
-/
module

public import proofs.«01_k».proof.Proof.EvenMath
public import Idealize.ShloMosaic.PureOps.Ideal
public import Idealize.ShloMosaic.PureOps.Ideal.Laws

@[expose] public section

set_option maxRecDepth 16384

noncomputable section

namespace Cert.Even

open Idealize.ShloMosaic
open scoped BigOperators

/-- The word of a small natural number, read as a float, is that number. -/
theorem word_real {p : ℕ} (h : p < 2 ^ 31) : FloatOps.sitofp (F := Ideal) FTy.f32 (BitVec.ofNat 32 p) = ((p : ℝ) : EReal) := by
  show (((BitVec.ofNat 32 p).toInt : ℝ) : EReal) = _
  have e : (BitVec.ofNat 32 p).toInt = (p : ℤ) := by
    rw [BitVec.toInt_eq_toNat_of_lt (by rw [BitVec.toNat_ofNat]; omega), BitVec.toNat_ofNat]
    omega
  rw [e]
  norm_cast

/-- The single-precision word of two. -/
theorem two_f32 : Ideal.ofBits .f32 1073741824#32 = ((2 : ℝ) : EReal) := by
  simp [Ideal.ofBits, Ideal.ieee]
  rw [← EReal.coe_mul]
  norm_num

/-- The single-precision word of minus five. -/
theorem minus5_f32 : Ideal.ofBits .f32 3231711232#32 = ((-5 : ℝ) : EReal) := by
  simp [Ideal.ofBits, Ideal.ieee]
  rw [← EReal.coe_mul]
  norm_num

/-- The single-precision word of 256. -/
theorem w256_f32 : Ideal.ofBits .f32 1132462080#32 = ((256 : ℝ) : EReal) := by
  simp [Ideal.ofBits, Ideal.ieee]
  rw [← EReal.coe_mul]
  norm_num

/-- The single-precision word of 255. -/
theorem w255_f32 : Ideal.ofBits .f32 1132396544#32 = ((255 : ℝ) : EReal) := by
  simp [Ideal.ofBits, Ideal.ieee]
  rw [← EReal.coe_mul]
  norm_num

/-- The single-precision word of 64. -/
theorem w64_f32 : Ideal.ofBits .f32 1115684864#32 = ((64 : ℝ) : EReal) := by
  simp [Ideal.ofBits, Ideal.ieee]
  rw [← EReal.coe_mul]
  norm_num

/-- The single-precision word of 63. -/
theorem w63_f32 : Ideal.ofBits .f32 1115422720#32 = ((63 : ℝ) : EReal) := by
  simp [Ideal.ofBits, Ideal.ieee]
  rw [← EReal.coe_mul]
  norm_num

/-- The single-precision word of 10000. -/
theorem w10000_f32 : Ideal.ofBits .f32 1176256512#32 = ((10000 : ℝ) : EReal) := by
  simp [Ideal.ofBits, Ideal.ieee]
  rw [← EReal.coe_mul]
  norm_num

/-- The single-precision word of one sixteenth. -/
theorem sixteenth_f32 : Ideal.ofBits .f32 1031798784#32 = ((1 / 16 : ℝ) : EReal) := by
  simp [Ideal.ofBits, Ideal.ieee]
  rw [← EReal.coe_mul]
  norm_num

/-- The logarithm of head `h`'s decay, as both programs compute it. -/
abbrev logDecay (h : ℕ) : EReal :=
  Ideal.log (1 - Ideal.pow (Ideal.ofBits .f32 1073741824#32)
    (Ideal.ofBits .f32 3231711232#32 - FloatOps.sitofp (F := Ideal) FTy.f32 (BitVec.ofNat 32 h)))

/-- The logarithm of head `h`'s decay. -/
def lam (h : ℕ) : ℝ := Real.log (1 - Real.rpow 2 (-5 - h))

/-- The programs' logarithm of the decay is a real number. -/
theorem logDecay_eq {h : ℕ} (hh : h < 4) : logDecay h = ((lam h : ℝ) : EReal) := by
  unfold logDecay
  rw [two_f32, minus5_f32, word_real (by omega), ← EReal.coe_sub, Ideal.pow_coe_coe, ← EReal.coe_one, ← EReal.coe_sub, Ideal.log_coe,
    if_neg]
  · rfl
  · have e : Real.rpow 2 (-5 - h) < 1 := Real.rpow_lt_one_of_one_lt_of_neg (by norm_num) (by
      have : (0 : ℝ) ≤ h := Nat.cast_nonneg h
      linarith)
    linarith

/-- The angle by which position `s` turns the pair of columns `i`, as both programs compute it. -/
def angle (s i : ℕ) : EReal :=
  FloatOps.sitofp (F := Ideal) FTy.f32 (BitVec.ofNat 32 s) *
    Ideal.pow (Ideal.ofBits .f32 1176256512#32)
      (Ideal.div (-(Ideal.ofBits .f32 1073741824#32 * FloatOps.sitofp (F := Ideal) FTy.f32 (BitVec.ofNat 32 i)))
        (Ideal.ofBits .f32 1132462080#32))

/-- The angles are real numbers. -/
theorem angle_real {s i : ℕ} (hs : s < 2 ^ 31) (hi : i < 2 ^ 31) : ∃ r : ℝ, angle s i = (r : EReal) := by
  unfold angle
  rw [word_real hs, word_real hi, w10000_f32, two_f32, w256_f32, ← EReal.coe_mul, ← EReal.coe_neg, Ideal.div_coe (by norm_num), ← EReal.coe_mul,
    Ideal.pow_coe_coe, ← EReal.coe_mul]
  exact ⟨_, rfl⟩

/-- Column `d` of one head of one row, its halves turned into each other by the angles of position `s`. -/
def turned (x : ℕ → EReal) (s d : ℕ) : EReal :=
  if d < 128 then x d * Ideal.cos (angle s d) - x (128 + d) * Ideal.sin (angle s d)
  else x (d - 128) * Ideal.sin (angle s (d - 128)) + x (128 + (d - 128)) * Ideal.cos (angle s (d - 128))

/-- A turned row of real numbers is real. -/
theorem turned_real {x : ℕ → EReal} {s d : ℕ} (hs : s < 2 ^ 31) (hd : d < 256) (hx : ∀ i, ∃ r : ℝ, x i = (r : EReal)) :
    ∃ r : ℝ, turned x s d = (r : EReal) := by
  unfold turned
  split
  · obtain ⟨a, ha⟩ := angle_real (i := d) hs (by omega)
    obtain ⟨u, hu⟩ := hx d
    obtain ⟨w, hw⟩ := hx (128 + d)
    rw [ha, hu, hw, Ideal.cos_coe, Ideal.sin_coe, ← EReal.coe_mul, ← EReal.coe_mul, ← EReal.coe_sub]
    exact ⟨_, rfl⟩
  · obtain ⟨a, ha⟩ := angle_real (i := d - 128) hs (by omega)
    obtain ⟨u, hu⟩ := hx (d - 128)
    obtain ⟨w, hw⟩ := hx (128 + (d - 128))
    rw [ha, hu, hw, Ideal.cos_coe, Ideal.sin_coe, ← EReal.coe_mul, ← EReal.coe_mul, ← EReal.coe_add]
    exact ⟨_, rfl⟩

variable (z : FVec Ideal ⟨2, ![8192, 6144]⟩ .bf16)

/-- Entry (`r`, `c`) of `z`, zero outside. -/
def zAt (r c : ℕ) : EReal := if h : r < 8192 ∧ c < 6144 then z (ix2 ⟨r, h.1⟩ ⟨c, h.2⟩) else 0

/-- Inside `z` the entry is read. -/
theorem zAt_eq {r c : ℕ} (hr : r < 8192) (hc : c < 6144) : z (ix2 ⟨r, hr⟩ ⟨c, hc⟩) = zAt z r c := by
  unfold zAt
  rw [dif_pos ⟨hr, hc⟩]

/-- The entries of the first three parts of `z` are real numbers. -/
def RealParts : Prop := ∀ r c, c < 3072 → ∃ x : ℝ, zAt z r c = (x : EReal)

/-- The query of batch `b`, head `h`, position `s` at column `d`. -/
def qE (b h s d : ℕ) : EReal := turned (fun i => zAt z (b * 4096 + s) (h * 256 + i)) s d

/-- The scaled key of batch `b`, head `h`, position `s` at column `d`. -/
def kE (b h s d : ℕ) : EReal := turned (fun i => zAt z (b * 4096 + s) (1024 + (h * 256 + i))) s d * Ideal.ofBits .f32 1031798784#32

/-- The value of batch `b`, head `h`, position `s` at column `d`. -/
def vE (b h s d : ℕ) : EReal := zAt z (b * 4096 + s) (2048 + (h * 256 + d))

/-- The query as a real number. -/
def qR (b h : ℕ) (s : ℕ) (d : Fin 256) : ℝ := (qE z b h s d).toReal

/-- The scaled key as a real number. -/
def kR (b h : ℕ) (s : ℕ) (d : Fin 256) : ℝ := (kE z b h s d).toReal

/-- The value as a real number. -/
def vR (b h : ℕ) (s : ℕ) (d : Fin 256) : ℝ := (vE z b h s d).toReal

variable {z}

/-- Queries are real. -/
theorem qE_eq (H : RealParts z) {b h s : ℕ} (d : Fin 256) (hh : h < 4) (hs : s < 4096) : qE z b h s d = ((qR z b h s d : ℝ) : EReal) := by
  have hd := d.isLt
  have e : ∃ r : ℝ, qE z b h s d = (r : EReal) := by
    unfold qE turned
    split
    · rename_i hlt
      obtain ⟨a, ha⟩ := angle_real (s := s) (i := d) (by omega) (by omega)
      obtain ⟨u, hu⟩ := H (b * 4096 + s) (h * 256 + d) (by omega)
      obtain ⟨w, hw⟩ := H (b * 4096 + s) (h * 256 + (128 + d)) (by omega)
      simp only [ha, hu, hw, Ideal.cos_coe, Ideal.sin_coe, ← EReal.coe_mul, ← EReal.coe_sub]
      exact ⟨_, rfl⟩
    · obtain ⟨a, ha⟩ := angle_real (s := s) (i := d - 128) (by omega) (by omega)
      obtain ⟨u, hu⟩ := H (b * 4096 + s) (h * 256 + (d - 128)) (by omega)
      obtain ⟨w, hw⟩ := H (b * 4096 + s) (h * 256 + (128 + (d - 128))) (by omega)
      simp only [ha, hu, hw, Ideal.cos_coe, Ideal.sin_coe, ← EReal.coe_mul, ← EReal.coe_add]
      exact ⟨_, rfl⟩
  obtain ⟨r, hr⟩ := e
  unfold qR
  rw [hr, EReal.toReal_coe]

/-- Keys are real. -/
theorem kE_eq (H : RealParts z) {b h s : ℕ} (d : Fin 256) (hh : h < 4) (hs : s < 4096) : kE z b h s d = ((kR z b h s d : ℝ) : EReal) := by
  have hd := d.isLt
  have e : ∃ r : ℝ, kE z b h s d = (r : EReal) := by
    unfold kE turned
    split
    · rename_i hlt
      obtain ⟨a, ha⟩ := angle_real (s := s) (i := d) (by omega) (by omega)
      obtain ⟨u, hu⟩ := H (b * 4096 + s) (1024 + (h * 256 + d)) (by omega)
      obtain ⟨w, hw⟩ := H (b * 4096 + s) (1024 + (h * 256 + (128 + d))) (by omega)
      simp only [ha, hu, hw, Ideal.cos_coe, Ideal.sin_coe, sixteenth_f32, ← EReal.coe_mul, ← EReal.coe_sub]
      exact ⟨_, rfl⟩
    · obtain ⟨a, ha⟩ := angle_real (s := s) (i := d - 128) (by omega) (by omega)
      obtain ⟨u, hu⟩ := H (b * 4096 + s) (1024 + (h * 256 + (d - 128))) (by omega)
      obtain ⟨w, hw⟩ := H (b * 4096 + s) (1024 + (h * 256 + (128 + (d - 128)))) (by omega)
      simp only [ha, hu, hw, Ideal.cos_coe, Ideal.sin_coe, sixteenth_f32, ← EReal.coe_mul, ← EReal.coe_add]
      exact ⟨_, rfl⟩
  obtain ⟨r, hr⟩ := e
  unfold kR
  rw [hr, EReal.toReal_coe]

/-- Values are real. -/
theorem vE_eq (H : RealParts z) {b h s : ℕ} (d : Fin 256) (hh : h < 4) : vE z b h s d = ((vR z b h s d : ℝ) : EReal) := by
  have hd := d.isLt
  obtain ⟨r, hr⟩ := H (b * 4096 + s) (2048 + (h * 256 + d)) (by omega)
  unfold vR
  unfold vE
  rw [hr, EReal.toReal_coe]

variable (z)

/-- What position `s` of batch `b` sees in head `h` at column `e`. -/
def retained (b h s : ℕ) (e : Fin 256) : EReal := ((seen (lam h) (qR z b h) (kR z b h) (vR z b h) s 4096 e : ℝ) : EReal)

/-- Column `d` of a row `x`, scaled by the reciprocal root of its mean square and gated by `g`. -/
def gated (x : Fin 256 → EReal) (g : EReal) (d : Fin 256) : EReal :=
  x d * Ideal.rsqrt (Ideal.div (∑ i, x i * x i) (Ideal.ofBits .f32 1132462080#32) + Ideal.ofBits .f32 897988541#32) * (g * Ideal.logistic g)

end Cert.Even

end
-- ==== Proof.EvenRefEntry.lean ====
/-
  What the reference's loop of the even mixer starts from: the chunks of queries, keys and values, the decay tables
  and the zero state, each read at one index in the terms of EvenSpec.
-/
module

public import proofs.«01_k».proof.Proof.EvenRefOps
public import proofs.«01_k».proof.Proof.EvenSpec

@[expose] public section

set_option maxRecDepth 16384

noncomputable section

namespace Cert.Even.Ref

open Idealize.ShloMosaic Idealize.ShloMosaic.TcCoe Idealize.SL.Sem
open Cert.EvenRefIdeal Cert.EvenRefIdeal.Gen Cert.EvenRefIdeal.Value Idealize.ShloMosaic.StableHlo
open scoped BigOperators

variable (V : Valuation τ sig (Elt Ideal))

/-- The reference's argument `z`. -/
abbrev aZ : FVec Ideal ⟨2, ![8192, 6144]⟩ .bf16 := V (Proc.devRef .tc main_arg0)

/-- The query part of `z`. -/
theorem x2_at (r : Fin 8192) (d : Fin 1024) : x2 V (ix2 r d) = zAt (aZ V) r d := by
  rw [← zAt_eq (aZ V) r.isLt (by have := d.isLt; omega)]
  unfold x2
  after_reads_at

/-- The key part of `z`. -/
theorem x39_at (r : Fin 8192) (d : Fin 1024) : x39 V (ix2 r d) = zAt (aZ V) r (1024 + d) := by
  rw [← zAt_eq (aZ V) r.isLt (by have := d.isLt; omega)]
  unfold x39
  after_reads_at

/-- The value part of `z`. -/
theorem x76_at (r : Fin 8192) (d : Fin 1024) : x76 V (ix2 r d) = zAt (aZ V) r (2048 + d) := by
  rw [← zAt_eq (aZ V) r.isLt (by have := d.isLt; omega)]
  unfold x76
  after_reads_at

/-- The query part split into batches, positions and heads. -/
theorem x4_at (b : Fin 2) (s : Fin 4096) (h : Fin 4) (d : Fin 256) : x4 V (ix4 b s h d) = zAt (aZ V) (b * 4096 + s) (h * 256 + d) := by
  rw [e4, e3]
  pointwise
  exact x2_at V _ _

/-- The key part split into batches, positions and heads. -/
theorem x41_at (b : Fin 2) (s : Fin 4096) (h : Fin 4) (d : Fin 256) : x41 V (ix4 b s h d) = zAt (aZ V) (b * 4096 + s) (1024 + (h * 256 + d)) := by
  rw [e41, e40]
  pointwise
  exact x39_at V _ _

/-- The value part split into batches, positions and heads. -/
theorem x78_at (b : Fin 2) (s : Fin 4096) (h : Fin 4) (d : Fin 256) : x78 V (ix4 b s h d) = zAt (aZ V) (b * 4096 + s) (2048 + (h * 256 + d)) := by
  rw [e78, e77]
  pointwise
  exact x76_at V _ _

/-- The cosines the queries are turned by. -/
theorem x22_at (s : Fin 4096) (d : Fin 128) : x22 V (ix4 0 s 0 d) = Ideal.cos (angle s d) := by
  unfold x22
  after_reads_at
  rfl

/-- The sines the queries are turned by. -/
theorem x24_at (s : Fin 4096) (d : Fin 128) : x24 V (ix4 0 s 0 d) = Ideal.sin (angle s d) := by
  unfold x24
  after_reads_at
  rfl

/-- The cosines the keys are turned by. -/
theorem x59_at (s : Fin 4096) (d : Fin 128) : x59 V (ix4 0 s 0 d) = Ideal.cos (angle s d) := by
  unfold x59
  after_reads_at
  rfl

/-- The sines the keys are turned by. -/
theorem x61_at (s : Fin 4096) (d : Fin 128) : x61 V (ix4 0 s 0 d) = Ideal.sin (angle s d) := by
  unfold x61
  after_reads_at
  rfl

/-- The turned queries. -/
theorem x37_at (b : Fin 2) (s : Fin 4096) (h : Fin 4) (d : Fin 256) : x37 V (ix4 b s h d) = qE (aZ V) b h s d := by
  rw [e37, e36, e31, e28, e30, e33, e35, e25, e26, e27, e29, e32, e34]
  pointwise
  by_cases hd : (d : ℕ) < 128
  · refine Eq.trans (dif_pos hd) ?_
    show _ = ite _ _ _
    rw [if_pos hd, x4_at, x4_at, x22_at, x24_at]
  · refine Eq.trans (dif_neg hd) ?_
    show _ = ite _ _ _
    rw [if_neg hd, x4_at, x4_at, x22_at, x24_at]

/-- The turned keys. -/
theorem x74_at (b : Fin 2) (s : Fin 4096) (h : Fin 4) (d : Fin 256) :
    x74 V (ix4 b s h d) = turned (fun i => zAt (aZ V) (b * 4096 + s) (1024 + (h * 256 + i))) s d := by
  rw [e74, e73, e68, e65, e67, e70, e72, e62, e63, e64, e66, e69, e71]
  pointwise
  by_cases hd : (d : ℕ) < 128
  · refine Eq.trans (dif_pos hd) ?_
    show _ = ite _ _ _
    rw [if_pos hd, x41_at, x41_at, x59_at, x61_at]
  · refine Eq.trans (dif_neg hd) ?_
    show _ = ite _ _ _
    rw [if_neg hd, x41_at, x41_at, x59_at, x61_at]

/-- The scale of the keys. -/
theorem x89_at (b : Fin 2) (s : Fin 4096) (h : Fin 4) (d : Fin 256) : x89 V (ix4 b s h d) = Ideal.ofBits .f32 1031798784#32 := by
  unfold x89
  after_reads_at

/-- The loop's chunks of queries. -/
theorem chunkQ (k : Fin 64) (b : Fin 2) (h : Fin 4) (p : Fin 64) (d : Fin 256) :
    x132_0 V (ix5 k b h p d) = qE (aZ V) b h (k * 64 + p) d := by
  rw [e132_0, e88, e87]
  pointwise
  exact x37_at V _ _ _ _

/-- The loop's chunks of scaled keys. -/
theorem chunkK (k : Fin 64) (b : Fin 2) (h : Fin 4) (p : Fin 64) (d : Fin 256) :
    x132_1 V (ix5 k b h p d) = kE (aZ V) b h (k * 64 + p) d := by
  rw [e132_1, e92, e91, e90]
  pointwise
  rw [x74_at, x89_at]
  rfl

/-- The loop's chunks of values. -/
theorem chunkV (k : Fin 64) (b : Fin 2) (h : Fin 4) (p : Fin 64) (d : Fin 256) :
    x132_2 V (ix5 k b h p d) = vE (aZ V) b h (k * 64 + p) d := by
  rw [e132_2, e94, e93]
  pointwise
  exact x78_at V _ _ _ _

/-- The weight of one position of a chunk for another. -/
theorem tableD (h : Fin 4) (p q : Fin 64) :
    after hostOps0 V (Proc.devRef .tc main_v132_3) (ix3 h p q) = ((Real.exp (lam h * |(p : ℝ) - q|) : ℝ) : EReal) := by
  after_reads_simp
  clean_types
  simp only [id_eq]
  pointwise
  show Ideal.exp (logDecay h * max _ (-_)) = _
  have hp := p.isLt
  have hq := q.isLt
  rw [logDecay_eq h.isLt, word_real (by omega), word_real (by omega), ← EReal.coe_sub, ← EReal.coe_neg,
    ← (EReal.coe_strictMono.monotone).map_max, ← EReal.coe_mul, Ideal.exp_coe]
  rfl

/-- The decay of the state read by a chunk's positions. -/
theorem tableXi (h : Fin 4) (p : Fin 64) :
    after hostOps0 V (Proc.devRef .tc main_v132_4) (ix4 0 h p 0) = ((Real.exp (lam h * ((p : ℝ) + 1)) : ℝ) : EReal) := by
  after_reads_simp
  clean_types
  simp only [id_eq]
  pointwise
  show Ideal.exp (logDecay h * _) = _
  have hp := p.isLt
  rw [logDecay_eq h.isLt, word_real (by omega), ← EReal.coe_one, ← EReal.coe_add, ← EReal.coe_mul, Ideal.exp_coe]

/-- The decay of the state over a chunk. -/
theorem tableG (h : Fin 4) : after hostOps0 V (Proc.devRef .tc main_v132_5) (ix4 0 h 0 0) = ((Real.exp (lam h * (64 : ℕ)) : ℝ) : EReal) := by
  after_reads_simp
  clean_types
  simp only [id_eq]
  pointwise
  show Ideal.exp (logDecay h * _) = _
  rw [logDecay_eq h.isLt, w64_f32, ← EReal.coe_mul, Ideal.exp_coe]
  norm_num

/-- The decay with which a chunk's positions enter the state. -/
theorem tableZeta (h : Fin 4) (p : Fin 64) :
    after hostOps0 V (Proc.devRef .tc main_v132_6) (ix4 0 h p 0) = ((Real.exp (lam h * (((64 : ℕ) : ℝ) - 1 - p)) : ℝ) : EReal) := by
  after_reads_simp
  clean_types
  simp only [id_eq]
  pointwise
  show Ideal.exp (logDecay h * _) = _
  have hp := p.isLt
  rw [logDecay_eq h.isLt, word_real (by omega), w63_f32, ← EReal.coe_sub, ← EReal.coe_mul, Ideal.exp_coe]
  norm_num

/-- The state starts at zero. -/
theorem state0 (b : Fin 2) (h : Fin 4) (d e : Fin 256) : after hostOps0 V (Proc.devRef .tc main_v132_8) (ix4 b h d e) = (0 : EReal) := by
  after_reads_simp
  clean_types
  simp only [id_eq]
  pointwise

variable (m : (l : Loc nD τ sig) → Buf (Elt Ideal) l)

/-- What the loop starts from. -/
theorem entry_eq (c : Dev nD) : entryContents preI m c = after hostOps0 (fun b => m (c, b)) := by
  simp only [entryContents, afterL_cons, afterL_nil]

end Cert.Even.Ref

end
-- ==== Proof.EvenRefLoop.lean ====
/-
  The reference's loop over chunks of 64 positions: after `k` trips its state is the decayed sum over the first
  `k * 64` positions, and the first `k` chunks of its outputs are what their positions see.
-/
module

public import proofs.«01_k».proof.Proof.EvenRefEntry

@[expose] public section

set_option maxRecDepth 16384

noncomputable section

namespace Cert.Even.Ref

open Idealize.ShloMosaic Idealize.ShloMosaic.TcCoe Idealize.SL.Sem
open Cert.EvenRefIdeal Cert.EvenRefIdeal.Gen Cert.EvenRefIdeal.Value Idealize.ShloMosaic.StableHlo
open scoped BigOperators

/-- The starts of chunk `k` are inside, so they are not moved. -/
theorem chunk_start (st : Fin S64x2x4x64x256.rank → Int) (k : Fin 64) (h0 : st 0 = k.val) (h1 : ∀ a : Fin 4, st a.succ = 0)
    (hr : S1x2x4x64x256.rank = S64x2x4x64x256.rank) (a : Fin S64x2x4x64x256.rank) :
    Host.clampedStart S64x2x4x64x256 S1x2x4x64x256 hr st a = if a = 0 then k.val else 0 := by
  have hk := k.isLt
  match a with
  | ⟨0, _⟩ => exact Host.clampedStart_of_le hr st _ k.val h0 (by show k.val + 1 ≤ 64; omega)
  | ⟨1, _⟩ => exact Host.clampedStart_of_le hr st _ 0 (h1 0) (by show 0 + 2 ≤ 2; omega)
  | ⟨2, _⟩ => exact Host.clampedStart_of_le hr st _ 0 (h1 1) (by show 0 + 4 ≤ 4; omega)
  | ⟨3, _⟩ => exact Host.clampedStart_of_le hr st _ 0 (h1 2) (by show 0 + 64 ≤ 64; omega)
  | ⟨4, _⟩ => exact Host.clampedStart_of_le hr st _ 0 (h1 3) (by show 0 + 256 ≤ 256; omega)

/-- A slice of one chunk reads that chunk. -/
theorem slice_at (x : FVec Ideal S64x2x4x64x256 .f32) (st : Fin S64x2x4x64x256.rank → Int) (k : Fin 64) (h0 : st 0 = k.val)
    (h1 : ∀ a : Fin 4, st a.succ = 0) (hs : S64x2x4x64x256.Slices (fun _ => 0) S1x2x4x64x256)
    (b : Fin 2) (h : Fin 4) (p : Fin 64) (d : Fin 256) :
    Host.dynamicSlice S1x2x4x64x256 x st hs (ix5 0 b h p d) = x (ix5 k b h p d) := by
  rw [Host.dynamicSlice_apply]
  refine congrArg x (funext fun a => Fin.ext ?_)
  have e := chunk_start st k h0 h1 hs.1 a
  match a with
  | ⟨0, _⟩ => exact congrArg (· + 0) e
  | ⟨1, _⟩ => exact (congrArg (· + b.val) e).trans (Nat.zero_add _)
  | ⟨2, _⟩ => exact (congrArg (· + h.val) e).trans (Nat.zero_add _)
  | ⟨3, _⟩ => exact (congrArg (· + p.val) e).trans (Nat.zero_add _)
  | ⟨4, _⟩ => exact (congrArg (· + d.val) e).trans (Nat.zero_add _)

/-- Writing one chunk changes that chunk. -/
theorem update_same (x : FVec Ideal S64x2x4x64x256 .f32) (u : FVec Ideal S1x2x4x64x256 .f32) (st : Fin S64x2x4x64x256.rank → Int) (k : Fin 64)
    (h0 : st 0 = k.val) (h1 : ∀ a : Fin 4, st a.succ = 0) (hs : S64x2x4x64x256.Slices (fun _ => 0) S1x2x4x64x256)
    (b : Fin 2) (h : Fin 4) (p : Fin 64) (d : Fin 256) :
    Host.dynamicUpdateSlice x u st hs (ix5 k b h p d) = u (ix5 0 b h p d) := by
  rw [Host.dynamicUpdateSlice_apply, dif_pos]
  · refine congrArg u (funext fun a => Fin.ext ?_)
    have e := chunk_start st k h0 h1 hs.1 (a.cast hs.1)
    match a with
    | ⟨0, _⟩ => exact (congrArg (k.val - ·) e).trans (Nat.sub_self _)
    | ⟨1, _⟩ => exact congrArg (b.val - ·) e
    | ⟨2, _⟩ => exact congrArg (h.val - ·) e
    | ⟨3, _⟩ => exact congrArg (p.val - ·) e
    | ⟨4, _⟩ => exact congrArg (d.val - ·) e
  · intro a
    rw [chunk_start st k h0 h1 hs.1 a]
    match a with
    | ⟨0, _⟩ => exact ⟨le_refl _, by show k.val < k.val + 1; omega⟩
    | ⟨1, _⟩ => exact ⟨Nat.zero_le _, by show b.val < 0 + 2; omega⟩
    | ⟨2, _⟩ => exact ⟨Nat.zero_le _, by show h.val < 0 + 4; omega⟩
    | ⟨3, _⟩ => exact ⟨Nat.zero_le _, by show p.val < 0 + 64; omega⟩
    | ⟨4, _⟩ => exact ⟨Nat.zero_le _, by show d.val < 0 + 256; omega⟩

/-- Writing one chunk leaves the others. -/
theorem update_other (x : FVec Ideal S64x2x4x64x256 .f32) (u : FVec Ideal S1x2x4x64x256 .f32) (st : Fin S64x2x4x64x256.rank → Int) (k : Fin 64)
    (h0 : st 0 = k.val) (h1 : ∀ a : Fin 4, st a.succ = 0) (hs : S64x2x4x64x256.Slices (fun _ => 0) S1x2x4x64x256)
    (j : Fin 64) (hj : j.val < k.val) (b : Fin 2) (h : Fin 4) (p : Fin 64) (d : Fin 256) :
    Host.dynamicUpdateSlice x u st hs (ix5 j b h p d) = x (ix5 j b h p d) := by
  rw [Host.dynamicUpdateSlice_apply, dif_neg]
  intro hin
  have e := (hin 0).1
  rw [chunk_start st k h0 h1 hs.1 0] at e
  have : k.val ≤ j.val := e
  omega

variable (V X : Valuation τ sig (Elt Ideal))

/-- What the loop carries after `k` trips. -/
structure Carried (k : ℕ) : Prop where
  /-- the queries, as before the loop -/
  q : X (Proc.devRef .tc main_v132_0) = x132_0 V
  /-- the keys, as before the loop -/
  ky : X (Proc.devRef .tc main_v132_1) = x132_1 V
  /-- the values, as before the loop -/
  v : X (Proc.devRef .tc main_v132_2) = x132_2 V
  /-- the weights, as before the loop -/
  w : X (Proc.devRef .tc main_v132_3) = after hostOps0 V (Proc.devRef .tc main_v132_3)
  /-- the decay of the state when read, as before the loop -/
  xi : X (Proc.devRef .tc main_v132_4) = after hostOps0 V (Proc.devRef .tc main_v132_4)
  /-- the decay of the state, as before the loop -/
  g : X (Proc.devRef .tc main_v132_5) = after hostOps0 V (Proc.devRef .tc main_v132_5)
  /-- the decay of the keys, as before the loop -/
  ze : X (Proc.devRef .tc main_v132_6) = after hostOps0 V (Proc.devRef .tc main_v132_6)
  /-- the counter -/
  n : X (Proc.devRef .tc main_v132_7) = fun _ => BitVec.ofNat 32 k
  /-- the state -/
  st : ∀ (b : Fin 2) (h : Fin 4) (d e : Fin 256), X (Proc.devRef .tc main_v132_8) (ix4 b h d e)
    = ((state (lam h) (kR (aZ V) b h) (vR (aZ V) b h) (k * 64) d e : ℝ) : EReal)
  /-- the outputs so far -/
  out : ∀ (j : Fin 64) (b : Fin 2) (h : Fin 4) (p : Fin 64) (e : Fin 256), j.val < k →
    X (Proc.devRef .tc main_v132_9) (ix5 j b h p e) = retained (aZ V) b h (j * 64 + p) e

variable {V X}

/-- Where the chunk of the current trip starts, along each axis. -/
abbrev starts (X : Valuation τ sig (Elt Ideal)) : Fin S64x2x4x64x256.rank → Int := fun a =>
  ((![X (Proc.devRef .tc main_v132_7), constantI S_ 32 0#32, constantI S_ 32 0#32, constantI S_ 32 0#32, constantI S_ 32 0#32] : Fin 5 → IVec S_ 32) a (Shape.Idx.first h_S_)).toInt

/-- The counter's word is the chunk's number. -/
theorem counter {k : Fin 64} (I : Carried V X k) :
    ((X (Proc.devRef .tc main_v132_7) : IVec S_ 32) (Shape.Idx.first h_S_)).toInt = (k.val : ℤ) := by
  have hk := k.isLt
  rw [I.n, BitVec.toInt_eq_toNat_of_lt (by rw [BitVec.toNat_ofNat]; omega), BitVec.toNat_ofNat]
  omega

/-- The other starts are zero. -/
theorem others : ∀ a : Fin 4, (((![X (Proc.devRef .tc main_v132_7), constantI S_ 32 0#32, constantI S_ 32 0#32, constantI S_ 32 0#32, constantI S_ 32 0#32] : Fin 5 → IVec S_ 32)) a.succ (Shape.Idx.first h_S_)).toInt = 0 := by
  intro a
  match a with
  | ⟨0, _⟩ => rfl
  | ⟨1, _⟩ => rfl
  | ⟨2, _⟩ => rfl
  | ⟨3, _⟩ => rfl

/-- The chunk of queries of trip `k`. -/
theorem q_at {k : Fin 64} (I : Carried V X k) (b : Fin 2) (h : Fin 4) (p : Fin 64) (d : Fin 256) :
    res_main_while0b_v217 X (ix4 b h p d) = qE (aZ V) b h (k * 64 + p) d := by
  refine Eq.trans ?_ (chunkQ V k b h p d)
  rw [← I.q]
  refine Eq.trans ?_ (slice_at (X (Proc.devRef .tc main_v132_0)) (starts X) k (counter I) others sliceFits_S64x2x4x64x256_S1x2x4x64x256 b h p d)
  unfold res_main_while0b_v217
  generalize Host.dynamicSlice S1x2x4x64x256 _ _ _ = y
  pointwise

/-- The chunk of scaled keys of trip `k`. -/
theorem k_at {k : Fin 64} (I : Carried V X k) (b : Fin 2) (h : Fin 4) (p : Fin 64) (d : Fin 256) :
    res_main_while0b_v218 X (ix4 b h p d) = kE (aZ V) b h (k * 64 + p) d := by
  refine Eq.trans ?_ (chunkK V k b h p d)
  rw [← I.ky]
  refine Eq.trans ?_ (slice_at (X (Proc.devRef .tc main_v132_1)) (starts X) k (counter I) others sliceFits_S64x2x4x64x256_S1x2x4x64x256 b h p d)
  unfold res_main_while0b_v218
  generalize Host.dynamicSlice S1x2x4x64x256 _ _ _ = y
  pointwise

/-- The chunk of values of trip `k`. -/
theorem v_at {k : Fin 64} (I : Carried V X k) (b : Fin 2) (h : Fin 4) (p : Fin 64) (d : Fin 256) :
    res_main_while0b_v219 X (ix4 b h p d) = vE (aZ V) b h (k * 64 + p) d := by
  refine Eq.trans ?_ (chunkV V k b h p d)
  rw [← I.v]
  refine Eq.trans ?_ (slice_at (X (Proc.devRef .tc main_v132_2)) (starts X) k (counter I) others sliceFits_S64x2x4x64x256_S1x2x4x64x256 b h p d)
  unfold res_main_while0b_v219
  generalize Host.dynamicSlice S1x2x4x64x256 _ _ _ = y
  pointwise

/-- The state after a trip. -/
theorem st_step (H : RealParts (aZ V)) {k : Fin 64} (I : Carried V X k) (b : Fin 2) (h : Fin 4) (d e : Fin 256) :
    step_main_v132_8 X (ix4 b h d e) = ((state (lam h) (kR (aZ V) b h) (vR (aZ V) b h) ((k + 1) * 64) d e : ℝ) : EReal) := by
  have hk := k.isLt
  rw [← state_step (lam h) (kR (aZ V) b h) (vR (aZ V) b h) 64 k d e]
  unfold step_main_v132_8
  rw [id_eq]
  pointwise
  rw [I.st, I.g, tableG]
  refine congrArg _ (Finset.sum_congr rfl fun x _ => ?_)
  have hx := x.isLt
  rw [k_at I, v_at I, I.ze, tableZeta, kE_eq H d h.isLt (by omega), vE_eq H e h.isLt]

/-- The chunk of outputs a trip writes. -/
theorem out_step (H : RealParts (aZ V)) {k : Fin 64} (I : Carried V X k) (b : Fin 2) (h : Fin 4) (p : Fin 64) (e : Fin 256) :
    step_main_v132_9 X (ix5 k b h p e) = retained (aZ V) b h (k * 64 + p) e := by
  have hk := k.isLt
  have hp := p.isLt
  unfold retained
  rw [seen_eq _ _ _ _ (k * 64 + p) ((k + 1) * 64) 4096 e (by omega) (by omega) (by omega),
    ← seen_block (lam h) (qR (aZ V) b h) (kR (aZ V) b h) (vR (aZ V) b h) 64 k (by norm_num) p e]
  unfold step_main_v132_9
  rw [id_eq]
  refine (update_same _ _ _ k (counter I) others sliceFits_S64x2x4x64x256_S1x2x4x64x256 b h p e).trans ?_
  pointwise
  refine congrArg₂ (· + ·) (Finset.sum_congr rfl fun x _ => ?_) ?_
  · have hx := x.isLt
    rw [I.w, tableD, v_at I, vE_eq H e h.isLt, if_pos (by omega)]
    refine congrArg (· * _ * _) (Finset.sum_congr rfl fun y _ => ?_)
    rw [q_at I, k_at I, qE_eq H y h.isLt (by omega), kE_eq H y h.isLt (by omega)]
  · rw [I.xi, tableXi]
    refine congrArg (· * _) (Finset.sum_congr rfl fun y _ => ?_)
    rw [q_at I, I.st, qE_eq H y h.isLt (by omega)]

/-- One trip. -/
theorem step (H : RealParts (aZ V)) {k : Fin 64} (I : Carried V X k) : Carried V (STEP X) (k + 1) where
  q := (STEP_main_v132_0 X).trans I.q
  ky := (STEP_main_v132_1 X).trans I.ky
  v := (STEP_main_v132_2 X).trans I.v
  w := (STEP_main_v132_3 X).trans I.w
  xi := (STEP_main_v132_4 X).trans I.xi
  g := (STEP_main_v132_5 X).trans I.g
  ze := (STEP_main_v132_6 X).trans I.ze
  n := by
    rw [STEP_main_v132_7]
    unfold step_main_v132_7
    rw [I.n, id_eq]
    funext i
    show BitVec.ofNat 32 k.val + 1#32 = BitVec.ofNat 32 (k.val + 1)
    rw [BitVec.ofNat_add]
  st := fun b h d e => by
    rw [STEP_main_v132_8]
    exact st_step H I b h d e
  out := fun j b h p e hj => by
    rw [STEP_main_v132_9]
    by_cases hjk : j = k
    · subst hjk
      exact out_step H I b h p e
    · have : j.val ≠ k.val := fun h => hjk (Fin.ext h)
      refine Eq.trans ?_ (I.out j b h p e (by omega))
      unfold step_main_v132_9
      rw [id_eq]
      exact update_other _ _ _ k (counter I) others sliceFits_S64x2x4x64x256_S1x2x4x64x256 j (by omega) b h p e

variable (m : (l : Loc nD τ sig) → Buf (Elt Ideal) l)

/-- Before the loop. -/
theorem inv_entry (c : Dev nD) : Carried (fun b => m (c, b)) (entryContents preI m c) 0 where
  q := congrFun (entry_eq m c) _
  ky := congrFun (entry_eq m c) _
  v := congrFun (entry_eq m c) _
  w := congrFun (entry_eq m c) _
  xi := congrFun (entry_eq m c) _
  g := congrFun (entry_eq m c) _
  ze := congrFun (entry_eq m c) _
  n := ctr_entry m c
  st := fun b h d e => by
    rw [entry_eq, state0, Nat.zero_mul, state_zero]
    rfl
  out := fun _ _ _ _ _ hj => absurd hj (Nat.not_lt_zero _)

/-- After `k` trips. -/
theorem inv_iter (c : Dev nD) (H : RealParts (aZ fun b => m (c, b))) : ∀ k : ℕ, k ≤ 64 →
    Carried (fun b => m (c, b)) (STEP^[k] (entryContents preI m c)) k
  | 0, _ => inv_entry m c
  | k + 1, hk => by
    rw [Function.iterate_succ_apply']
    exact step (k := ⟨k, by omega⟩) H (inv_iter c H k (by omega))

end Cert.Even.Ref

end
-- ==== Proof.EvenBlocks.lean ====
/-
  What the even mixer's kernel loads at a grid point, read at one index: the parts of `z`, the tables of cosines, sines and
  decays, and the gating unit's parameters.
-/
module

public import proofs.«01_k».proof.Proof.Common
public import proofs.«01_k».proof.Proof.EvenSpec
public import proofs.«01_k».proof.Proof.Gen.EvenIdeal.Value
public import Idealize.ShloMosaic.Lib.Pipeline.ReadBack
public import Idealize.ShloMosaic.Lib.Pipeline.ValueKit.Tiles
public import Idealize.ShloMosaic.Lib.Pointwise
public import Idealize.ShloMosaic.Lib.StableHlo.ReadAt

@[expose] public section

set_option maxRecDepth 16384

noncomputable section

namespace Cert.Even

open Idealize.ShloMosaic Idealize.ShloMosaic.TcCoe Idealize.SL.Sem
open Cert.EvenIdeal Cert.EvenIdeal.Gen
open scoped BigOperators

variable (m : (l : Loc nD τ sig) → Buf (Elt Ideal) l)

/-- Division of a word by sixty-four rounded down, as the programs write it. -/
def fd (w : BitVec 32) : BitVec 32 :=
  Scalar.select (IntOp.andi (IntOp.cmpi .ne (if w = 0 then 0 else if w.msb = true then -1 else 1) (if (64#32 : BitVec 32) = 0 then (0 : BitVec 32) else if (64#32 : BitVec 32).msb = true then -1 else 1))
      (IntOp.cmpi .ne (IntOp.remsi .host w 64#32) 0#32))
    (IntOp.subi (IntOp.divsi .host w 64#32) 1#32) (IntOp.divsi .host w 64#32)

/-- On the words of small numbers it is division of numbers. -/
theorem fd_word : ∀ p : Fin 256, fd (BitVec.ofNat 32 p) = BitVec.ofNat 32 (p / 64) := by decide +kernel

/-- The test "same or earlier chunk" of two small words. -/
theorem causal_word : ∀ a b : Fin 4, IntOp.ori (IntOp.cmpi .eq (BitVec.ofNat 32 a) (BitVec.ofNat 32 b)) (IntOp.cmpi .slt (BitVec.ofNat 32 b) (BitVec.ofNat 32 a))
    = if b ≤ a then 1#1 else 0#1 := by decide +kernel

/-- The test "same chunk" of two small words. -/
theorem same_word : ∀ a b : Fin 4, IntOp.cmpi .eq (BitVec.ofNat 32 a) (BitVec.ofNat 32 b) = if a = b then 1#1 else 0#1 := by decide +kernel

/-- The word of a difference of small numbers, read as a float, is that difference. -/
theorem diff_real {p e : ℕ} (hp : p < 256) (he : e < 256) :
    FloatOps.sitofp (F := Ideal) .f32 (IntOp.subi (BitVec.ofNat 32 p) (BitVec.ofNat 32 e)) = (((p : ℝ) - e : ℝ) : EReal) := by
  show (((BitVec.ofNat 32 p - BitVec.ofNat 32 e).toInt : ℝ) : EReal) = _
  have h : (BitVec.ofNat 32 p - BitVec.ofNat 32 e).toInt = (p : ℤ) - e := by
    rw [BitVec.toInt_sub, BitVec.toInt_eq_toNat_of_lt (by rw [BitVec.toNat_ofNat]; omega), BitVec.toInt_eq_toNat_of_lt (by rw [BitVec.toNat_ofNat]; omega),
      BitVec.toNat_ofNat, BitVec.toNat_ofNat]
    unfold Int.bmod
    dsimp only
    split <;> omega
  rw [h]
  norm_cast

/-- The kernel's cosines. -/
theorem V82 (c : Dev nD) (s : Fin 4096) (i : Fin 128) : V m c main_v82 (ix2 s i) = Ideal.cos (angle s i) := by
  unfold V; after_reads_at
  rfl

/-- The kernel's sines. -/
theorem V83 (c : Dev nD) (s : Fin 4096) (i : Fin 128) : V m c main_v83 (ix2 s i) = Ideal.sin (angle s i) := by
  unfold V; after_reads_at
  rfl

/-- The decay of the state read by a block's positions. -/
theorem V66 (c : Dev nD) (h : Fin 4) (p e : Fin 256) : V m c main_v66 (ix3 h p e) = ((Real.exp (lam h * ((p : ℝ) + 1)) : ℝ) : EReal) := by
  unfold V; after_reads_at
  show Ideal.exp (logDecay h * _) = _
  have hp := p.isLt
  rw [logDecay_eq h.isLt, word_real (by omega), ← EReal.coe_one, ← EReal.coe_add, ← EReal.coe_mul, Ideal.exp_coe]

/-- The decay with which a block's positions enter the state. -/
theorem V76 (c : Dev nD) (h : Fin 4) (p e : Fin 256) : V m c main_v76 (ix3 h p e) = ((Real.exp (lam h * (((256 : ℕ) : ℝ) - 1 - p)) : ℝ) : EReal) := by
  unfold V; after_reads_at
  show Ideal.exp (logDecay h * _) = _
  have hp := p.isLt
  rw [logDecay_eq h.isLt, word_real (by omega), w255_f32, ← EReal.coe_sub, ← EReal.coe_mul, Ideal.exp_coe]
  norm_num

/-- The decay of the state over a block. -/
theorem V81 (c : Dev nD) (h : Fin 4) (e : Fin 256) : V m c main_v81 (ix3 h 0 e) = ((Real.exp (lam h * (256 : ℕ)) : ℝ) : EReal) := by
  unfold V; after_reads_at
  show Ideal.exp (logDecay h * _) = _
  rw [logDecay_eq h.isLt, w256_f32, ← EReal.coe_mul, Ideal.exp_coe]
  norm_num

/-- The weight of one position of a block for another: zero for later chunks of sixty-four. -/
theorem V55 (c : Dev nD) (h : Fin 4) (p e : Fin 256) :
    V m c main_v55 (ix3 h p e) = (((if e.val / 64 ≤ p.val / 64 then Real.exp (lam h * |(p : ℝ) - e|) else 0) : ℝ) : EReal) := by
  unfold V; after_reads_at
  have hp := p.isLt
  have he := e.isLt
  have h64 : id (constantI S_ 32 64#32) ix0 = 64#32 := rfl
  simp only [h64]
  show Scalar.select (IntOp.ori (IntOp.cmpi .eq (fd (BitVec.ofNat 32 p)) (fd (BitVec.ofNat 32 e))) (IntOp.cmpi .slt (fd (BitVec.ofNat 32 e)) (fd (BitVec.ofNat 32 p))))
    (Ideal.exp (logDecay h * Scalar.select (IntOp.cmpi .eq (fd (BitVec.ofNat 32 p)) (fd (BitVec.ofNat 32 e)))
      (FloatOps.absf (FloatOps.sitofp (F := Ideal) .f32 (IntOp.subi (BitVec.ofNat 32 p) (BitVec.ofNat 32 e))))
      (FloatOps.sitofp (F := Ideal) .f32 (IntOp.subi (BitVec.ofNat 32 p) (BitVec.ofNat 32 e))))) (Ideal.ofBits .f32 0#32) = _
  rw [fd_word, fd_word, diff_real hp he, logDecay_eq h.isLt]
  have k1 := causal_word ⟨p / 64, by omega⟩ ⟨e / 64, by omega⟩
  have k2 := same_word ⟨p / 64, by omega⟩ ⟨e / 64, by omega⟩
  dsimp only at k1 k2
  rw [k1, k2]
  simp only [Fin.mk_le_mk, Fin.mk.injEq]
  by_cases hc : e.val / 64 ≤ p.val / 64
  · rw [if_pos hc, if_pos hc]
    by_cases hs : p.val / 64 = e.val / 64
    · rw [if_pos hs]
      show Ideal.exp (((lam h : ℝ) : EReal) * max (((p : ℝ) - e : ℝ) : EReal) (-(((p : ℝ) - e : ℝ) : EReal))) = _
      rw [← EReal.coe_neg, ← (EReal.coe_strictMono.monotone).map_max, ← EReal.coe_mul, Ideal.exp_coe]
      rfl
    · rw [if_neg hs]
      show Ideal.exp (((lam h : ℝ) : EReal) * (((p : ℝ) - e : ℝ) : EReal)) = _
      rw [← EReal.coe_mul, Ideal.exp_coe, abs_of_nonneg]
      have : (e : ℝ) ≤ p := by exact_mod_cast (by omega : e.val ≤ p.val)
      linarith
  · rw [if_neg hc, if_neg hc]
    show Ideal.ofBits .f32 0#32 = _
    rw [Ideal.ofBits_zero_f32]
    rfl

/-- The scale of the layer norm. -/
theorem V84 (c : Dev nD) (j : Fin 1024) : V m c main_v84 (ix2 0 j) = m ((c : Thread nD τ).loc main_arg1) (ix1 j) := by
  unfold V; after_reads_at

/-- The shift of the layer norm. -/
theorem V85 (c : Dev nD) (j : Fin 1024) : V m c main_v85 (ix2 0 j) = m ((c : Thread nD τ).loc main_arg2) (ix1 j) := by
  unfold V; after_reads_at

/-- The bias of the gating unit. -/
theorem V86 (c : Dev nD) (h : Fin 4) (p : Fin 128) : V m c main_v86 (ix3 h p 0) = m ((c : Thread nD τ).loc main_arg4) (ix2 h p) := by
  unfold V; after_reads_at

/-- The array `z`. -/
abbrev zOf (c : Dev nD) : FVec Ideal ⟨2, ![8192, 6144]⟩ .bf16 := m ((c : Thread nD τ).loc main_arg0)

/-- The block numbers of the parts of `z`. -/
theorem index_z : ∀ t : Fin cfg0.N, win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 2
    ∧ win0_3.index t (0 : Fin 2) = t.val ∧ win0_3.index t (1 : Fin 2) = 3
    ∧ win0_4.index t (0 : Fin 2) = t.val ∧ win0_4.index t (1 : Fin 2) = 4
    ∧ win0_5.index t (0 : Fin 2) = t.val ∧ win0_5.index t (1 : Fin 2) = 5 :=
  (by decide +kernel : ∀ t : Fin grid0.N, _)

/-- The block numbers of the cosines and sines. -/
theorem index_t : ∀ t : Fin cfg0.N, win0_6.index t (0 : Fin 2) = t.val % 16 ∧ win0_6.index t (1 : Fin 2) = 0
    ∧ win0_7.index t (0 : Fin 2) = t.val % 16 ∧ win0_7.index t (1 : Fin 2) = 0 :=
  (by decide +kernel : ∀ t : Fin grid0.N, _)

/-- The block numbers of the arrays loaded whole. -/
theorem index_w : ∀ t : Fin cfg0.N, win0_8.index t (0 : Fin 3) = 0 ∧ win0_8.index t (1 : Fin 3) = 0 ∧ win0_8.index t (2 : Fin 3) = 0
    ∧ win0_9.index t (0 : Fin 3) = 0 ∧ win0_9.index t (1 : Fin 3) = 0 ∧ win0_9.index t (2 : Fin 3) = 0
    ∧ win0_10.index t (0 : Fin 3) = 0 ∧ win0_10.index t (1 : Fin 3) = 0 ∧ win0_10.index t (2 : Fin 3) = 0
    ∧ win0_11.index t (0 : Fin 3) = 0 ∧ win0_11.index t (1 : Fin 3) = 0 ∧ win0_11.index t (2 : Fin 3) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 3) = 0 ∧ win0_14.index t (1 : Fin 3) = 0 ∧ win0_14.index t (2 : Fin 3) = 0
    ∧ win0_15.index t (0 : Fin 3) = 0 ∧ win0_15.index t (1 : Fin 3) = 0 ∧ win0_15.index t (2 : Fin 3) = 0 :=
  (by decide +kernel : ∀ t : Fin grid0.N, _)

/-- The query part of `z` at point `t`. -/
theorem z0 (c : Dev nD) (t : Fin cfg0.N) (p : Fin 256) (j : Fin 1024) :
    iblk m c 0 t (ix2 p j) = zAt (zOf m c) (t.val * 256 + p) (0 + j) := by
  obtain ⟨h0, h1, -⟩ := index_z t
  have hN : t.val < 32 := lt_of_lt_of_eq t.isLt (show cfg0.N = 32 from N_0)
  have hp := p.isLt
  have hj := j.isLt
  rw [← zAt_eq (zOf m c) (by omega : t.val * 256 + p.val < 8192) (by omega : 0 + j.val < 6144)]
  unfold iblk
  rw [View.read_apply]
  show V m c main_arg0 _ = _
  rw [V_main_arg0]
  refine congrArg _ (funext fun a => Fin.ext ?_)
  match a with
  | ⟨0, _⟩ => show win0_0.index t 0 * 256 + 1 * p.val = t.val * 256 + p.val; rw [h0]; omega
  | ⟨1, _⟩ => show win0_0.index t 1 * 1024 + 1 * j.val = 0 + j.val; rw [h1]; omega

/-- The key part of `z` at point `t`. -/
theorem z1 (c : Dev nD) (t : Fin cfg0.N) (p : Fin 256) (j : Fin 1024) :
    iblk m c 1 t (ix2 p j) = zAt (zOf m c) (t.val * 256 + p) (1024 + j) := by
  obtain ⟨-, -, h0, h1, -⟩ := index_z t
  have hN : t.val < 32 := lt_of_lt_of_eq t.isLt (show cfg0.N = 32 from N_0)
  have hp := p.isLt
  have hj := j.isLt
  rw [← zAt_eq (zOf m c) (by omega : t.val * 256 + p.val < 8192) (by omega : 1024 + j.val < 6144)]
  unfold iblk
  rw [View.read_apply]
  show V m c main_arg0 _ = _
  rw [V_main_arg0]
  refine congrArg _ (funext fun a => Fin.ext ?_)
  match a with
  | ⟨0, _⟩ => show win0_1.index t 0 * 256 + 1 * p.val = t.val * 256 + p.val; rw [h0]; omega
  | ⟨1, _⟩ => show win0_1.index t 1 * 1024 + 1 * j.val = 1024 + j.val; rw [h1]; omega

/-- The value part of `z` at point `t`. -/
theorem z2 (c : Dev nD) (t : Fin cfg0.N) (p : Fin 256) (j : Fin 1024) :
    iblk m c 2 t (ix2 p j) = zAt (zOf m c) (t.val * 256 + p) (2048 + j) := by
  obtain ⟨-, -, -, -, h0, h1, -⟩ := index_z t
  have hN : t.val < 32 := lt_of_lt_of_eq t.isLt (show cfg0.N = 32 from N_0)
  have hp := p.isLt
  have hj := j.isLt
  rw [← zAt_eq (zOf m c) (by omega : t.val * 256 + p.val < 8192) (by omega : 2048 + j.val < 6144)]
  unfold iblk
  rw [View.read_apply]
  show V m c main_arg0 _ = _
  rw [V_main_arg0]
  refine congrArg _ (funext fun a => Fin.ext ?_)
  match a with
  | ⟨0, _⟩ => show win0_2.index t 0 * 256 + 1 * p.val = t.val * 256 + p.val; rw [h0]; omega
  | ⟨1, _⟩ => show win0_2.index t 1 * 1024 + 1 * j.val = 2048 + j.val; rw [h1]; omega

/-- The gate part of `z` at point `t`. -/
theorem z3 (c : Dev nD) (t : Fin cfg0.N) (p : Fin 256) (j : Fin 1024) :
    iblk m c 3 t (ix2 p j) = zAt (zOf m c) (t.val * 256 + p) (3072 + j) := by
  obtain ⟨-, -, -, -, -, -, h0, h1, -⟩ := index_z t
  have hN : t.val < 32 := lt_of_lt_of_eq t.isLt (show cfg0.N = 32 from N_0)
  have hp := p.isLt
  have hj := j.isLt
  rw [← zAt_eq (zOf m c) (by omega : t.val * 256 + p.val < 8192) (by omega : 3072 + j.val < 6144)]
  unfold iblk
  rw [View.read_apply]
  show V m c main_arg0 _ = _
  rw [V_main_arg0]
  refine congrArg _ (funext fun a => Fin.ext ?_)
  match a with
  | ⟨0, _⟩ => show win0_3.index t 0 * 256 + 1 * p.val = t.val * 256 + p.val; rw [h0]; omega
  | ⟨1, _⟩ => show win0_3.index t 1 * 1024 + 1 * j.val = 3072 + j.val; rw [h1]; omega

/-- The first gelu part of `z` at point `t`. -/
theorem z4 (c : Dev nD) (t : Fin cfg0.N) (p : Fin 256) (j : Fin 1024) :
    iblk m c 4 t (ix2 p j) = zAt (zOf m c) (t.val * 256 + p) (4096 + j) := by
  obtain ⟨-, -, -, -, -, -, -, -, h0, h1, -⟩ := index_z t
  have hN : t.val < 32 := lt_of_lt_of_eq t.isLt (show cfg0.N = 32 from N_0)
  have hp := p.isLt
  have hj := j.isLt
  rw [← zAt_eq (zOf m c) (by omega : t.val * 256 + p.val < 8192) (by omega : 4096 + j.val < 6144)]
  unfold iblk
  rw [View.read_apply]
  show V m c main_arg0 _ = _
  rw [V_main_arg0]
  refine congrArg _ (funext fun a => Fin.ext ?_)
  match a with
  | ⟨0, _⟩ => show win0_4.index t 0 * 256 + 1 * p.val = t.val * 256 + p.val; rw [h0]; omega
  | ⟨1, _⟩ => show win0_4.index t 1 * 1024 + 1 * j.val = 4096 + j.val; rw [h1]; omega

/-- The second gelu part of `z` at point `t`. -/
theorem z5 (c : Dev nD) (t : Fin cfg0.N) (p : Fin 256) (j : Fin 1024) :
    iblk m c 5 t (ix2 p j) = zAt (zOf m c) (t.val * 256 + p) (5120 + j) := by
  obtain ⟨-, -, -, -, -, -, -, -, -, -, h0, h1⟩ := index_z t
  have hN : t.val < 32 := lt_of_lt_of_eq t.isLt (show cfg0.N = 32 from N_0)
  have hp := p.isLt
  have hj := j.isLt
  rw [← zAt_eq (zOf m c) (by omega : t.val * 256 + p.val < 8192) (by omega : 5120 + j.val < 6144)]
  unfold iblk
  rw [View.read_apply]
  show V m c main_arg0 _ = _
  rw [V_main_arg0]
  refine congrArg _ (funext fun a => Fin.ext ?_)
  match a with
  | ⟨0, _⟩ => show win0_5.index t 0 * 256 + 1 * p.val = t.val * 256 + p.val; rw [h0]; omega
  | ⟨1, _⟩ => show win0_5.index t 1 * 1024 + 1 * j.val = 5120 + j.val; rw [h1]; omega

/-- The cosines at point `t`. -/
theorem tab6 (c : Dev nD) (t : Fin cfg0.N) (p : Fin 256) (i : Fin 128) :
    iblk m c 6 t (ix2 p i) = Ideal.cos (angle (t.val % 16 * 256 + p) i) := by
  obtain ⟨h0, h1, -⟩ := index_t t
  have hp := p.isLt
  rw [← V82 m c ⟨t.val % 16 * 256 + p.val, by omega⟩ i]
  unfold iblk
  rw [View.read_apply]
  show V m c main_v82 _ = _
  refine congrArg _ (funext fun a => Fin.ext ?_)
  match a with
  | ⟨0, _⟩ => show win0_6.index t 0 * 256 + 1 * p.val = t.val % 16 * 256 + p.val; rw [h0]; omega
  | ⟨1, _⟩ => show win0_6.index t 1 * 128 + 1 * i.val = i.val; rw [h1]; omega

/-- The sines at point `t`. -/
theorem tab7 (c : Dev nD) (t : Fin cfg0.N) (p : Fin 256) (i : Fin 128) :
    iblk m c 7 t (ix2 p i) = Ideal.sin (angle (t.val % 16 * 256 + p) i) := by
  obtain ⟨-, -, h0, h1⟩ := index_t t
  have hp := p.isLt
  rw [← V83 m c ⟨t.val % 16 * 256 + p.val, by omega⟩ i]
  unfold iblk
  rw [View.read_apply]
  show V m c main_v83 _ = _
  refine congrArg _ (funext fun a => Fin.ext ?_)
  match a with
  | ⟨0, _⟩ => show win0_7.index t 0 * 256 + 1 * p.val = t.val % 16 * 256 + p.val; rw [h0]; omega
  | ⟨1, _⟩ => show win0_7.index t 1 * 128 + 1 * i.val = i.val; rw [h1]; omega

/-- The weights, whole at every point. -/
theorem tab8 (c : Dev nD) (t : Fin cfg0.N) (h : Fin 4) (p : Fin 256) (e : Fin 256) : iblk m c 8 t (ix3 h p e) = V m c main_v55 (ix3 h p e) := by
  obtain ⟨h0, h1, h2, -⟩ := index_w t
  unfold iblk
  rw [View.read_apply]
  show V m c main_v55 _ = _
  refine congrArg _ (funext fun a => Fin.ext ?_)
  match a with
  | ⟨0, _⟩ => show win0_8.index t 0 * 4 + 1 * h.val = h.val; rw [h0]; omega
  | ⟨1, _⟩ => show win0_8.index t 1 * 256 + 1 * p.val = p.val; rw [h1]; omega
  | ⟨2, _⟩ => show win0_8.index t 2 * 256 + 1 * e.val = e.val; rw [h2]; omega

/-- The decay of the state read, whole at every point. -/
theorem tab9 (c : Dev nD) (t : Fin cfg0.N) (h : Fin 4) (p : Fin 256) (e : Fin 256) : iblk m c 9 t (ix3 h p e) = V m c main_v66 (ix3 h p e) := by
  obtain ⟨-, -, -, h0, h1, h2, -⟩ := index_w t
  unfold iblk
  rw [View.read_apply]
  show V m c main_v66 _ = _
  refine congrArg _ (funext fun a => Fin.ext ?_)
  match a with
  | ⟨0, _⟩ => show win0_9.index t 0 * 4 + 1 * h.val = h.val; rw [h0]; omega
  | ⟨1, _⟩ => show win0_9.index t 1 * 256 + 1 * p.val = p.val; rw [h1]; omega
  | ⟨2, _⟩ => show win0_9.index t 2 * 256 + 1 * e.val = e.val; rw [h2]; omega

/-- The decay with which positions enter the state, whole at every point. -/
theorem tab10 (c : Dev nD) (t : Fin cfg0.N) (h : Fin 4) (p : Fin 256) (e : Fin 256) : iblk m c 10 t (ix3 h p e) = V m c main_v76 (ix3 h p e) := by
  obtain ⟨-, -, -, -, -, -, h0, h1, h2, -⟩ := index_w t
  unfold iblk
  rw [View.read_apply]
  show V m c main_v76 _ = _
  refine congrArg _ (funext fun a => Fin.ext ?_)
  match a with
  | ⟨0, _⟩ => show win0_10.index t 0 * 4 + 1 * h.val = h.val; rw [h0]; omega
  | ⟨1, _⟩ => show win0_10.index t 1 * 256 + 1 * p.val = p.val; rw [h1]; omega
  | ⟨2, _⟩ => show win0_10.index t 2 * 256 + 1 * e.val = e.val; rw [h2]; omega

/-- The decay of the state over a block, whole at every point. -/
theorem tab11 (c : Dev nD) (t : Fin cfg0.N) (h : Fin 4) (p : Fin 1) (e : Fin 256) : iblk m c 11 t (ix3 h p e) = V m c main_v81 (ix3 h p e) := by
  obtain ⟨-, -, -, -, -, -, -, -, -, h0, h1, h2, -⟩ := index_w t
  unfold iblk
  rw [View.read_apply]
  show V m c main_v81 _ = _
  refine congrArg _ (funext fun a => Fin.ext ?_)
  match a with
  | ⟨0, _⟩ => show win0_11.index t 0 * 4 + 1 * h.val = h.val; rw [h0]; omega
  | ⟨1, _⟩ => show win0_11.index t 1 * 1 + 1 * p.val = p.val; rw [h1]; omega
  | ⟨2, _⟩ => show win0_11.index t 2 * 256 + 1 * e.val = e.val; rw [h2]; omega

/-- The scale of the layer norm, whole at every point. -/
theorem tab12 (c : Dev nD) (t : Fin cfg0.N) (h : Fin 1) (p : Fin 1024) : iblk m c 12 t (ix2 h p) = V m c main_v84 (ix2 h p) := by
  obtain ⟨-, -, -, -, -, -, -, -, -, -, -, -, h0, h1, -⟩ := index_w t
  unfold iblk
  rw [View.read_apply]
  show V m c main_v84 _ = _
  refine congrArg _ (funext fun a => Fin.ext ?_)
  match a with
  | ⟨0, _⟩ => show win0_12.index t 0 * 1 + 1 * h.val = h.val; rw [h0]; omega
  | ⟨1, _⟩ => show win0_12.index t 1 * 1024 + 1 * p.val = p.val; rw [h1]; omega

/-- The shift of the layer norm, whole at every point. -/
theorem tab13 (c : Dev nD) (t : Fin cfg0.N) (h : Fin 1) (p : Fin 1024) : iblk m c 13 t (ix2 h p) = V m c main_v85 (ix2 h p) := by
  obtain ⟨-, -, -, -, -, -, -, -, -, -, -, -, -, -, h0, h1, -⟩ := index_w t
  unfold iblk
  rw [View.read_apply]
  show V m c main_v85 _ = _
  refine congrArg _ (funext fun a => Fin.ext ?_)
  match a with
  | ⟨0, _⟩ => show win0_13.index t 0 * 1 + 1 * h.val = h.val; rw [h0]; omega
  | ⟨1, _⟩ => show win0_13.index t 1 * 1024 + 1 * p.val = p.val; rw [h1]; omega

/-- The mixing weights, whole at every point. -/
theorem tab14 (c : Dev nD) (t : Fin cfg0.N) (h : Fin 4) (p : Fin 128) (e : Fin 128) : iblk m c 14 t (ix3 h p e) = m ((c : Thread nD τ).loc main_arg3) (ix3 h p e) := by
  obtain ⟨-, -, -, -, -, -, -, -, -, -, -, -, -, -, -, -, h0, h1, h2, -⟩ := index_w t
  unfold iblk
  rw [View.read_apply]
  show V m c main_arg3 _ = _
  rw [V_main_arg3]
  refine congrArg _ (funext fun a => Fin.ext ?_)
  match a with
  | ⟨0, _⟩ => show win0_14.index t 0 * 4 + 1 * h.val = h.val; rw [h0]; omega
  | ⟨1, _⟩ => show win0_14.index t 1 * 128 + 1 * p.val = p.val; rw [h1]; omega
  | ⟨2, _⟩ => show win0_14.index t 2 * 128 + 1 * e.val = e.val; rw [h2]; omega

/-- The bias, whole at every point. -/
theorem tab15 (c : Dev nD) (t : Fin cfg0.N) (h : Fin 4) (p : Fin 128) (e : Fin 1) : iblk m c 15 t (ix3 h p e) = V m c main_v86 (ix3 h p e) := by
  obtain ⟨-, -, -, -, -, -, -, -, -, -, -, -, -, -, -, -, -, -, -, h0, h1, h2⟩ := index_w t
  unfold iblk
  rw [View.read_apply]
  show V m c main_v86 _ = _
  refine congrArg _ (funext fun a => Fin.ext ?_)
  match a with
  | ⟨0, _⟩ => show win0_15.index t 0 * 4 + 1 * h.val = h.val; rw [h0]; omega
  | ⟨1, _⟩ => show win0_15.index t 1 * 128 + 1 * p.val = p.val; rw [h1]; omega
  | ⟨2, _⟩ => show win0_15.index t 2 * 1 + 1 * e.val = e.val; rw [h2]; omega

/-- One head's columns of the query part. -/
theorem ldz0 (c : Dev nD) (t : Fin cfg0.N) (h : ℕ) (hh : h < 4) (off : Fin 2 → ℕ) (ho : off = ![0, 256 * h]) (inb) (p d : Fin 256) :
    View.ld (iblk m c 0 t) (Rect.unit off ![256, 256] inb) (ix2 p d) = zAt (zOf m c) (t.val * 256 + p) (0 + (h * 256 + d)) := by
  have hd := d.isLt
  subst ho
  refine (View.ld_unit_apply_of _ _ _ _ _ (ix2 p (⟨h * 256 + d.val, by omega⟩ : Fin 1024)) fun a => ?_).trans (z0 m c t _ _)
  match a with
  | ⟨0, _⟩ => show p.val = 0 + p.val; omega
  | ⟨1, _⟩ => show h * 256 + d.val = 256 * h + d.val; omega

/-- One head's columns of the key part. -/
theorem ldz1 (c : Dev nD) (t : Fin cfg0.N) (h : ℕ) (hh : h < 4) (off : Fin 2 → ℕ) (ho : off = ![0, 256 * h]) (inb) (p d : Fin 256) :
    View.ld (iblk m c 1 t) (Rect.unit off ![256, 256] inb) (ix2 p d) = zAt (zOf m c) (t.val * 256 + p) (1024 + (h * 256 + d)) := by
  have hd := d.isLt
  subst ho
  refine (View.ld_unit_apply_of _ _ _ _ _ (ix2 p (⟨h * 256 + d.val, by omega⟩ : Fin 1024)) fun a => ?_).trans (z1 m c t _ _)
  match a with
  | ⟨0, _⟩ => show p.val = 0 + p.val; omega
  | ⟨1, _⟩ => show h * 256 + d.val = 256 * h + d.val; omega

/-- One head's columns of the value part. -/
theorem ldz2 (c : Dev nD) (t : Fin cfg0.N) (h : ℕ) (hh : h < 4) (off : Fin 2 → ℕ) (ho : off = ![0, 256 * h]) (inb) (p d : Fin 256) :
    View.ld (iblk m c 2 t) (Rect.unit off ![256, 256] inb) (ix2 p d) = zAt (zOf m c) (t.val * 256 + p) (2048 + (h * 256 + d)) := by
  have hd := d.isLt
  subst ho
  refine (View.ld_unit_apply_of _ _ _ _ _ (ix2 p (⟨h * 256 + d.val, by omega⟩ : Fin 1024)) fun a => ?_).trans (z2 m c t _ _)
  match a with
  | ⟨0, _⟩ => show p.val = 0 + p.val; omega
  | ⟨1, _⟩ => show h * 256 + d.val = 256 * h + d.val; omega

/-- One head's columns of the gate part. -/
theorem ldz3 (c : Dev nD) (t : Fin cfg0.N) (h : ℕ) (hh : h < 4) (off : Fin 2 → ℕ) (ho : off = ![0, 256 * h]) (inb) (p d : Fin 256) :
    View.ld (iblk m c 3 t) (Rect.unit off ![256, 256] inb) (ix2 p d) = zAt (zOf m c) (t.val * 256 + p) (3072 + (h * 256 + d)) := by
  have hd := d.isLt
  subst ho
  refine (View.ld_unit_apply_of _ _ _ _ _ (ix2 p (⟨h * 256 + d.val, by omega⟩ : Fin 1024)) fun a => ?_).trans (z3 m c t _ _)
  match a with
  | ⟨0, _⟩ => show p.val = 0 + p.val; omega
  | ⟨1, _⟩ => show h * 256 + d.val = 256 * h + d.val; omega

/-- The loaded cosines. -/
theorem ldt6 (c : Dev nD) (t : Fin cfg0.N) (inb) (p : Fin 256) (i : Fin 128) :
    View.ld (iblk m c 6 t) (Rect.unit ![0, 0] ![256, 128] inb) (ix2 p i) = Ideal.cos (angle (t.val % 16 * 256 + p) i) := by
  refine (View.ld_unit_apply_of _ _ _ _ _ (ix2 p i) fun a => ?_).trans (tab6 m c t _ _)
  match a with
  | ⟨0, _⟩ => show p.val = 0 + p.val; omega
  | ⟨1, _⟩ => show i.val = 0 + i.val; omega

/-- The loaded sines. -/
theorem ldt7 (c : Dev nD) (t : Fin cfg0.N) (inb) (p : Fin 256) (i : Fin 128) :
    View.ld (iblk m c 7 t) (Rect.unit ![0, 0] ![256, 128] inb) (ix2 p i) = Ideal.sin (angle (t.val % 16 * 256 + p) i) := by
  refine (View.ld_unit_apply_of _ _ _ _ _ (ix2 p i) fun a => ?_).trans (tab7 m c t _ _)
  match a with
  | ⟨0, _⟩ => show p.val = 0 + p.val; omega
  | ⟨1, _⟩ => show i.val = 0 + i.val; omega

/-- One head's weights. -/
theorem ldt8 (c : Dev nD) (t : Fin cfg0.N) (h : ℕ) (hh : h < 4) (off : Fin 3 → ℕ) (ho : off = ![h, 0, 0]) (inb) (p : Fin 256) (e : Fin 256) :
    View.ld (iblk m c 8 t) (Rect.unit off ![1, 256, 256] inb) (ix3 0 p e) = (((if e.val / 64 ≤ p.val / 64 then Real.exp (lam h * |(p : ℝ) - e|) else 0) : ℝ) : EReal) := by
  subst ho
  refine ((View.ld_unit_apply_of _ _ _ _ _ (ix3 (⟨h, hh⟩ : Fin 4) p e) fun a => ?_).trans (tab8 m c t _ _ _)).trans (V55 m c _ p e)
  match a with
  | ⟨0, _⟩ => show h = h + 0; omega
  | ⟨1, _⟩ => show (p : Fin 256).val = 0 + (p : Fin 256).val; omega
  | ⟨2, _⟩ => show (e : Fin 256).val = 0 + (e : Fin 256).val; omega

/-- One head's decay of the state read. -/
theorem ldt9 (c : Dev nD) (t : Fin cfg0.N) (h : ℕ) (hh : h < 4) (off : Fin 3 → ℕ) (ho : off = ![h, 0, 0]) (inb) (p : Fin 256) (e : Fin 256) :
    View.ld (iblk m c 9 t) (Rect.unit off ![1, 256, 256] inb) (ix3 0 p e) = ((Real.exp (lam h * ((p : ℝ) + 1)) : ℝ) : EReal) := by
  subst ho
  refine ((View.ld_unit_apply_of _ _ _ _ _ (ix3 (⟨h, hh⟩ : Fin 4) p e) fun a => ?_).trans (tab9 m c t _ _ _)).trans (V66 m c _ p e)
  match a with
  | ⟨0, _⟩ => show h = h + 0; omega
  | ⟨1, _⟩ => show (p : Fin 256).val = 0 + (p : Fin 256).val; omega
  | ⟨2, _⟩ => show (e : Fin 256).val = 0 + (e : Fin 256).val; omega

/-- One head's decay with which positions enter the state. -/
theorem ldt10 (c : Dev nD) (t : Fin cfg0.N) (h : ℕ) (hh : h < 4) (off : Fin 3 → ℕ) (ho : off = ![h, 0, 0]) (inb) (p : Fin 256) (e : Fin 256) :
    View.ld (iblk m c 10 t) (Rect.unit off ![1, 256, 256] inb) (ix3 0 p e) = ((Real.exp (lam h * (((256 : ℕ) : ℝ) - 1 - p)) : ℝ) : EReal) := by
  subst ho
  refine ((View.ld_unit_apply_of _ _ _ _ _ (ix3 (⟨h, hh⟩ : Fin 4) p e) fun a => ?_).trans (tab10 m c t _ _ _)).trans (V76 m c _ p e)
  match a with
  | ⟨0, _⟩ => show h = h + 0; omega
  | ⟨1, _⟩ => show (p : Fin 256).val = 0 + (p : Fin 256).val; omega
  | ⟨2, _⟩ => show (e : Fin 256).val = 0 + (e : Fin 256).val; omega

/-- One head's decay of the state over a block. -/
theorem ldt11 (c : Dev nD) (t : Fin cfg0.N) (h : ℕ) (hh : h < 4) (off : Fin 3 → ℕ) (ho : off = ![h, 0, 0]) (inb) (e : Fin 256) :
    View.ld (iblk m c 11 t) (Rect.unit off ![1, 1, 256] inb) (ix3 0 0 e) = ((Real.exp (lam h * (256 : ℕ)) : ℝ) : EReal) := by
  subst ho
  refine ((View.ld_unit_apply_of _ _ _ _ _ (ix3 (⟨h, hh⟩ : Fin 4) 0 e) fun a => ?_).trans (tab11 m c t _ _ _)).trans (V81 m c _ e)
  match a with
  | ⟨0, _⟩ => show h = h + 0; omega
  | ⟨1, _⟩ => show (0 : Fin 1).val = 0 + (0 : Fin 1).val; omega
  | ⟨2, _⟩ => show (e : Fin 256).val = 0 + (e : Fin 256).val; omega

/-- One head's mixing weights. -/
theorem ldt14 (c : Dev nD) (t : Fin cfg0.N) (h : ℕ) (hh : h < 4) (off : Fin 3 → ℕ) (ho : off = ![h, 0, 0]) (inb) (p : Fin 128) (e : Fin 128) :
    View.ld (iblk m c 14 t) (Rect.unit off ![1, 128, 128] inb) (ix3 0 p e) = m ((c : Thread nD τ).loc main_arg3) (ix3 ⟨h, hh⟩ p e) := by
  subst ho
  refine ((View.ld_unit_apply_of _ _ _ _ _ (ix3 (⟨h, hh⟩ : Fin 4) p e) fun a => ?_).trans (tab14 m c t _ _ _))
  match a with
  | ⟨0, _⟩ => show h = h + 0; omega
  | ⟨1, _⟩ => show (p : Fin 128).val = 0 + (p : Fin 128).val; omega
  | ⟨2, _⟩ => show (e : Fin 128).val = 0 + (e : Fin 128).val; omega

/-- One head's bias. -/
theorem ldt15 (c : Dev nD) (t : Fin cfg0.N) (h : ℕ) (hh : h < 4) (off : Fin 3 → ℕ) (ho : off = ![h, 0, 0]) (inb) (p : Fin 128)  :
    View.ld (iblk m c 15 t) (Rect.unit off ![1, 128, 1] inb) (ix3 0 p 0) = m ((c : Thread nD τ).loc main_arg4) (ix2 ⟨h, hh⟩ p) := by
  subst ho
  refine ((View.ld_unit_apply_of _ _ _ _ _ (ix3 (⟨h, hh⟩ : Fin 4) p 0) fun a => ?_).trans (tab15 m c t _ _ _)).trans (V86 m c _ p)
  match a with
  | ⟨0, _⟩ => show h = h + 0; omega
  | ⟨1, _⟩ => show (p : Fin 128).val = 0 + (p : Fin 128).val; omega
  | ⟨2, _⟩ => show (0 : Fin 1).val = 0 + (0 : Fin 1).val; omega

end Cert.Even

end
-- ==== Proof.EvenHead.lean ====
/-
  What one head of the even mixer's kernel stores, read at one index: the new state and the gated output row.
-/
module

public import proofs.«01_k».proof.Proof.Common
public import proofs.«01_k».proof.Proof.EvenSpec
public import proofs.«01_k».proof.Proof.Gen.EvenIdeal.Skeleton
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Even

open Idealize.ShloMosaic Idealize.ShloMosaic.TcCoe Idealize.SL.Sem
open Cert.EvenIdeal Cert.EvenIdeal.Gen
open scoped BigOperators

/-- The left half of row `p` of a 256-column block, turned by the tables of cosines and sines. -/
def lo (x : FVec Ideal S256x256 .bf16) (co si : FVec Ideal S256x128 .f32) (p : Fin 256) (i : Fin 128) : EReal :=
  x (ix2 p ⟨i.val, by omega⟩) * co (ix2 p i) - x (ix2 p ⟨128 + i.val, by omega⟩) * si (ix2 p i)

/-- The right half of row `p` of a 256-column block, turned by the tables of cosines and sines. -/
def hi (x : FVec Ideal S256x256 .bf16) (co si : FVec Ideal S256x128 .f32) (p : Fin 256) (i : Fin 128) : EReal :=
  x (ix2 p ⟨i.val, by omega⟩) * si (ix2 p i) + x (ix2 p ⟨128 + i.val, by omega⟩) * co (ix2 p i)

/-- Row `p` of a 256-column block turned by the tables of cosines and sines, at column `d`. -/
def rot (x : FVec Ideal S256x256 .bf16) (co si : FVec Ideal S256x128 .f32) (p d : Fin 256) : EReal :=
  if h : d.val < 128 then lo x co si p ⟨d.val, h⟩ else hi x co si p ⟨d.val - 128, by omega⟩

variable (q k v gt : FVec Ideal S256x256 .bf16) (co si : FVec Ideal S256x128 .f32) (dec xi ze s : FVec Ideal S1x256x256 .f32) (g : FVec Ideal S1x1x256 .f32)

/-- One head's state after a block of 256 positions. -/
def newState (d e : Fin 256) : EReal :=
  s (ix3 0 d e) * g (ix3 0 0 e) + ∑ x : Fin 256, rot k co si x d * Ideal.ofBits .f32 1031798784#32 * ze (ix3 0 x d) * v (ix2 x e)

/-- What one head's position `p` of a block sees at column `e`, its inner sums taken over the two halves. -/
def newRow (p e : Fin 256) : EReal :=
  (∑ x : Fin 256, (∑ y : Fin 128, lo q co si p y * (lo k co si x y * Ideal.ofBits .f32 1031798784#32)
        + ∑ y : Fin 128, hi q co si p y * (hi k co si x y * Ideal.ofBits .f32 1031798784#32)) * dec (ix3 0 p x) * v (ix2 x e))
    + (∑ y : Fin 128, lo q co si p y * s (ix3 0 ⟨y.val, by omega⟩ e)
        + ∑ y : Fin 128, hi q co si p y * s (ix3 0 ⟨128 + y.val, by omega⟩ e)) * xi (ix3 0 p e)

/-- A sum over 256 columns is the sum over the left half and the right half. -/
theorem sum_halves (f g : Fin 128 → EReal) (w : Fin 256 → EReal) :
    ∑ y : Fin 256, (if h : y.val < 128 then f ⟨y.val, h⟩ else g ⟨y.val - 128, by omega⟩) * w y
      = ∑ y : Fin 128, f y * w ⟨y.val, by omega⟩ + ∑ y : Fin 128, g y * w ⟨128 + y.val, by omega⟩ := by
  refine (Fin.sum_univ_add (a := 128) (b := 128) _).trans (congrArg₂ (· + ·) ?_ ?_)
  · refine Finset.sum_congr rfl fun y _ => ?_
    rw [dif_pos (show (Fin.castAdd 128 y).val < 128 from y.isLt)]
    rfl
  · refine Finset.sum_congr rfl fun y _ => ?_
    rw [dif_neg (show ¬(Fin.natAdd 128 y).val < 128 by simp)]
    exact congrArg₂ (· * ·) (congrArg g (Fin.ext (by simp))) rfl

/-- `newRow` with its inner sums taken over all 256 columns. -/
theorem newRow_eq (p e : Fin 256) : newRow q k v co si dec xi s p e =
    (∑ x : Fin 256, (∑ y : Fin 256, rot q co si p y * (rot k co si x y * Ideal.ofBits .f32 1031798784#32)) * dec (ix3 0 p x) * v (ix2 x e))
      + (∑ y : Fin 256, rot q co si p y * s (ix3 0 y e)) * xi (ix3 0 p e) := by
  have hk : ∀ x : Fin 256, ∑ y : Fin 256, rot q co si p y * (rot k co si x y * Ideal.ofBits .f32 1031798784#32)
      = ∑ y : Fin 128, lo q co si p y * (lo k co si x y * Ideal.ofBits .f32 1031798784#32)
        + ∑ y : Fin 128, hi q co si p y * (hi k co si x y * Ideal.ofBits .f32 1031798784#32) := fun x => by
    refine (sum_halves (lo q co si p) (hi q co si p) (fun y => rot k co si x y * Ideal.ofBits .f32 1031798784#32)).trans ?_
    refine congrArg₂ (· + ·) (Finset.sum_congr rfl fun y _ => ?_) (Finset.sum_congr rfl fun y _ => ?_)
    · unfold rot
      rw [dif_pos y.isLt]
    · unfold rot
      rw [dif_neg (show ¬128 + y.val < 128 by omega)]
      exact congrArg (fun i => hi q co si p y * (hi k co si x i * _)) (Fin.ext (by simp))
  unfold newRow
  simp only [hk]
  exact congrArg (fun u => _ + u * _) (sum_halves (lo q co si p) (hi q co si p) (fun y => s (ix3 0 y e))).symm

/-- Head 0's stored state is `newState`. -/
theorem state_pay0 (d e : Fin 256) : k0_pay9 (F := Ideal) (k0_pay5 co si k) v s ze g (ix3 0 d e) = newState k v co si ze s g d e := by
  pointwise [k0_pay9, k0_pay8, k0_pay5, k0_pay3, k0_pay4]
  rfl

/-- Head 1's stored state is `newState`. -/
theorem state_pay1 (d e : Fin 256) : k0_pay17 (F := Ideal) (k0_pay12 (k0_pay3 co) (k0_pay4 si) k) v (k0_pay15 s) ze g (ix3 0 d e) = newState k v co si ze s g d e := by
  pointwise [k0_pay17, k0_pay12, k0_pay15, k0_pay3, k0_pay4]
  rfl

/-- Head 2's stored state is `newState`. -/
theorem state_pay2 (d e : Fin 256) : k0_pay28 (F := Ideal) v (k0_pay25 s) (k0_pay27 (k0_pay3 co) (k0_pay4 si) k ze) g (ix3 0 d e) = newState k v co si ze s g d e := by
  pointwise [k0_pay28, k0_pay25, k0_pay27, k0_pay22, k0_pay3, k0_pay4]
  rfl

/-- Head 3's stored state is `newState`. -/
theorem state_pay3 (d e : Fin 256) : k0_pay38 (F := Ideal) (k0_pay37 (k0_pay3 co) (k0_pay4 si) (k0_pay31 k) v s ze g) (ix3 0 d e) = newState k v co si ze s g d e := by
  pointwise [k0_pay38, k0_pay37, k0_pay31, k0_pay32, k0_pay35, k0_pay3, k0_pay4]
  rfl

/-- Head 0's stored output row is the gated `newRow`. -/
theorem out_pay0 (p e : Fin 256) : k0_pay11 (F := Ideal) (k0_pay10 (k0_pay6 co si q) v (k0_pay7 co si q k dec) (constant S256x256 FTy.f32 0#32) s xi gt) (ix2 p e) = gated (newRow q k v co si dec xi s p) (gt (ix2 p e)) e := by
  pointwise [k0_pay11, k0_pay10, k0_pay6, k0_pay7, k0_pay5, k0_pay8, k0_pay3, k0_pay4]
  rfl

/-- Head 1's stored output row is the gated `newRow`. -/
theorem out_pay1 (p e : Fin 256) : k0_pay18 (F := Ideal) (k0_pay14 (k0_pay3 co) (k0_pay4 si) q k v dec) (k0_pay16 (k0_pay3 co) (k0_pay4 si) q s) xi gt (ix2 p e) = gated (newRow q k v co si dec xi s p) (gt (ix2 p e)) e := by
  pointwise [k0_pay18, k0_pay14, k0_pay16, k0_pay12, k0_pay13, k0_pay15, k0_pay3, k0_pay4]
  rfl

/-- Head 2's stored output row is the gated `newRow`. -/
theorem out_pay2 (p e : Fin 256) : k0_pay29 (F := Ideal) (k0_pay24 (k0_pay3 co) (k0_pay4 si) (k0_pay20 q) (k0_pay21 q) k v dec) (k0_pay26 (k0_pay3 co) (k0_pay4 si) (k0_pay20 q) (k0_pay21 q) s xi) gt (ix2 p e) = gated (newRow q k v co si dec xi s p) (gt (ix2 p e)) e := by
  pointwise [k0_pay29, k0_pay24, k0_pay26, k0_pay19, k0_pay20, k0_pay21, k0_pay22, k0_pay23, k0_pay25, k0_pay3, k0_pay4]
  rfl

/-- Head 3's stored output row is the gated `newRow`. -/
theorem out_pay3 (p e : Fin 256) : k0_pay39 (F := Ideal) (k0_pay34 (k0_pay3 co) (k0_pay4 si) (k0_pay30 (k0_pay3 co) (k0_pay4 si) q) (k0_pay31 k) v dec) (k0_pay36 (k0_pay30 (k0_pay3 co) (k0_pay4 si) q) s xi) gt (ix2 p e) = gated (newRow q k v co si dec xi s p) (gt (ix2 p e)) e := by
  pointwise [k0_pay39, k0_pay34, k0_pay36, k0_pay30, k0_pay31, k0_pay32, k0_pay33, k0_pay35, k0_pay3, k0_pay4]
  rfl

end Cert.Even

end
-- ==== Proof.EvenRow.lean ====
/-
  One head of the even mixer's kernel over one block of 256 positions: the stored state is the sum over all positions so far,
  and a row of the output is the gated sum over all positions of the same and earlier chunks of sixty-four.
-/
module

public import proofs.«01_k».proof.Proof.Common
public import proofs.«01_k».proof.Proof.EvenSpec
public import proofs.«01_k».proof.Proof.EvenHead
public import proofs.«01_k».proof.Proof.Gen.EvenIdeal.Skeleton
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Even

open Idealize.ShloMosaic Idealize.ShloMosaic.TcCoe Idealize.SL.Sem
open Cert.EvenIdeal Cert.EvenIdeal.Gen
open scoped BigOperators

/-- The rotation by the tables is the rotation by the angles. -/
theorem rot_eq {x : FVec Ideal S256x256 .bf16} {co si : FVec Ideal S256x128 .f32} {p : Fin 256} {f : ℕ → EReal} {s : ℕ}
    (hx : ∀ d : Fin 256, x (ix2 p d) = f d) (hco : ∀ i : Fin 128, co (ix2 p i) = Ideal.cos (angle s i))
    (hsi : ∀ i : Fin 128, si (ix2 p i) = Ideal.sin (angle s i)) (d : Fin 256) : rot x co si p d = turned f s d := by
  unfold rot turned
  by_cases hd : d.val < 128
  · rw [dif_pos hd, if_pos hd]
    unfold lo
    rw [hx, hx, hco, hsi]
  · rw [dif_neg hd, if_neg hd]
    unfold hi
    rw [hx, hx, hco, hsi]

/-- What one head loads at block `c` of batch `b`. -/
structure Loaded (z : FVec Ideal ⟨2, ![8192, 6144]⟩ .bf16) (b h c : ℕ) (q k v : FVec Ideal S256x256 .bf16) (co si : FVec Ideal S256x128 .f32)
    (dec xi ze : FVec Ideal S1x256x256 .f32) (g : FVec Ideal S1x1x256 .f32) : Prop where
  /-- The queries. -/
  q : ∀ p d : Fin 256, q (ix2 p d) = zAt z (b * 4096 + (c * 256 + p)) (h * 256 + d)
  /-- The keys. -/
  k : ∀ p d : Fin 256, k (ix2 p d) = zAt z (b * 4096 + (c * 256 + p)) (1024 + (h * 256 + d))
  /-- The values. -/
  v : ∀ p d : Fin 256, v (ix2 p d) = zAt z (b * 4096 + (c * 256 + p)) (2048 + (h * 256 + d))
  /-- The cosines. -/
  co : ∀ (p : Fin 256) (i : Fin 128), co (ix2 p i) = Ideal.cos (angle (c * 256 + p) i)
  /-- The sines. -/
  si : ∀ (p : Fin 256) (i : Fin 128), si (ix2 p i) = Ideal.sin (angle (c * 256 + p) i)
  /-- The weights inside the block. -/
  dec : ∀ p e : Fin 256, dec (ix3 0 p e) = (((if e.val / 64 ≤ p.val / 64 then Real.exp (lam h * |(p : ℝ) - e|) else 0) : ℝ) : EReal)
  /-- The decay of the state read. -/
  xi : ∀ p e : Fin 256, xi (ix3 0 p e) = ((Real.exp (lam h * ((p : ℝ) + 1)) : ℝ) : EReal)
  /-- The decay of what enters the state. -/
  ze : ∀ p e : Fin 256, ze (ix3 0 p e) = ((Real.exp (lam h * (((256 : ℕ) : ℝ) - 1 - p)) : ℝ) : EReal)
  /-- The decay of the state over the block. -/
  g : ∀ e : Fin 256, g (ix3 0 0 e) = ((Real.exp (lam h * (256 : ℕ)) : ℝ) : EReal)

variable {z : FVec Ideal ⟨2, ![8192, 6144]⟩ .bf16} {b h c : ℕ} {q k v : FVec Ideal S256x256 .bf16} {co si : FVec Ideal S256x128 .f32}
  {dec xi ze s : FVec Ideal S1x256x256 .f32} {g : FVec Ideal S1x1x256 .f32}

/-- The loaded queries, turned, are the queries. -/
theorem Loaded.rotq (L : Loaded z b h c q k v co si dec xi ze g) (p d : Fin 256) : rot q co si p d = qE z b h (c * 256 + p) d :=
  rot_eq (f := fun i => zAt z (b * 4096 + (c * 256 + p)) (h * 256 + i)) (L.q p) (L.co p) (L.si p) d

/-- The loaded keys, turned and scaled, are the keys. -/
theorem Loaded.rotk (L : Loaded z b h c q k v co si dec xi ze g) (p d : Fin 256) :
    rot k co si p d * Ideal.ofBits .f32 1031798784#32 = kE z b h (c * 256 + p) d :=
  congrArg (· * _) (rot_eq (f := fun i => zAt z (b * 4096 + (c * 256 + p)) (1024 + (h * 256 + i))) (L.k p) (L.co p) (L.si p) d)

/-- The state after block `c` sums over all positions of the blocks up to it. -/
theorem newState_eq (H : RealParts z) (hh : h < 4) (hc : c < 16) (L : Loaded z b h c q k v co si dec xi ze g)
    (hs : ∀ d e : Fin 256, s (ix3 0 d e) = ((state (lam h) (kR z b h) (vR z b h) (c * 256) d e : ℝ) : EReal)) (d e : Fin 256) :
    newState k v co si ze s g d e = ((state (lam h) (kR z b h) (vR z b h) ((c + 1) * 256) d e : ℝ) : EReal) := by
  unfold newState
  rw [← state_step, hs, L.g]
  refine congrArg _ (Finset.sum_congr rfl fun x _ => ?_)
  have hx := x.isLt
  rw [L.rotk, kE_eq H d hh (by omega), L.ze, L.v]
  exact congrArg _ (vE_eq H e hh)

/-- A row of block `c` sees all positions of the same and earlier chunks. -/
theorem newRow_seen (H : RealParts z) (hh : h < 4) (hc : c < 16) (L : Loaded z b h c q k v co si dec xi ze g)
    (hs : ∀ d e : Fin 256, s (ix3 0 d e) = ((state (lam h) (kR z b h) (vR z b h) (c * 256) d e : ℝ) : EReal)) (p e : Fin 256) :
    newRow q k v co si dec xi s p e = retained z b h (c * 256 + p) e := by
  have hp := p.isLt
  unfold retained
  rw [newRow_eq, seen_eq _ _ _ _ (c * 256 + p) ((c + 1) * 256) 4096 e (by omega) (by omega) (by omega), ← seen_block _ _ _ _ 256 c (by decide)]
  refine congrArg₂ (· + ·) (Finset.sum_congr rfl fun x _ => ?_) (congrArg₂ (· * ·) (Finset.sum_congr rfl fun y _ => ?_) (L.xi p e))
  · have hx := x.isLt
    rw [L.dec, L.v]
    refine congrArg₂ (· * ·) (congrArg (· * _) (Finset.sum_congr rfl fun y _ => ?_)) (vE_eq H e hh)
    rw [L.rotq, L.rotk, qE_eq H y hh (by omega), kE_eq H y hh (by omega)]
  · rw [L.rotq, qE_eq H y hh (by omega), hs]

end Cert.Even

end
-- ==== Proof.EvenPoint.lean ====
/-
  The even mixer's kernel at one grid point: the state it leaves and its first output block, and over all points of a batch
  by induction.
-/
module

public import proofs.«01_k».proof.Proof.Common
public import proofs.«01_k».proof.Proof.EvenSpec
public import proofs.«01_k».proof.Proof.EvenBlocks
public import proofs.«01_k».proof.Proof.EvenRow
public import proofs.«01_k».proof.Proof.Gen.EvenIdeal.Value
public import Idealize.ShloMosaic.Lib.Pipeline.ValueKit.Tiles
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Even

open Idealize.ShloMosaic Idealize.ShloMosaic.TcCoe Idealize.SL.Sem
open Cert.EvenIdeal Cert.EvenIdeal.Gen
open scoped BigOperators

variable (m : (l : Loc nD τ sig) → Buf (Elt Ideal) l)

/-- All heads' states after `n` positions of batch `b`. -/
def stateG (z : FVec Ideal ⟨2, ![8192, 6144]⟩ .bf16) (b n : ℕ) : S4x256x256.Idx → Elt Ideal .f32 :=
  fun i => ((state (lam (i 0)) (kR z b (i 0)) (vR z b (i 0)) n (i 1) (i 2) : ℝ) : EReal)

/-- The first output's block `c` of batch `b`. -/
def rowG (z : FVec Ideal ⟨2, ![8192, 6144]⟩ .bf16) (b c : ℕ) : S256x1024.Idx → Elt Ideal .bf16 :=
  fun i => gated (retained z b ((i 1).val / 256) (c * 256 + (i 0).val)) (zAt z (b * 4096 + (c * 256 + (i 0).val)) (3072 + (i 1).val))
    ⟨(i 1).val % 256, Nat.mod_lt _ (by decide)⟩

section
variable {z : FVec Ideal ⟨2, ![8192, 6144]⟩ .bf16} {b h c : ℕ} {q k v gt : FVec Ideal S256x256 .bf16} {co si : FVec Ideal S256x128 .f32}
  {dec xi ze s : FVec Ideal S1x256x256 .f32} {g : FVec Ideal S1x1x256 .f32}

/-- One head's stored state is a piece of all heads' states. -/
theorem state_piece (H : RealParts z) (hh : h < 4) (hc : c < 16) (L : Loaded z b h c q k v co si dec xi ze g)
    (hs : ∀ d e : Fin 256, s (ix3 0 d e) = ((state (lam h) (kR z b h) (vR z b h) (c * 256) d e : ℝ) : EReal)) {pay : FVec Ideal S1x256x256 .f32}
    (hp : ∀ d e : Fin 256, pay (ix3 0 d e) = newState k v co si ze s g d e) (off : Fin 3 → ℕ) (ho : off = ![h, 0, 0]) (inb)
    (x : (Rect.unit (s := S4x256x256) off ![1, 256, 256] inb).shape.Idx) : pay x = stateG z b ((c + 1) * 256) ((Rect.unit (s := S4x256x256) off ![1, 256, 256] inb).emb x) := by
  subst ho
  obtain ⟨d, e, rfl⟩ : ∃ (d e : Fin 256), x = (ix3 (0 : Fin 1) d e : (⟨3, ![1, 256, 256]⟩ : Shape).Idx) := ⟨x 1, x 2, funext fun a => by
    match a with
    | ⟨0, _⟩ => exact Subsingleton.elim (α := Fin 1) _ _
    | ⟨1, _⟩ => rfl
    | ⟨2, _⟩ => rfl⟩
  refine ((hp d e).trans (newState_eq H hh hc L hs d e)).trans ?_
  have he : (Rect.unit (s := S4x256x256) ![h, 0, 0] ![1, 256, 256] inb).emb (ix3 (0 : Fin 1) d e : (⟨3, ![1, 256, 256]⟩ : Shape).Idx)
      = (ix3 (⟨h, hh⟩ : Fin 4) d e : S4x256x256.Idx) := funext fun a => Fin.ext (by
    match a with
    | ⟨0, _⟩ => show h + 1 * 0 = h; omega
    | ⟨1, _⟩ => show 0 + 1 * d.val = d.val; omega
    | ⟨2, _⟩ => show 0 + 1 * e.val = e.val; omega)
  exact (congrArg (stateG z b ((c + 1) * 256)) he).symm

/-- One head's stored rows are a piece of the output block. -/
theorem row_piece (H : RealParts z) (hh : h < 4) (hc : c < 16) (L : Loaded z b h c q k v co si dec xi ze g)
    (hs : ∀ d e : Fin 256, s (ix3 0 d e) = ((state (lam h) (kR z b h) (vR z b h) (c * 256) d e : ℝ) : EReal))
    (hg : ∀ p d : Fin 256, gt (ix2 p d) = zAt z (b * 4096 + (c * 256 + p)) (3072 + (h * 256 + d))) {pay : FVec Ideal S256x256 .bf16}
    (hp : ∀ p e : Fin 256, pay (ix2 p e) = gated (newRow q k v co si dec xi s p) (gt (ix2 p e)) e) (off : Fin 2 → ℕ) (ho : off = ![0, 256 * h]) (inb)
    (x : (Rect.unit (s := S256x1024) off ![256, 256] inb).shape.Idx) : pay x = rowG z b c ((Rect.unit (s := S256x1024) off ![256, 256] inb).emb x) := by
  subst ho
  obtain ⟨p, e, rfl⟩ : ∃ (p e : Fin 256), x = (ix2 p e : (⟨2, ![256, 256]⟩ : Shape).Idx) := ⟨x 0, x 1, funext fun a => by
    match a with
    | ⟨0, _⟩ => rfl
    | ⟨1, _⟩ => rfl⟩
  have hlt := e.isLt
  have he : (Rect.unit (s := S256x1024) ![0, 256 * h] ![256, 256] inb).emb (ix2 p e : (⟨2, ![256, 256]⟩ : Shape).Idx)
      = (ix2 p (⟨h * 256 + e.val, by omega⟩ : Fin 1024) : S256x1024.Idx) := funext fun a => Fin.ext (by
    match a with
    | ⟨0, _⟩ => show 0 + 1 * p.val = p.val; omega
    | ⟨1, _⟩ => show 256 * h + 1 * e.val = h * 256 + e.val; omega)
  refine (hp p e).trans (Eq.trans ?_ (congrArg (rowG z b c) he).symm)
  have hr : newRow q k v co si dec xi s p = retained z b h (c * 256 + p) := funext fun e => newRow_seen H hh hc L hs p e
  rw [hr, hg]
  show _ = gated (retained z b ((h * 256 + e.val) / 256) (c * 256 + p.val)) (zAt z (b * 4096 + (c * 256 + p.val)) (3072 + (h * 256 + e.val))) ⟨(h * 256 + e.val) % 256, _⟩
  have h1 : (h * 256 + e.val) / 256 = h := by omega
  have h2 : (⟨(h * 256 + e.val) % 256, Nat.mod_lt _ (by decide)⟩ : Fin 256) = e := Fin.ext (by show (h * 256 + e.val) % 256 = e.val; omega)
  rw [h1, h2]
end

/-- What head 0 loads at point `t`. -/
theorem loaded0 (c : Dev nD) (t : Fin cfg0.N) : Loaded (zOf m c) (t.val / 16) 0 (t.val % 16)
    (View.ld (iblk m c 0 t) (Rect.unit ![0, 0] ![256, 256] inb_S256x1024_S256x256_0_0))
    (View.ld (iblk m c 1 t) (Rect.unit ![0, 0] ![256, 256] inb_S256x1024_S256x256_0_0))
    (View.ld (iblk m c 2 t) (Rect.unit ![0, 0] ![256, 256] inb_S256x1024_S256x256_0_0))
    (View.ld (iblk m c 6 t) (Rect.unit ![0, 0] ![256, 128] inb_S256x128_S256x128_0_0)) (View.ld (iblk m c 7 t) (Rect.unit ![0, 0] ![256, 128] inb_S256x128_S256x128_0_0))
    (View.ld (iblk m c 8 t) (Rect.unit ![0, 0, 0] ![1, 256, 256] inb_S4x256x256_S1x256x256_0_0_0)) (View.ld (iblk m c 9 t) (Rect.unit ![0, 0, 0] ![1, 256, 256] inb_S4x256x256_S1x256x256_0_0_0))
    (View.ld (iblk m c 10 t) (Rect.unit ![0, 0, 0] ![1, 256, 256] inb_S4x256x256_S1x256x256_0_0_0))
    (View.ld (iblk m c 11 t) (Rect.unit ![0, 0, 0] ![1, 1, 256] inb_S4x1x256_S1x1x256_0_0_0)) where
  q p d := by
    refine (ldz0 m c t 0 (by decide) _ rfl _ p d).trans ?_
    rw [Nat.zero_add, show t.val * 256 + p.val = t.val / 16 * 4096 + (t.val % 16 * 256 + p.val) by omega]
  k p d := by
    refine (ldz1 m c t 0 (by decide) _ rfl _ p d).trans ?_
    rw [show t.val * 256 + p.val = t.val / 16 * 4096 + (t.val % 16 * 256 + p.val) by omega]
  v p d := by
    refine (ldz2 m c t 0 (by decide) _ rfl _ p d).trans ?_
    rw [show t.val * 256 + p.val = t.val / 16 * 4096 + (t.val % 16 * 256 + p.val) by omega]
  co p i := ldt6 m c t _ p i
  si p i := ldt7 m c t _ p i
  dec p e := ldt8 m c t 0 (by decide) _ rfl _ p e
  xi p e := ldt9 m c t 0 (by decide) _ rfl _ p e
  ze p e := ldt10 m c t 0 (by decide) _ rfl _ p e
  g e := ldt11 m c t 0 (by decide) _ rfl _ e

/-- The gates of head 0 at point `t`. -/
theorem gate0 (c : Dev nD) (t : Fin cfg0.N) (p d : Fin 256) : (View.ld (iblk m c 3 t) (Rect.unit ![0, 0] ![256, 256] inb_S256x1024_S256x256_0_0)) (ix2 p d)
    = zAt (zOf m c) (t.val / 16 * 4096 + (t.val % 16 * 256 + p)) (3072 + (0 * 256 + d)) := by
  refine (ldz3 m c t 0 (by decide) _ rfl _ p d).trans ?_
  rw [show t.val * 256 + p.val = t.val / 16 * 4096 + (t.val % 16 * 256 + p.val) by omega]

/-- What head 1 loads at point `t`. -/
theorem loaded1 (c : Dev nD) (t : Fin cfg0.N) : Loaded (zOf m c) (t.val / 16) 1 (t.val % 16)
    (View.ld (iblk m c 0 t) (Rect.unit ![0, 256] ![256, 256] inb_S256x1024_S256x256_0_256))
    (View.ld (iblk m c 1 t) (Rect.unit ![0, 256] ![256, 256] inb_S256x1024_S256x256_0_256))
    (View.ld (iblk m c 2 t) (Rect.unit ![0, 256] ![256, 256] inb_S256x1024_S256x256_0_256))
    (View.ld (iblk m c 6 t) (Rect.unit ![0, 0] ![256, 128] inb_S256x128_S256x128_0_0)) (View.ld (iblk m c 7 t) (Rect.unit ![0, 0] ![256, 128] inb_S256x128_S256x128_0_0))
    (View.ld (iblk m c 8 t) (Rect.unit ![1, 0, 0] ![1, 256, 256] inb_S4x256x256_S1x256x256_1_0_0)) (View.ld (iblk m c 9 t) (Rect.unit ![1, 0, 0] ![1, 256, 256] inb_S4x256x256_S1x256x256_1_0_0))
    (View.ld (iblk m c 10 t) (Rect.unit ![1, 0, 0] ![1, 256, 256] inb_S4x256x256_S1x256x256_1_0_0))
    (View.ld (iblk m c 11 t) (Rect.unit ![1, 0, 0] ![1, 1, 256] inb_S4x1x256_S1x1x256_1_0_0)) where
  q p d := by
    refine (ldz0 m c t 1 (by decide) _ rfl _ p d).trans ?_
    rw [Nat.zero_add, show t.val * 256 + p.val = t.val / 16 * 4096 + (t.val % 16 * 256 + p.val) by omega]
  k p d := by
    refine (ldz1 m c t 1 (by decide) _ rfl _ p d).trans ?_
    rw [show t.val * 256 + p.val = t.val / 16 * 4096 + (t.val % 16 * 256 + p.val) by omega]
  v p d := by
    refine (ldz2 m c t 1 (by decide) _ rfl _ p d).trans ?_
    rw [show t.val * 256 + p.val = t.val / 16 * 4096 + (t.val % 16 * 256 + p.val) by omega]
  co p i := ldt6 m c t _ p i
  si p i := ldt7 m c t _ p i
  dec p e := ldt8 m c t 1 (by decide) _ rfl _ p e
  xi p e := ldt9 m c t 1 (by decide) _ rfl _ p e
  ze p e := ldt10 m c t 1 (by decide) _ rfl _ p e
  g e := ldt11 m c t 1 (by decide) _ rfl _ e

/-- The gates of head 1 at point `t`. -/
theorem gate1 (c : Dev nD) (t : Fin cfg0.N) (p d : Fin 256) : (View.ld (iblk m c 3 t) (Rect.unit ![0, 256] ![256, 256] inb_S256x1024_S256x256_0_256)) (ix2 p d)
    = zAt (zOf m c) (t.val / 16 * 4096 + (t.val % 16 * 256 + p)) (3072 + (1 * 256 + d)) := by
  refine (ldz3 m c t 1 (by decide) _ rfl _ p d).trans ?_
  rw [show t.val * 256 + p.val = t.val / 16 * 4096 + (t.val % 16 * 256 + p.val) by omega]

/-- What head 2 loads at point `t`. -/
theorem loaded2 (c : Dev nD) (t : Fin cfg0.N) : Loaded (zOf m c) (t.val / 16) 2 (t.val % 16)
    (View.ld (iblk m c 0 t) (Rect.unit ![0, 512] ![256, 256] inb_S256x1024_S256x256_0_512))
    (View.ld (iblk m c 1 t) (Rect.unit ![0, 512] ![256, 256] inb_S256x1024_S256x256_0_512))
    (View.ld (iblk m c 2 t) (Rect.unit ![0, 512] ![256, 256] inb_S256x1024_S256x256_0_512))
    (View.ld (iblk m c 6 t) (Rect.unit ![0, 0] ![256, 128] inb_S256x128_S256x128_0_0)) (View.ld (iblk m c 7 t) (Rect.unit ![0, 0] ![256, 128] inb_S256x128_S256x128_0_0))
    (View.ld (iblk m c 8 t) (Rect.unit ![2, 0, 0] ![1, 256, 256] inb_S4x256x256_S1x256x256_2_0_0)) (View.ld (iblk m c 9 t) (Rect.unit ![2, 0, 0] ![1, 256, 256] inb_S4x256x256_S1x256x256_2_0_0))
    (View.ld (iblk m c 10 t) (Rect.unit ![2, 0, 0] ![1, 256, 256] inb_S4x256x256_S1x256x256_2_0_0))
    (View.ld (iblk m c 11 t) (Rect.unit ![2, 0, 0] ![1, 1, 256] inb_S4x1x256_S1x1x256_2_0_0)) where
  q p d := by
    refine (ldz0 m c t 2 (by decide) _ rfl _ p d).trans ?_
    rw [Nat.zero_add, show t.val * 256 + p.val = t.val / 16 * 4096 + (t.val % 16 * 256 + p.val) by omega]
  k p d := by
    refine (ldz1 m c t 2 (by decide) _ rfl _ p d).trans ?_
    rw [show t.val * 256 + p.val = t.val / 16 * 4096 + (t.val % 16 * 256 + p.val) by omega]
  v p d := by
    refine (ldz2 m c t 2 (by decide) _ rfl _ p d).trans ?_
    rw [show t.val * 256 + p.val = t.val / 16 * 4096 + (t.val % 16 * 256 + p.val) by omega]
  co p i := ldt6 m c t _ p i
  si p i := ldt7 m c t _ p i
  dec p e := ldt8 m c t 2 (by decide) _ rfl _ p e
  xi p e := ldt9 m c t 2 (by decide) _ rfl _ p e
  ze p e := ldt10 m c t 2 (by decide) _ rfl _ p e
  g e := ldt11 m c t 2 (by decide) _ rfl _ e

/-- The gates of head 2 at point `t`. -/
theorem gate2 (c : Dev nD) (t : Fin cfg0.N) (p d : Fin 256) : (View.ld (iblk m c 3 t) (Rect.unit ![0, 512] ![256, 256] inb_S256x1024_S256x256_0_512)) (ix2 p d)
    = zAt (zOf m c) (t.val / 16 * 4096 + (t.val % 16 * 256 + p)) (3072 + (2 * 256 + d)) := by
  refine (ldz3 m c t 2 (by decide) _ rfl _ p d).trans ?_
  rw [show t.val * 256 + p.val = t.val / 16 * 4096 + (t.val % 16 * 256 + p.val) by omega]

/-- What head 3 loads at point `t`. -/
theorem loaded3 (c : Dev nD) (t : Fin cfg0.N) : Loaded (zOf m c) (t.val / 16) 3 (t.val % 16)
    (View.ld (iblk m c 0 t) (Rect.unit ![0, 768] ![256, 256] inb_S256x1024_S256x256_0_768))
    (View.ld (iblk m c 1 t) (Rect.unit ![0, 768] ![256, 256] inb_S256x1024_S256x256_0_768))
    (View.ld (iblk m c 2 t) (Rect.unit ![0, 768] ![256, 256] inb_S256x1024_S256x256_0_768))
    (View.ld (iblk m c 6 t) (Rect.unit ![0, 0] ![256, 128] inb_S256x128_S256x128_0_0)) (View.ld (iblk m c 7 t) (Rect.unit ![0, 0] ![256, 128] inb_S256x128_S256x128_0_0))
    (View.ld (iblk m c 8 t) (Rect.unit ![3, 0, 0] ![1, 256, 256] inb_S4x256x256_S1x256x256_3_0_0)) (View.ld (iblk m c 9 t) (Rect.unit ![3, 0, 0] ![1, 256, 256] inb_S4x256x256_S1x256x256_3_0_0))
    (View.ld (iblk m c 10 t) (Rect.unit ![3, 0, 0] ![1, 256, 256] inb_S4x256x256_S1x256x256_3_0_0))
    (View.ld (iblk m c 11 t) (Rect.unit ![3, 0, 0] ![1, 1, 256] inb_S4x1x256_S1x1x256_3_0_0)) where
  q p d := by
    refine (ldz0 m c t 3 (by decide) _ rfl _ p d).trans ?_
    rw [Nat.zero_add, show t.val * 256 + p.val = t.val / 16 * 4096 + (t.val % 16 * 256 + p.val) by omega]
  k p d := by
    refine (ldz1 m c t 3 (by decide) _ rfl _ p d).trans ?_
    rw [show t.val * 256 + p.val = t.val / 16 * 4096 + (t.val % 16 * 256 + p.val) by omega]
  v p d := by
    refine (ldz2 m c t 3 (by decide) _ rfl _ p d).trans ?_
    rw [show t.val * 256 + p.val = t.val / 16 * 4096 + (t.val % 16 * 256 + p.val) by omega]
  co p i := ldt6 m c t _ p i
  si p i := ldt7 m c t _ p i
  dec p e := ldt8 m c t 3 (by decide) _ rfl _ p e
  xi p e := ldt9 m c t 3 (by decide) _ rfl _ p e
  ze p e := ldt10 m c t 3 (by decide) _ rfl _ p e
  g e := ldt11 m c t 3 (by decide) _ rfl _ e

/-- The gates of head 3 at point `t`. -/
theorem gate3 (c : Dev nD) (t : Fin cfg0.N) (p d : Fin 256) : (View.ld (iblk m c 3 t) (Rect.unit ![0, 768] ![256, 256] inb_S256x1024_S256x256_0_768)) (ix2 p d)
    = zAt (zOf m c) (t.val / 16 * 4096 + (t.val % 16 * 256 + p)) (3072 + (3 * 256 + d)) := by
  refine (ldz3 m c t 3 (by decide) _ rfl _ p d).trans ?_
  rw [show t.val * 256 + p.val = t.val / 16 * 4096 + (t.val % 16 * 256 + p.val) by omega]

/-- A head's state loaded from all heads' states. -/
theorem ld_state {z : FVec Ideal ⟨2, ![8192, 6144]⟩ .bf16} {b n : ℕ} {S : S4x256x256.Idx → Elt Ideal .f32} (hS : ∀ i, S i = stateG z b n i)
    (h : ℕ) (hh : h < 4) (off : Fin 3 → ℕ) (ho : off = ![h, 0, 0]) (inb) (d e : Fin 256) :
    View.ld (Val := Elt Ideal) (e' := .f32) (S := S4x256x256) S (Rect.unit off ![1, 256, 256] inb) (ix3 0 d e)
      = ((state (lam h) (kR z b h) (vR z b h) n d e : ℝ) : EReal) := by
  subst ho
  refine (View.ld_unit_apply_of _ _ _ _ _ (ix3 (⟨h, hh⟩ : Fin 4) d e) fun a => ?_).trans (hS _)
  match a with
  | ⟨0, _⟩ => show h = h + 0; omega
  | ⟨1, _⟩ => show d.val = 0 + d.val; omega
  | ⟨2, _⟩ => show e.val = 0 + e.val; omega

/-- The fill is the state before any position. -/
theorem fill_state (z : FVec Ideal ⟨2, ![8192, 6144]⟩ .bf16) (b n : ℕ) (hn : n = 0) (i : S4x256x256.Idx) : k0_pay2 (F := Ideal) i = stateG z b (n * 256) i := by
  subst hn
  unfold stateG
  rw [Nat.zero_mul]
  refine Eq.trans ?_ (congrArg (fun x : ℝ => (x : EReal)) (state_zero (lam (i 0)) (kR z b (i 0)) (vR z b (i 0)) (i 1) (i 2))).symm
  show Ideal.ofBits .f32 0#32 = _
  rw [Ideal.ofBits_zero_f32]
  rfl

set_option maxHeartbeats 2000000 in
/-- The state left at a later point of a batch. -/
theorem state_B (c : Dev nD) (t : Fin cfg0.N) (H : RealParts (zOf m c)) (h : ¬t.val % 16 = 0)
    (ih : ∀ i, (outsAt0 m c (t.val - 1) (Nat.lt_of_le_of_lt (Nat.sub_le _ _) t.isLt)).2.2 i = stateG (zOf m c) (t.val / 16) (t.val % 16 * 256) i) (i) :
    (outsAt0 m c t.val t.isLt).2.2 i = stateG (zOf m c) (t.val / 16) ((t.val % 16 + 1) * 256) i := by
  rw [outsAt0_B m c t h]
  dsimp only
  unfold sout0_B_0
  rw [View.read_writes_eq_canon _ _ _ (fun y => scover0_B_0 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
    (Memref.isWhole_whole (b := _)).read_unread, read_unread_whole]
  refine View.canon_apply_of_pieces (stateG (zOf m c) (t.val / 16) ((t.val % 16 + 1) * 256)) _ (View.PiecesOf.mem (L := [_, _, _, _]) ?_) i (View.cover_of_tiledL _ ![1, 256, 256] rfl i)
  refine ⟨?_, ?_, ?_, ?_, trivial⟩
  · exact state_piece H (by decide) (by omega) (loaded3 m c t) (fun d e => ld_state ih 3 (by decide) _ rfl inb_S4x256x256_S1x256x256_3_0_0 d e) (fun d e => state_pay3 _ _ _ _ _ _ _ d e) _ rfl inb_S4x256x256_S1x256x256_3_0_0
  · exact state_piece H (by decide) (by omega) (loaded2 m c t) (fun d e => ld_state ih 2 (by decide) _ rfl inb_S4x256x256_S1x256x256_2_0_0 d e) (fun d e => state_pay2 _ _ _ _ _ _ _ d e) _ rfl inb_S4x256x256_S1x256x256_2_0_0
  · exact state_piece H (by decide) (by omega) (loaded1 m c t) (fun d e => ld_state ih 1 (by decide) _ rfl inb_S4x256x256_S1x256x256_1_0_0 d e) (fun d e => state_pay1 _ _ _ _ _ _ _ d e) _ rfl inb_S4x256x256_S1x256x256_1_0_0
  · exact state_piece H (by decide) (by omega) (loaded0 m c t) (fun d e => ld_state ih 0 (by decide) _ rfl inb_S4x256x256_S1x256x256_0_0_0 d e) (fun d e => state_pay0 _ _ _ _ _ _ _ d e) _ rfl inb_S4x256x256_S1x256x256_0_0_0

set_option maxHeartbeats 2000000 in
/-- The first output block at a later point of a batch. -/
theorem row_B (c : Dev nD) (t : Fin cfg0.N) (H : RealParts (zOf m c)) (h : ¬t.val % 16 = 0)
    (ih : ∀ i, (outsAt0 m c (t.val - 1) (Nat.lt_of_le_of_lt (Nat.sub_le _ _) t.isLt)).2.2 i = stateG (zOf m c) (t.val / 16) (t.val % 16 * 256) i) (i) :
    (outsAt0 m c t.val t.isLt).1 i = rowG (zOf m c) (t.val / 16) (t.val % 16) i := by
  rw [outsAt0_B m c t h]
  dsimp only
  unfold out0_B_16
  rw [View.read_writes_eq_canon _ _ _ (fun y => cover0_B_16 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
    (Memref.isWhole_whole (b := _)).read_unread, read_unread_whole]
  refine View.canon_apply_of_pieces (rowG (zOf m c) (t.val / 16) (t.val % 16)) _ (View.PiecesOf.mem (L := [_, _, _, _]) ?_) i (View.cover_of_tiledL _ ![256, 256] rfl i)
  refine ⟨?_, ?_, ?_, ?_, trivial⟩
  · exact row_piece H (by decide) (by omega) (loaded3 m c t) (fun d e => ld_state ih 3 (by decide) _ rfl inb_S4x256x256_S1x256x256_3_0_0 d e) (gate3 m c t) (fun p e => out_pay3 _ _ _ _ _ _ _ _ _ p e) _ rfl inb_S256x1024_S256x256_0_768
  · exact row_piece H (by decide) (by omega) (loaded2 m c t) (fun d e => ld_state ih 2 (by decide) _ rfl inb_S4x256x256_S1x256x256_2_0_0 d e) (gate2 m c t) (fun p e => out_pay2 _ _ _ _ _ _ _ _ _ p e) _ rfl inb_S256x1024_S256x256_0_512
  · exact row_piece H (by decide) (by omega) (loaded1 m c t) (fun d e => ld_state ih 1 (by decide) _ rfl inb_S4x256x256_S1x256x256_1_0_0 d e) (gate1 m c t) (fun p e => out_pay1 _ _ _ _ _ _ _ _ _ p e) _ rfl inb_S256x1024_S256x256_0_256
  · exact row_piece H (by decide) (by omega) (loaded0 m c t) (fun d e => ld_state ih 0 (by decide) _ rfl inb_S4x256x256_S1x256x256_0_0_0 d e) (gate0 m c t) (fun p e => out_pay0 _ _ _ _ _ _ _ _ _ p e) _ rfl inb_S256x1024_S256x256_0_0

set_option maxHeartbeats 2000000 in
/-- The state left at the first point of a batch. -/
theorem state_A (c : Dev nD) (t : Fin cfg0.N) (H : RealParts (zOf m c)) (h : t.val % 16 = 0) (i) :
    (outsAt0 m c t.val t.isLt).2.2 i = stateG (zOf m c) (t.val / 16) ((t.val % 16 + 1) * 256) i := by
  rw [outsAt0_A m c t h]
  dsimp only
  unfold sout0_A_0
  rw [View.read_writes_eq_canon _ _ _ (fun y => scover0_A_0 (y := y) ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
    (Memref.isWhole_whole (b := _)).read_unread, read_unread_whole]
  simp (disch := decide) only [View.readCov_skip, View.readCov_fill]
  refine View.canon_append_of_piecesOf (stateG (zOf m c) (t.val / 16) ((t.val % 16 + 1) * 256)) [_] [_, _, _, _] ?_ i (View.cover_of_tiledL _ ![1, 256, 256] rfl i)
  refine ⟨?_, ?_, ?_, ?_, trivial⟩
  · exact state_piece H (by decide) (by omega) (loaded3 m c t) (fun d e => ld_state (fill_state (zOf m c) (t.val / 16) (t.val % 16) h) 3 (by decide) _ rfl inb_S4x256x256_S1x256x256_3_0_0 d e) (fun d e => state_pay3 _ _ _ _ _ _ _ d e) _ rfl inb_S4x256x256_S1x256x256_3_0_0
  · exact state_piece H (by decide) (by omega) (loaded2 m c t) (fun d e => ld_state (fill_state (zOf m c) (t.val / 16) (t.val % 16) h) 2 (by decide) _ rfl inb_S4x256x256_S1x256x256_2_0_0 d e) (fun d e => state_pay2 _ _ _ _ _ _ _ d e) _ rfl inb_S4x256x256_S1x256x256_2_0_0
  · exact state_piece H (by decide) (by omega) (loaded1 m c t) (fun d e => ld_state (fill_state (zOf m c) (t.val / 16) (t.val % 16) h) 1 (by decide) _ rfl inb_S4x256x256_S1x256x256_1_0_0 d e) (fun d e => state_pay1 _ _ _ _ _ _ _ d e) _ rfl inb_S4x256x256_S1x256x256_1_0_0
  · exact state_piece H (by decide) (by omega) (loaded0 m c t) (fun d e => ld_state (fill_state (zOf m c) (t.val / 16) (t.val % 16) h) 0 (by decide) _ rfl inb_S4x256x256_S1x256x256_0_0_0 d e) (fun d e => state_pay0 _ _ _ _ _ _ _ d e) _ rfl inb_S4x256x256_S1x256x256_0_0_0

set_option maxHeartbeats 2000000 in
/-- The first output block at the first point of a batch. -/
theorem row_A (c : Dev nD) (t : Fin cfg0.N) (H : RealParts (zOf m c)) (h : t.val % 16 = 0) (i) :
    (outsAt0 m c t.val t.isLt).1 i = rowG (zOf m c) (t.val / 16) (t.val % 16) i := by
  rw [outsAt0_A m c t h]
  dsimp only
  unfold out0_A_16
  rw [View.read_writes_eq_canon _ _ _ (fun y => cover0_A_16 (y := y) ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
    (Memref.isWhole_whole (b := _)).read_unread, read_unread_whole]
  simp (disch := decide) only [View.readCov_skip, View.readCov_fill]
  refine View.canon_apply_of_pieces (rowG (zOf m c) (t.val / 16) (t.val % 16)) _ (View.PiecesOf.mem (L := [_, _, _, _]) ?_) i (View.cover_of_tiledL _ ![256, 256] rfl i)
  refine ⟨?_, ?_, ?_, ?_, trivial⟩
  · exact row_piece H (by decide) (by omega) (loaded3 m c t) (fun d e => ld_state (fill_state (zOf m c) (t.val / 16) (t.val % 16) h) 3 (by decide) _ rfl inb_S4x256x256_S1x256x256_3_0_0 d e) (gate3 m c t) (fun p e => out_pay3 _ _ _ _ _ _ _ _ _ p e) _ rfl inb_S256x1024_S256x256_0_768
  · exact row_piece H (by decide) (by omega) (loaded2 m c t) (fun d e => ld_state (fill_state (zOf m c) (t.val / 16) (t.val % 16) h) 2 (by decide) _ rfl inb_S4x256x256_S1x256x256_2_0_0 d e) (gate2 m c t) (fun p e => out_pay2 _ _ _ _ _ _ _ _ _ p e) _ rfl inb_S256x1024_S256x256_0_512
  · exact row_piece H (by decide) (by omega) (loaded1 m c t) (fun d e => ld_state (fill_state (zOf m c) (t.val / 16) (t.val % 16) h) 1 (by decide) _ rfl inb_S4x256x256_S1x256x256_1_0_0 d e) (gate1 m c t) (fun p e => out_pay1 _ _ _ _ _ _ _ _ _ p e) _ rfl inb_S256x1024_S256x256_0_256
  · exact row_piece H (by decide) (by omega) (loaded0 m c t) (fun d e => ld_state (fill_state (zOf m c) (t.val / 16) (t.val % 16) h) 0 (by decide) _ rfl inb_S4x256x256_S1x256x256_0_0_0 d e) (gate0 m c t) (fun p e => out_pay0 _ _ _ _ _ _ _ _ _ p e) _ rfl inb_S256x1024_S256x256_0_0

/-- After every point the scratch holds all heads' states over the positions so far. -/
theorem state_at (c : Dev nD) (H : RealParts (zOf m c)) : ∀ (n : ℕ) (hn : n < cfg0.N) (i),
    (outsAt0 m c n hn).2.2 i = stateG (zOf m c) (n / 16) ((n % 16 + 1) * 256) i
  | 0, hn, i => state_A m c ⟨0, hn⟩ H rfl i
  | n + 1, hn, i => by
    by_cases h : (n + 1) % 16 = 0
    · exact state_A m c ⟨n + 1, hn⟩ H h i
    · refine state_B m c ⟨n + 1, hn⟩ H h (fun i => ?_) i
      refine (state_at c H n (Nat.lt_of_succ_lt hn) i).trans ?_
      show _ = stateG (zOf m c) ((n + 1) / 16) ((n + 1) % 16 * 256) i
      rw [show n / 16 = (n + 1) / 16 by omega, show n % 16 + 1 = (n + 1) % 16 by omega]

/-- The first output block at every point. -/
theorem row_at (c : Dev nD) (H : RealParts (zOf m c)) (t : Fin cfg0.N) (i) :
    (outsAt0 m c t.val t.isLt).1 i = rowG (zOf m c) (t.val / 16) (t.val % 16) i := by
  by_cases h : t.val % 16 = 0
  · exact row_A m c t H h i
  · refine row_B m c t H h (fun i => ?_) i
    refine (state_at m c H (t.val - 1) _ i).trans ?_
    rw [show (t.val - 1) / 16 = t.val / 16 by omega, show (t.val - 1) % 16 + 1 = t.val % 16 by omega]

end Cert.Even

end
-- ==== Proof.EvenGate.lean ====
/-
  The spatial gating unit of the even mixer: its formula, and what the kernel stores of it read at one index.
-/
module

public import proofs.«01_k».proof.Proof.Common
public import proofs.«01_k».proof.Proof.EvenSpec
public import proofs.«01_k».proof.Proof.EvenHead
public import proofs.«01_k».proof.Proof.Gen.EvenIdeal.Skeleton
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Even

open Idealize.ShloMosaic Idealize.ShloMosaic.TcCoe Idealize.SL.Sem
open Cert.EvenIdeal Cert.EvenIdeal.Gen
open scoped BigOperators

/-- The exact gelu. -/
def gelu (x : EReal) : EReal := Ideal.ofBits .f32 1056964608#32 * x * Ideal.erfc (-x * Ideal.ofBits .f32 1060439283#32)

/-- Gelu written with the error function. -/
theorem gelu_erf (x : EReal) : Ideal.ofBits .f32 1056964608#32 * x * (1 + FloatOps.erf (F := Ideal) (φ := .f32) (x * Ideal.ofBits .f32 1060439283#32)) = gelu x := by
  unfold gelu
  rw [EReal.neg_mul, Ideal.erfc_neg]
  rfl

/-- Column `d` of a normalised row with scale `g` and shift `b`. -/
def normed (x g b : Fin 1024 → EReal) (d : Fin 1024) : EReal :=
  (x d - Ideal.div (∑ i, x i) (Ideal.ofBits .f32 1149239296#32))
      * Ideal.rsqrt (Ideal.div (∑ i, (x i - Ideal.div (∑ i, x i) (Ideal.ofBits .f32 1149239296#32)) * (x i - Ideal.div (∑ i, x i) (Ideal.ofBits .f32 1149239296#32)))
          (Ideal.ofBits .f32 1149239296#32) + Ideal.ofBits .f32 897988541#32) * g d + b d

/-- Position `p` of a block of 128 rows: the gated sum over the rows of the same and earlier chunks of sixty-four. -/
def mixed (u : EReal) (N W : Fin 128 → EReal) (b : EReal) (p : Fin 128) : EReal :=
  u * ((∑ x : Fin 128, if x.val / 64 ≤ p.val / 64 then W x * N x else 0) + b)

/-- The kernel's mask of earlier chunks. -/
abbrev mask : IVec S128x128 1 := k0_pay47 (iota Kind.tc S128x128 32 [0] iota_S128x128_d0_w32) (64#32) k0_pay45 k0_pay46

/-- It is set exactly for rows of the same and earlier chunks. -/
theorem mask_at (p x : Fin 128) : mask (ix2 p x) = if x.val / 64 ≤ p.val / 64 then 1#1 else 0#1 := by
  unfold mask k0_pay47 k0_pay45 k0_pay46
  pointwise
  revert p x
  decide +kernel

variable (u w : FVec Ideal S256x1024 .bf16) (lg lb : FVec Ideal S1x1024 .f32) (ws : FVec Ideal S1x128x128 .f32) (bias : FVec Ideal S1x128x1 .f32)
  (U : FVec Ideal S256x1024 .f32) (N : FVec Ideal S256x1024 .bf16)

/-- The gate's gelu. -/
theorem pay44_at (r : Fin 256) (d : Fin 1024) : k0_pay44 (F := Ideal) u (ix2 r d) = gelu (u (ix2 r d)) := by
  refine Eq.trans ?_ (gelu_erf _)
  pointwise [k0_pay44]

/-- The normalised gelu. -/
theorem pay43_at (r : Fin 256) (d : Fin 1024) :
    k0_pay43 (F := Ideal) (k0_pay40 w) (k0_pay41 w) (k0_pay42 w) (FloatOps.ofBits .f32 1149239296#32) lg lb (ix2 r d)
      = normed (fun i => gelu (w (ix2 r i))) (fun i => lg (ix2 0 i)) (fun i => lb (ix2 0 i)) d := by
  pointwise [k0_pay43, k0_pay40, k0_pay41, k0_pay42]
  simp only [gelu_erf]
  rfl

/-- A sum over the mask is a sum over the rows of the same and earlier chunks. -/
theorem masked_eq (u : EReal) (N W : Fin 128 → EReal) (b : EReal) (p : Fin 128) :
    u * ((∑ x : Fin 128, Scalar.select (mask (ix2 p x)) (W x * N x) 0) + b) = mixed u N W b p := by
  unfold mixed
  refine congrArg (fun s => u * (s + b)) (Finset.sum_congr rfl fun x _ => ?_)
  rw [mask_at]
  split <;> rfl

/-- The upper half of head 0's stored columns. -/
theorem mix_pay00 (p : Fin 128) (d : Fin 256) : k0_pay51 (F := Ideal) U (k0_pay49 bias) (k0_pay50 N (iota Kind.tc S128x128 32 [0] iota_S128x128_d0_w32) (64#32) k0_pay45 k0_pay46 ws) (ix2 p d)
    = mixed (U (ix2 ⟨0 * 128 + p.val, by omega⟩ ⟨0 * 256 + d.val, by omega⟩)) (fun x => N (ix2 ⟨0 * 128 + x.val, by omega⟩ ⟨0 * 256 + d.val, by omega⟩)) (fun x => ws (ix3 0 p x)) (bias (ix3 0 p 0)) p := by
  refine Eq.trans ?_ (masked_eq _ _ _ _ _)
  simp only [Nat.reduceMul, Nat.zero_add]
  pointwise [k0_pay51, k0_pay49, k0_pay50, k0_pay48]

/-- The lower half of head 0's stored columns. -/
theorem mix_pay10 (p : Fin 128) (d : Fin 256) : k0_pay52 (F := Ideal) N U (k0_pay48 (iota Kind.tc S128x128 32 [0] iota_S128x128_d0_w32) (64#32) k0_pay45 k0_pay46 ws) (k0_pay49 bias) (ix2 p d)
    = mixed (U (ix2 ⟨1 * 128 + p.val, by omega⟩ ⟨0 * 256 + d.val, by omega⟩)) (fun x => N (ix2 ⟨1 * 128 + x.val, by omega⟩ ⟨0 * 256 + d.val, by omega⟩)) (fun x => ws (ix3 0 p x)) (bias (ix3 0 p 0)) p := by
  refine Eq.trans ?_ (masked_eq _ _ _ _ _)
  simp only [Nat.reduceMul, Nat.zero_add]
  pointwise [k0_pay52, k0_pay48, k0_pay49]

/-- The upper half of head 1's stored columns. -/
theorem mix_pay01 (p : Fin 128) (d : Fin 256) : k0_pay55 (F := Ideal) N U mask ws bias (ix2 p d)
    = mixed (U (ix2 ⟨0 * 128 + p.val, by omega⟩ ⟨1 * 256 + d.val, by omega⟩)) (fun x => N (ix2 ⟨0 * 128 + x.val, by omega⟩ ⟨1 * 256 + d.val, by omega⟩)) (fun x => ws (ix3 0 p x)) (bias (ix3 0 p 0)) p := by
  refine Eq.trans ?_ (masked_eq _ _ _ _ _)
  simp only [Nat.reduceMul, Nat.zero_add]
  pointwise [k0_pay55, k0_pay53, k0_pay54]

/-- The lower half of head 1's stored columns. -/
theorem mix_pay11 (p : Fin 128) (d : Fin 256) : k0_pay56 (F := Ideal) N U mask ws bias (ix2 p d)
    = mixed (U (ix2 ⟨1 * 128 + p.val, by omega⟩ ⟨1 * 256 + d.val, by omega⟩)) (fun x => N (ix2 ⟨1 * 128 + x.val, by omega⟩ ⟨1 * 256 + d.val, by omega⟩)) (fun x => ws (ix3 0 p x)) (bias (ix3 0 p 0)) p := by
  refine Eq.trans ?_ (masked_eq _ _ _ _ _)
  simp only [Nat.reduceMul, Nat.zero_add]
  pointwise [k0_pay56, k0_pay53, k0_pay54]

/-- The upper half of head 2's stored columns. -/
theorem mix_pay02 (p : Fin 128) (d : Fin 256) : k0_pay59 (F := Ideal) N U mask ws bias (ix2 p d)
    = mixed (U (ix2 ⟨0 * 128 + p.val, by omega⟩ ⟨2 * 256 + d.val, by omega⟩)) (fun x => N (ix2 ⟨0 * 128 + x.val, by omega⟩ ⟨2 * 256 + d.val, by omega⟩)) (fun x => ws (ix3 0 p x)) (bias (ix3 0 p 0)) p := by
  refine Eq.trans ?_ (masked_eq _ _ _ _ _)
  simp only [Nat.reduceMul, Nat.zero_add]
  pointwise [k0_pay59, k0_pay57, k0_pay58]

/-- The lower half of head 2's stored columns. -/
theorem mix_pay12 (p : Fin 128) (d : Fin 256) : k0_pay60 (F := Ideal) N U mask ws bias (ix2 p d)
    = mixed (U (ix2 ⟨1 * 128 + p.val, by omega⟩ ⟨2 * 256 + d.val, by omega⟩)) (fun x => N (ix2 ⟨1 * 128 + x.val, by omega⟩ ⟨2 * 256 + d.val, by omega⟩)) (fun x => ws (ix3 0 p x)) (bias (ix3 0 p 0)) p := by
  refine Eq.trans ?_ (masked_eq _ _ _ _ _)
  simp only [Nat.reduceMul, Nat.zero_add]
  pointwise [k0_pay60, k0_pay57, k0_pay58]

/-- The upper half of head 3's stored columns. -/
theorem mix_pay03 (p : Fin 128) (d : Fin 256) : k0_pay63 (F := Ideal) N U mask ws bias (ix2 p d)
    = mixed (U (ix2 ⟨0 * 128 + p.val, by omega⟩ ⟨3 * 256 + d.val, by omega⟩)) (fun x => N (ix2 ⟨0 * 128 + x.val, by omega⟩ ⟨3 * 256 + d.val, by omega⟩)) (fun x => ws (ix3 0 p x)) (bias (ix3 0 p 0)) p := by
  refine Eq.trans ?_ (masked_eq _ _ _ _ _)
  simp only [Nat.reduceMul, Nat.zero_add]
  pointwise [k0_pay63, k0_pay61, k0_pay62]

/-- The lower half of head 3's stored columns. -/
theorem mix_pay13 (p : Fin 128) (d : Fin 256) : k0_pay1 (F := Ideal) N U (k0_pay61 mask ws) (k0_pay62 bias) (ix2 p d)
    = mixed (U (ix2 ⟨1 * 128 + p.val, by omega⟩ ⟨3 * 256 + d.val, by omega⟩)) (fun x => N (ix2 ⟨1 * 128 + x.val, by omega⟩ ⟨3 * 256 + d.val, by omega⟩)) (fun x => ws (ix3 0 p x)) (bias (ix3 0 p 0)) p := by
  refine Eq.trans ?_ (masked_eq _ _ _ _ _)
  simp only [Nat.reduceMul, Nat.zero_add]
  pointwise [k0_pay1, k0_pay61, k0_pay62]

end Cert.Even

end
-- ==== Proof.EvenMix.lean ====
/-
  The spatial gating unit at one grid point of the even mixer's kernel: its output block.
-/
module

public import proofs.«01_k».proof.Proof.Common
public import proofs.«01_k».proof.Proof.EvenSpec
public import proofs.«01_k».proof.Proof.EvenBlocks
public import proofs.«01_k».proof.Proof.EvenGate
public import proofs.«01_k».proof.Proof.Gen.EvenIdeal.Value
public import Idealize.ShloMosaic.Lib.Pipeline.ValueKit.Tiles
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Even

open Idealize.ShloMosaic Idealize.ShloMosaic.TcCoe Idealize.SL.Sem
open Cert.EvenIdeal Cert.EvenIdeal.Gen
open scoped BigOperators

variable (m : (l : Loc nD τ sig) → Buf (Elt Ideal) l)

/-- The gating unit's result at row `r`, column `j`. -/
def mixAt (z : FVec Ideal ⟨2, ![8192, 6144]⟩ .bf16) (lg lb : Fin 1024 → EReal) (W : FVec Ideal ⟨3, ![4, 128, 128]⟩ .f32) (B : FVec Ideal ⟨2, ![4, 128]⟩ .f32)
    (r : ℕ) (j : Fin 1024) : EReal :=
  mixed (gelu (zAt z r (4096 + j))) (fun x => normed (fun i => gelu (zAt z (r / 128 * 128 + x) (5120 + i))) lg lb j)
    (fun x => W (ix3 ⟨j.val / 256, by omega⟩ ⟨r % 128, Nat.mod_lt _ (by decide)⟩ x)) (B (ix2 ⟨j.val / 256, by omega⟩ ⟨r % 128, Nat.mod_lt _ (by decide)⟩))
    ⟨r % 128, Nat.mod_lt _ (by decide)⟩

section
variable {z : FVec Ideal ⟨2, ![8192, 6144]⟩ .bf16} {lg lb : Fin 1024 → EReal} {W : FVec Ideal ⟨3, ![4, 128, 128]⟩ .f32} {B : FVec Ideal ⟨2, ![4, 128]⟩ .f32}
  {U : FVec Ideal S256x1024 .f32} {N : FVec Ideal S256x1024 .bf16} {ws : FVec Ideal S1x128x128 .f32} {bias : FVec Ideal S1x128x1 .f32}

/-- One stored half of one head's columns is a piece of the output block. -/
theorem mix_piece {T h k : ℕ} (hh : h < 4) (hk : k < 2) (hU : ∀ (r : Fin 256) (j : Fin 1024), U (ix2 r j) = gelu (zAt z (T * 256 + r) (4096 + j)))
    (hN : ∀ (r : Fin 256) (j : Fin 1024), N (ix2 r j) = normed (fun i => gelu (zAt z (T * 256 + r) (5120 + i))) lg lb j)
    (hw : ∀ p x : Fin 128, ws (ix3 0 p x) = W (ix3 ⟨h, hh⟩ p x)) (hb : ∀ p : Fin 128, bias (ix3 0 p 0) = B (ix2 ⟨h, hh⟩ p)) {pay : FVec Ideal S128x256 .bf16}
    (hp : ∀ (p : Fin 128) (d : Fin 256), pay (ix2 p d) = mixed (U (ix2 ⟨k * 128 + p.val, by omega⟩ ⟨h * 256 + d.val, by omega⟩))
      (fun x => N (ix2 ⟨k * 128 + x.val, by omega⟩ ⟨h * 256 + d.val, by omega⟩)) (fun x => ws (ix3 0 p x)) (bias (ix3 0 p 0)) p)
    (off : Fin 2 → ℕ) (ho : off = ![128 * k, 256 * h]) (inb) (x : (Rect.unit (s := S256x1024) off ![128, 256] inb).shape.Idx) :
    pay x = (fun i : S256x1024.Idx => mixAt z lg lb W B (T * 256 + (i 0).val) (i 1)) ((Rect.unit (s := S256x1024) off ![128, 256] inb).emb x) := by
  subst ho
  obtain ⟨p, d, rfl⟩ : ∃ (p : Fin 128) (d : Fin 256), x = (ix2 p d : (⟨2, ![128, 256]⟩ : Shape).Idx) := ⟨x 0, x 1, funext fun a => by
    match a with
    | ⟨0, _⟩ => rfl
    | ⟨1, _⟩ => rfl⟩
  have hlt := p.isLt
  have hd := d.isLt
  have he : (Rect.unit (s := S256x1024) ![128 * k, 256 * h] ![128, 256] inb).emb (ix2 p d : (⟨2, ![128, 256]⟩ : Shape).Idx)
      = (ix2 (⟨k * 128 + p.val, by omega⟩ : Fin 256) (⟨h * 256 + d.val, by omega⟩ : Fin 1024) : S256x1024.Idx) := funext fun a => Fin.ext (by
    match a with
    | ⟨0, _⟩ => show 128 * k + 1 * p.val = k * 128 + p.val; omega
    | ⟨1, _⟩ => show 256 * h + 1 * d.val = h * 256 + d.val; omega)
  refine (hp p d).trans (Eq.trans ?_ (congrArg (fun i : S256x1024.Idx => mixAt z lg lb W B (T * 256 + (i 0).val) (i 1)) he).symm)
  show _ = mixAt z lg lb W B (T * 256 + (k * 128 + p.val)) ⟨h * 256 + d.val, _⟩
  unfold mixAt
  have h1 : (T * 256 + (k * 128 + p.val)) / 128 * 128 = T * 256 + k * 128 := by omega
  have h2 : (⟨(T * 256 + (k * 128 + p.val)) % 128, Nat.mod_lt _ (by decide)⟩ : Fin 128) = p := Fin.ext (by
    show (T * 256 + (k * 128 + p.val)) % 128 = p.val
    omega)
  have h3 : (⟨(h * 256 + d.val) / 256, by omega⟩ : Fin 4) = ⟨h, hh⟩ := Fin.ext (by
    show (h * 256 + d.val) / 256 = h
    omega)
  simp only [h1, h2, h3, hU, hN, hw, hb, Nat.add_assoc]
end

/-- The two gelu parts of `z`, loaded. -/
theorem ldg4 (c : Dev nD) (t : Fin cfg0.N) (inb) (r : Fin 256) (j : Fin 1024) :
    View.ld (iblk m c 4 t) (Rect.unit ![0, 0] ![256, 1024] inb) (ix2 r j) = zAt (zOf m c) (t.val * 256 + r) (4096 + j) := by
  refine (View.ld_unit_apply_of _ _ _ _ _ (ix2 r j) fun a => ?_).trans (z4 m c t _ _)
  match a with
  | ⟨0, _⟩ => show r.val = 0 + r.val; omega
  | ⟨1, _⟩ => show j.val = 0 + j.val; omega

/-- The second of them. -/
theorem ldg5 (c : Dev nD) (t : Fin cfg0.N) (inb) (r : Fin 256) (j : Fin 1024) :
    View.ld (iblk m c 5 t) (Rect.unit ![0, 0] ![256, 1024] inb) (ix2 r j) = zAt (zOf m c) (t.val * 256 + r) (5120 + j) := by
  refine (View.ld_unit_apply_of _ _ _ _ _ (ix2 r j) fun a => ?_).trans (z5 m c t _ _)
  match a with
  | ⟨0, _⟩ => show r.val = 0 + r.val; omega
  | ⟨1, _⟩ => show j.val = 0 + j.val; omega

/-- The loaded scale. -/
theorem ldg12 (c : Dev nD) (t : Fin cfg0.N) (inb) (j : Fin 1024) :
    View.ld (iblk m c 12 t) (Rect.unit ![0, 0] ![1, 1024] inb) (ix2 0 j) = m ((c : Thread nD τ).loc main_arg1) (ix1 j) := by
  refine ((View.ld_unit_apply_of _ _ _ _ _ (ix2 (0 : Fin 1) j) fun a => ?_).trans (tab12 m c t _ _)).trans (V84 m c j)
  match a with
  | ⟨0, _⟩ => rfl
  | ⟨1, _⟩ => show j.val = 0 + j.val; omega

/-- The loaded shift. -/
theorem ldg13 (c : Dev nD) (t : Fin cfg0.N) (inb) (j : Fin 1024) :
    View.ld (iblk m c 13 t) (Rect.unit ![0, 0] ![1, 1024] inb) (ix2 0 j) = m ((c : Thread nD τ).loc main_arg2) (ix1 j) := by
  refine ((View.ld_unit_apply_of _ _ _ _ _ (ix2 (0 : Fin 1) j) fun a => ?_).trans (tab13 m c t _ _)).trans (V85 m c j)
  match a with
  | ⟨0, _⟩ => rfl
  | ⟨1, _⟩ => show j.val = 0 + j.val; omega

/-- The gates at point `t`. -/
theorem U_at (c : Dev nD) (t : Fin cfg0.N) (inb) (r : Fin 256) (j : Fin 1024) :
    k0_pay44 (F := Ideal) (View.ld (iblk m c 4 t) (Rect.unit ![0, 0] ![256, 1024] inb)) (ix2 r j) = gelu (zAt (zOf m c) (t.val * 256 + r) (4096 + j)) :=
  (pay44_at _ r j).trans (congrArg gelu (ldg4 m c t inb r j))

/-- The normalised rows at point `t`. -/
theorem N_at (c : Dev nD) (t : Fin cfg0.N) (i5 i12 i13) (r : Fin 256) (j : Fin 1024) :
    k0_pay43 (F := Ideal) (k0_pay40 (View.ld (iblk m c 5 t) (Rect.unit ![0, 0] ![256, 1024] i5))) (k0_pay41 (View.ld (iblk m c 5 t) (Rect.unit ![0, 0] ![256, 1024] i5)))
        (k0_pay42 (View.ld (iblk m c 5 t) (Rect.unit ![0, 0] ![256, 1024] i5))) (FloatOps.ofBits .f32 1149239296#32)
        (View.ld (iblk m c 12 t) (Rect.unit ![0, 0] ![1, 1024] i12)) (View.ld (iblk m c 13 t) (Rect.unit ![0, 0] ![1, 1024] i13)) (ix2 r j)
      = normed (fun i => gelu (zAt (zOf m c) (t.val * 256 + r) (5120 + i))) (fun i => m ((c : Thread nD τ).loc main_arg1) (ix1 i))
          (fun i => m ((c : Thread nD τ).loc main_arg2) (ix1 i)) j := by
  refine (pay43_at _ _ _ r j).trans ?_
  have e5 : (fun i : Fin 1024 => gelu (View.ld (iblk m c 5 t) (Rect.unit ![0, 0] ![256, 1024] i5) (ix2 r i))) = fun i : Fin 1024 => gelu (zAt (zOf m c) (t.val * 256 + r) (5120 + i.val)) :=
    funext fun i => congrArg gelu (ldg5 m c t i5 r i)
  have e12 : (fun i => View.ld (iblk m c 12 t) (Rect.unit ![0, 0] ![1, 1024] i12) (ix2 0 i)) = fun i => m ((c : Thread nD τ).loc main_arg1) (ix1 i) :=
    funext fun i => ldg12 m c t i12 i
  have e13 : (fun i => View.ld (iblk m c 13 t) (Rect.unit ![0, 0] ![1, 1024] i13) (ix2 0 i)) = fun i => m ((c : Thread nD τ).loc main_arg2) (ix1 i) :=
    funext fun i => ldg13 m c t i13 i
  exact congrFun (congr (congr (congrArg normed e5) e12) e13) j

/-- The gating unit's block at a point. -/
abbrev mixG (c : Dev nD) (T : ℕ) : S256x1024.Idx → Elt Ideal .bf16 := fun i =>
  mixAt (zOf m c) (fun i => m ((c : Thread nD τ).loc main_arg1) (ix1 i)) (fun i => m ((c : Thread nD τ).loc main_arg2) (ix1 i))
    (m ((c : Thread nD τ).loc main_arg3)) (m ((c : Thread nD τ).loc main_arg4)) (T * 256 + (i 0).val) (i 1)

set_option maxHeartbeats 2000000 in
/-- The second output block at the first point of a batch. -/
theorem mix_A (c : Dev nD) (t : Fin cfg0.N) (h : t.val % 16 = 0) (i) :
    (outsAt0 m c t.val t.isLt).2.1 i = mixG m c t.val i := by
  rw [outsAt0_A m c t h]
  dsimp only
  unfold out0_A_17
  rw [View.read_writes_eq_canon _ _ _ (fun y => cover0_A_17 (y := y) ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
    (Memref.isWhole_whole (b := _)).read_unread, read_unread_whole]
  refine View.canon_apply_of_pieces (mixG m c t.val) _ (View.PiecesOf.mem (L := [_, _, _, _, _, _, _, _]) ?_) i (View.cover_of_tiledL _ ![128, 256] rfl i)
  refine ⟨?_, ?_, ?_, ?_, ?_, ?_, ?_, ?_, trivial⟩
  · exact mix_piece (h := 3) (k := 1) (by decide) (by decide) (U_at m c t _) (N_at m c t _ _ _) (fun p x => ldt14 m c t 3 (by decide) _ rfl inb_S4x128x128_S1x128x128_3_0_0 p x)
      (fun p => ldt15 m c t 3 (by decide) _ rfl inb_S4x128x1_S1x128x1_3_0_0 p) (fun p d => mix_pay13 _ _ _ _ p d) _ rfl inb_S256x1024_S128x256_128_768
  · exact mix_piece (h := 3) (k := 0) (by decide) (by decide) (U_at m c t _) (N_at m c t _ _ _) (fun p x => ldt14 m c t 3 (by decide) _ rfl inb_S4x128x128_S1x128x128_3_0_0 p x)
      (fun p => ldt15 m c t 3 (by decide) _ rfl inb_S4x128x1_S1x128x1_3_0_0 p) (fun p d => mix_pay03 _ _ _ _ p d) _ rfl inb_S256x1024_S128x256_0_768
  · exact mix_piece (h := 2) (k := 1) (by decide) (by decide) (U_at m c t _) (N_at m c t _ _ _) (fun p x => ldt14 m c t 2 (by decide) _ rfl inb_S4x128x128_S1x128x128_2_0_0 p x)
      (fun p => ldt15 m c t 2 (by decide) _ rfl inb_S4x128x1_S1x128x1_2_0_0 p) (fun p d => mix_pay12 _ _ _ _ p d) _ rfl inb_S256x1024_S128x256_128_512
  · exact mix_piece (h := 2) (k := 0) (by decide) (by decide) (U_at m c t _) (N_at m c t _ _ _) (fun p x => ldt14 m c t 2 (by decide) _ rfl inb_S4x128x128_S1x128x128_2_0_0 p x)
      (fun p => ldt15 m c t 2 (by decide) _ rfl inb_S4x128x1_S1x128x1_2_0_0 p) (fun p d => mix_pay02 _ _ _ _ p d) _ rfl inb_S256x1024_S128x256_0_512
  · exact mix_piece (h := 1) (k := 1) (by decide) (by decide) (U_at m c t _) (N_at m c t _ _ _) (fun p x => ldt14 m c t 1 (by decide) _ rfl inb_S4x128x128_S1x128x128_1_0_0 p x)
      (fun p => ldt15 m c t 1 (by decide) _ rfl inb_S4x128x1_S1x128x1_1_0_0 p) (fun p d => mix_pay11 _ _ _ _ p d) _ rfl inb_S256x1024_S128x256_128_256
  · exact mix_piece (h := 1) (k := 0) (by decide) (by decide) (U_at m c t _) (N_at m c t _ _ _) (fun p x => ldt14 m c t 1 (by decide) _ rfl inb_S4x128x128_S1x128x128_1_0_0 p x)
      (fun p => ldt15 m c t 1 (by decide) _ rfl inb_S4x128x1_S1x128x1_1_0_0 p) (fun p d => mix_pay01 _ _ _ _ p d) _ rfl inb_S256x1024_S128x256_0_256
  · exact mix_piece (h := 0) (k := 1) (by decide) (by decide) (U_at m c t _) (N_at m c t _ _ _) (fun p x => ldt14 m c t 0 (by decide) _ rfl inb_S4x128x128_S1x128x128_0_0_0 p x)
      (fun p => ldt15 m c t 0 (by decide) _ rfl inb_S4x128x1_S1x128x1_0_0_0 p) (fun p d => mix_pay10 _ _ _ _ p d) _ rfl inb_S256x1024_S128x256_128_0
  · exact mix_piece (h := 0) (k := 0) (by decide) (by decide) (U_at m c t _) (N_at m c t _ _ _) (fun p x => ldt14 m c t 0 (by decide) _ rfl inb_S4x128x128_S1x128x128_0_0_0 p x)
      (fun p => ldt15 m c t 0 (by decide) _ rfl inb_S4x128x1_S1x128x1_0_0_0 p) (fun p d => mix_pay00 _ _ _ _ p d) _ rfl inb_S256x1024_S128x256_0_0

set_option maxHeartbeats 2000000 in
/-- The second output block at a later point of a batch. -/
theorem mix_B (c : Dev nD) (t : Fin cfg0.N) (h : ¬t.val % 16 = 0) (i) :
    (outsAt0 m c t.val t.isLt).2.1 i = mixG m c t.val i := by
  rw [outsAt0_B m c t h]
  dsimp only
  unfold out0_B_17
  rw [View.read_writes_eq_canon _ _ _ (fun y => cover0_B_17 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
    (Memref.isWhole_whole (b := _)).read_unread, read_unread_whole]
  refine View.canon_apply_of_pieces (mixG m c t.val) _ (View.PiecesOf.mem (L := [_, _, _, _, _, _, _, _]) ?_) i (View.cover_of_tiledL _ ![128, 256] rfl i)
  refine ⟨?_, ?_, ?_, ?_, ?_, ?_, ?_, ?_, trivial⟩
  · exact mix_piece (h := 3) (k := 1) (by decide) (by decide) (U_at m c t _) (N_at m c t _ _ _) (fun p x => ldt14 m c t 3 (by decide) _ rfl inb_S4x128x128_S1x128x128_3_0_0 p x)
      (fun p => ldt15 m c t 3 (by decide) _ rfl inb_S4x128x1_S1x128x1_3_0_0 p) (fun p d => mix_pay13 _ _ _ _ p d) _ rfl inb_S256x1024_S128x256_128_768
  · exact mix_piece (h := 3) (k := 0) (by decide) (by decide) (U_at m c t _) (N_at m c t _ _ _) (fun p x => ldt14 m c t 3 (by decide) _ rfl inb_S4x128x128_S1x128x128_3_0_0 p x)
      (fun p => ldt15 m c t 3 (by decide) _ rfl inb_S4x128x1_S1x128x1_3_0_0 p) (fun p d => mix_pay03 _ _ _ _ p d) _ rfl inb_S256x1024_S128x256_0_768
  · exact mix_piece (h := 2) (k := 1) (by decide) (by decide) (U_at m c t _) (N_at m c t _ _ _) (fun p x => ldt14 m c t 2 (by decide) _ rfl inb_S4x128x128_S1x128x128_2_0_0 p x)
      (fun p => ldt15 m c t 2 (by decide) _ rfl inb_S4x128x1_S1x128x1_2_0_0 p) (fun p d => mix_pay12 _ _ _ _ p d) _ rfl inb_S256x1024_S128x256_128_512
  · exact mix_piece (h := 2) (k := 0) (by decide) (by decide) (U_at m c t _) (N_at m c t _ _ _) (fun p x => ldt14 m c t 2 (by decide) _ rfl inb_S4x128x128_S1x128x128_2_0_0 p x)
      (fun p => ldt15 m c t 2 (by decide) _ rfl inb_S4x128x1_S1x128x1_2_0_0 p) (fun p d => mix_pay02 _ _ _ _ p d) _ rfl inb_S256x1024_S128x256_0_512
  · exact mix_piece (h := 1) (k := 1) (by decide) (by decide) (U_at m c t _) (N_at m c t _ _ _) (fun p x => ldt14 m c t 1 (by decide) _ rfl inb_S4x128x128_S1x128x128_1_0_0 p x)
      (fun p => ldt15 m c t 1 (by decide) _ rfl inb_S4x128x1_S1x128x1_1_0_0 p) (fun p d => mix_pay11 _ _ _ _ p d) _ rfl inb_S256x1024_S128x256_128_256
  · exact mix_piece (h := 1) (k := 0) (by decide) (by decide) (U_at m c t _) (N_at m c t _ _ _) (fun p x => ldt14 m c t 1 (by decide) _ rfl inb_S4x128x128_S1x128x128_1_0_0 p x)
      (fun p => ldt15 m c t 1 (by decide) _ rfl inb_S4x128x1_S1x128x1_1_0_0 p) (fun p d => mix_pay01 _ _ _ _ p d) _ rfl inb_S256x1024_S128x256_0_256
  · exact mix_piece (h := 0) (k := 1) (by decide) (by decide) (U_at m c t _) (N_at m c t _ _ _) (fun p x => ldt14 m c t 0 (by decide) _ rfl inb_S4x128x128_S1x128x128_0_0_0 p x)
      (fun p => ldt15 m c t 0 (by decide) _ rfl inb_S4x128x1_S1x128x1_0_0_0 p) (fun p d => mix_pay10 _ _ _ _ p d) _ rfl inb_S256x1024_S128x256_128_0
  · exact mix_piece (h := 0) (k := 0) (by decide) (by decide) (U_at m c t _) (N_at m c t _ _ _) (fun p x => ldt14 m c t 0 (by decide) _ rfl inb_S4x128x128_S1x128x128_0_0_0 p x)
      (fun p => ldt15 m c t 0 (by decide) _ rfl inb_S4x128x1_S1x128x1_0_0_0 p) (fun p d => mix_pay00 _ _ _ _ p d) _ rfl inb_S256x1024_S128x256_0_0

/-- The second output block at every point. -/
theorem mix_at (c : Dev nD) (t : Fin cfg0.N) (i) : (outsAt0 m c t.val t.isLt).2.1 i = mixG m c t.val i := by
  by_cases h : t.val % 16 = 0
  · exact mix_A m c t h i
  · exact mix_B m c t h i

end Cert.Even

end
-- ==== Proof.EvenValue.lean ====
/-
  The two result arrays of the even mixer's kernel after the run, row by row.
-/
module

public import proofs.«01_k».proof.Proof.Common
public import proofs.«01_k».proof.Proof.EvenSpec
public import proofs.«01_k».proof.Proof.EvenPoint
public import proofs.«01_k».proof.Proof.EvenMix
public import proofs.«01_k».proof.Proof.Gen.EvenIdeal.Value
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Even

open Idealize.ShloMosaic Idealize.ShloMosaic.TcCoe Idealize.SL.Sem
open Cert.EvenIdeal Cert.EvenIdeal.Gen
open scoped BigOperators

variable (m : (l : Loc nD τ sig) → Buf (Elt Ideal) l)

/-- The retention's result, gated, at row `r`, column `j`. -/
def retAt (z : FVec Ideal ⟨2, ![8192, 6144]⟩ .bf16) (r : ℕ) (j : Fin 1024) : EReal :=
  gated (retained z (r / 4096) (j.val / 256) (r % 4096)) (zAt z r (3072 + j)) ⟨j.val % 256, Nat.mod_lt _ (by decide)⟩

/-- The output windows take block `t` at point `t`. -/
theorem index_out : ∀ t : Fin cfg0.N, win0_16.index t (0 : Fin 2) = t.val ∧ win0_16.index t (1 : Fin 2) = 0
    ∧ win0_17.index t (0 : Fin 2) = t.val ∧ win0_17.index t (1 : Fin 2) = 0 := by decide +kernel

/-- The first result array. -/
def out16 (c : Dev nD) : Buf (Elt Ideal) ((c : Thread nD τ).loc main_v87_0) := fun i => retAt (zOf m c) (i 0).val (i 1)

/-- The second result array. -/
def out17 (c : Dev nD) : Buf (Elt Ideal) ((c : Thread nD τ).loc main_v87_1) := fun i =>
  mixAt (zOf m c) (fun i => m ((c : Thread nD τ).loc main_arg1) (ix1 i)) (fun i => m ((c : Thread nD τ).loc main_arg2) (ix1 i))
    (m ((c : Thread nD τ).loc main_arg3)) (m ((c : Thread nD τ).loc main_arg4)) (i 0).val (i 1)

/-- What point `t` writes back to the first array is block `t` of it. -/
theorem block16 (c : Dev nD) (H : RealParts (zOf m c)) (t : Fin cfg0.N) :
    (dats m 0 c).flushed 16 t = ((cfg0.win 16).blk t).view.read (Elt Ideal) (out16 m c) := by
  have hN : t.val < 32 := lt_of_lt_of_eq t.isLt (show cfg0.N = 32 from N_0)
  obtain ⟨e0, e1, e2, e3⟩ := index_out t
  rw [Value.flushed16]
  funext y
  obtain ⟨p, d, rfl⟩ : ∃ (p : Fin 256) (d : Fin 1024), y = ix2 p d := ⟨y 0, y 1, eq_ix2 y⟩
  have hp := p.isLt
  have hr : t.val * 256 + p.val < 8192 := by omega
  rw [View.read_apply]
  have hb : ((cfg0.win 16).blk t).view.emb (ix2 p d) = ix2 (⟨t.val * 256 + p.val, hr⟩ : Fin 8192) d := by
    funext a; apply Fin.ext
    match a with
    | ⟨0, _⟩ => show win0_16.index t 0 * 256 + 1 * p.val = t.val * 256 + p.val; rw [e0]; omega
    | ⟨1, _⟩ => show win0_16.index t 1 * 1024 + 1 * d.val = d.val; rw [e1]; omega
  rw [hb]
  refine (row_at m c H t (ix2 p d)).trans ?_
  show gated (retained (zOf m c) (t.val / 16) (d.val / 256) (t.val % 16 * 256 + p.val)) (zAt (zOf m c) (t.val / 16 * 4096 + (t.val % 16 * 256 + p.val)) (3072 + d.val)) _
    = retAt (zOf m c) (t.val * 256 + p.val) d
  unfold retAt
  have h1 : (t.val * 256 + p.val) / 4096 = t.val / 16 := by omega
  have h2 : (t.val * 256 + p.val) % 4096 = t.val % 16 * 256 + p.val := by omega
  have h3 : t.val / 16 * 4096 + (t.val % 16 * 256 + p.val) = t.val * 256 + p.val := by omega
  rw [h1, h2, h3]
  rfl

/-- The first array after the run. -/
theorem final16 (c : Dev nD) (H : RealParts (zOf m c)) : (dats m 0 c).arrAt 16 cfg0.N = out16 m c :=
  (dats m 0 c).arrAt_eq_of_cover 16 _ (fun t _ => block16 m c H t) fun i => by
    have h0 : (i 0).val < 8192 := (i 0).isLt
    have h1 : (i 1).val < 1024 := (i 1).isLt
    have hN : cfg0.N = 32 := N_0
    obtain ⟨t, ht⟩ : ∃ t : Fin cfg0.N, t.val = (i 0).val / 256 := ⟨⟨(i 0).val / 256, by rw [hN]; omega⟩, rfl⟩
    obtain ⟨e0, e1, e2, e3⟩ := index_out t
    refine ⟨t, flush0_16 t, ?_⟩
    show i ∈ ((View.whole main_v87_0).slice (win0_16.rect t)).set
    rw [View.set_slice_whole, Rect.mem_set_unit]
    intro a
    match a with
    | ⟨0, _⟩ => show win0_16.index t 0 * 256 ≤ (i 0 : Nat) ∧ (i 0 : Nat) < win0_16.index t 0 * 256 + 256; rw [e0]; omega
    | ⟨1, _⟩ => show win0_16.index t 1 * 1024 ≤ (i 1 : Nat) ∧ (i 1 : Nat) < win0_16.index t 1 * 1024 + 1024; rw [e1]; omega

/-- What point `t` writes back to the second array is block `t` of it. -/
theorem block17 (c : Dev nD) (t : Fin cfg0.N) :
    (dats m 0 c).flushed 17 t = ((cfg0.win 17).blk t).view.read (Elt Ideal) (out17 m c) := by
  have hN : t.val < 32 := lt_of_lt_of_eq t.isLt (show cfg0.N = 32 from N_0)
  obtain ⟨e0, e1, e2, e3⟩ := index_out t
  rw [Value.flushed17]
  funext y
  obtain ⟨p, d, rfl⟩ : ∃ (p : Fin 256) (d : Fin 1024), y = ix2 p d := ⟨y 0, y 1, eq_ix2 y⟩
  have hp := p.isLt
  have hr : t.val * 256 + p.val < 8192 := by omega
  rw [View.read_apply]
  have hb : ((cfg0.win 17).blk t).view.emb (ix2 p d) = ix2 (⟨t.val * 256 + p.val, hr⟩ : Fin 8192) d := by
    funext a; apply Fin.ext
    match a with
    | ⟨0, _⟩ => show win0_17.index t 0 * 256 + 1 * p.val = t.val * 256 + p.val; rw [e2]; omega
    | ⟨1, _⟩ => show win0_17.index t 1 * 1024 + 1 * d.val = d.val; rw [e3]; omega
  rw [hb]
  exact mix_at m c t (ix2 p d)

/-- The second array after the run. -/
theorem final17 (c : Dev nD) : (dats m 0 c).arrAt 17 cfg0.N = out17 m c :=
  (dats m 0 c).arrAt_eq_of_cover 17 _ (fun t _ => block17 m c t) fun i => by
    have h0 : (i 0).val < 8192 := (i 0).isLt
    have h1 : (i 1).val < 1024 := (i 1).isLt
    have hN : cfg0.N = 32 := N_0
    obtain ⟨t, ht⟩ : ∃ t : Fin cfg0.N, t.val = (i 0).val / 256 := ⟨⟨(i 0).val / 256, by rw [hN]; omega⟩, rfl⟩
    obtain ⟨e0, e1, e2, e3⟩ := index_out t
    refine ⟨t, flush0_17 t, ?_⟩
    show i ∈ ((View.whole main_v87_1).slice (win0_17.rect t)).set
    rw [View.set_slice_whole, Rect.mem_set_unit]
    intro a
    match a with
    | ⟨0, _⟩ => show win0_17.index t 0 * 256 ≤ (i 0 : Nat) ∧ (i 0 : Nat) < win0_17.index t 0 * 256 + 256; rw [e2]; omega
    | ⟨1, _⟩ => show win0_17.index t 1 * 1024 ≤ (i 1 : Nat) ∧ (i 1 : Nat) < win0_17.index t 1 * 1024 + 1024; rw [e3]; omega

end Cert.Even

end
-- ==== Proof.EvenRefValue.lean ====
/-
  The two results of the even mixer's reference, read at one row and column.
-/
module

public import proofs.«01_k».proof.Proof.EvenRefLoop
public import proofs.«01_k».proof.Proof.EvenValue
public import proofs.«01_k».proof.Proof.Gen.EvenRefIdeal.Run
public import Idealize.ShloMosaic.Lib.Pointwise
public import Idealize.ShloMosaic.Lib.StableHlo.ReadAt

@[expose] public section

set_option maxRecDepth 16384

noncomputable section

namespace Cert.Even.Ref

open Idealize.ShloMosaic Idealize.ShloMosaic.TcCoe Idealize.SL.Sem
open Cert.EvenRefIdeal Cert.EvenRefIdeal.Gen Cert.EvenRefIdeal.Value Idealize.ShloMosaic.StableHlo
open scoped BigOperators

variable (X : Valuation τ sig (Elt Ideal))

/-- The second result as it is written: the mask still in words. -/
theorem words_v216 (r : Fin 8192) (d : Fin 1024) : out_main_v216 X (ix2 r d)
    = gelu (X (Proc.tc.devRef main_arg0) (ix2 r ⟨4096 + d.val, by omega⟩))
      * ((∑ x : Fin 128, Scalar.select (IntOp.cmpi CmpIPredicate.sle (fd (BitVec.ofNat 32 x.val)) (fd (BitVec.ofNat 32 (r.val % 4096 % 128))))
          (normed (fun i => gelu (X (Proc.tc.devRef main_arg0) (ix2 ⟨r.val / 4096 * 4096 + (r.val % 4096 / 128 * 128 + x.val), by omega⟩ ⟨5120 + i.val, by omega⟩)))
              (fun i => X (Proc.tc.devRef main_arg1) (ix1 i)) (fun i => X (Proc.tc.devRef main_arg2) (ix1 i)) d
            * X (Proc.tc.devRef main_arg3) (ix3 ⟨d.val / 256, by omega⟩ ⟨r.val % 4096 % 128, by omega⟩ x)) (0 : EReal))
        + X (Proc.tc.devRef main_arg4) (ix2 ⟨d.val / 256, by omega⟩ ⟨r.val % 4096 % 128, by omega⟩)) := by
  unfold out_main_v216
  simp only [id_eq]
  pointwise
  rfl

/-- The mask's words say: the same or an earlier chunk. -/
theorem mask_words : ∀ x p : Fin 128, IntOp.cmpi CmpIPredicate.sle (fd (BitVec.ofNat 32 x.val)) (fd (BitVec.ofNat 32 p.val)) = if x.val / 64 ≤ p.val / 64 then 1#1 else 0#1 := by
  intro x p
  have hx := fd_word ⟨x.val, by omega⟩
  have hp := fd_word ⟨p.val, by omega⟩
  dsimp only at hx hp
  rw [hx, hp]
  have h : ∀ a b : Fin 2, IntOp.cmpi CmpIPredicate.sle (BitVec.ofNat 32 a.val) (BitVec.ofNat 32 b.val) = if a.val ≤ b.val then 1#1 else 0#1 := by decide +kernel
  exact h ⟨x.val / 64, by omega⟩ ⟨p.val / 64, by omega⟩

/-- The second result is the gating unit's formula. -/
theorem v216_at (r : Fin 8192) (d : Fin 1024) : out_main_v216 X (ix2 r d)
    = mixAt (aZ X) (fun i => X (Proc.tc.devRef main_arg1) (ix1 i)) (fun i => X (Proc.tc.devRef main_arg2) (ix1 i))
        (X (Proc.tc.devRef main_arg3)) (X (Proc.tc.devRef main_arg4)) r.val d := by
  have hr := r.isLt
  refine (words_v216 X r d).trans ?_
  unfold mixAt mixed
  have h1 : r.val / 4096 * 4096 + r.val % 4096 / 128 * 128 = r.val / 128 * 128 := by omega
  have h2 : r.val % 4096 % 128 = r.val % 128 := by omega
  refine congrArg₂ (· * ·) (congrArg gelu (zAt_eq (aZ X) r.isLt (by omega))) (congrArg₂ (· + ·) (Finset.sum_congr rfl fun x _ => ?_) ?_)
  · have hz : ∀ i : Fin 1024, X (Proc.tc.devRef main_arg0) (ix2 (⟨r.val / 4096 * 4096 + (r.val % 4096 / 128 * 128 + x.val), by omega⟩ : Fin 8192) (⟨5120 + i.val, by omega⟩ : Fin 6144))
        = zAt (aZ X) (r.val / 128 * 128 + x.val) (5120 + i.val) := fun i =>
      (zAt_eq (aZ X) _ _).trans (congrArg (fun n => zAt (aZ X) n (5120 + i.val)) (by omega))
    have e : IntOp.cmpi CmpIPredicate.sle (fd (BitVec.ofNat 32 x.val)) (fd (BitVec.ofNat 32 (r.val % 4096 % 128)))
        = if x.val / 64 ≤ r.val % 128 / 64 then 1#1 else 0#1 := by
      rw [h2]
      exact mask_words x ⟨r.val % 128, by omega⟩
    rw [e]
    simp only [hz, h2]
    by_cases hm : x.val / 64 ≤ r.val % 128 / 64
    · rw [if_pos hm, if_pos hm, mul_comm]
      rfl
    · rw [if_neg hm, if_neg hm]
      rfl
  · simp only [h2]

/-- The first result as it is written. -/
theorem words_v214 (r : Fin 8192) (d : Fin 1024) : out_main_v214 X (ix2 r d)
    = gated (fun e => X (Proc.tc.devRef main_v132_9) (ix5 ⟨r.val % 4096 / 64, by omega⟩ ⟨r.val / 4096, by omega⟩ ⟨d.val / 256, by omega⟩ ⟨r.val % 4096 % 64, by omega⟩ e))
        (X (Proc.tc.devRef main_arg0) (ix2 r ⟨3072 + d.val, by omega⟩)) ⟨d.val % 256, Nat.mod_lt _ (by decide)⟩ := by
  unfold out_main_v214
  simp only [id_eq]
  pointwise
  rfl

/-- The first result is the gated, normalised retention, when the loop's array is the retention. -/
theorem v214_at (r : Fin 8192) (d : Fin 1024)
    (h : ∀ (j : Fin 64) (b : Fin 2) (h : Fin 4) (p : Fin 64) (e : Fin 256), X (Proc.devRef .tc main_v132_9) (ix5 j b h p e) = retained (aZ X) b h (j * 64 + p) e) :
    out_main_v214 X (ix2 r d) = retAt (aZ X) r.val d := by
  have hr := r.isLt
  have hs : r.val % 4096 / 64 * 64 + r.val % 4096 % 64 = r.val % 4096 := by omega
  refine (words_v214 X r d).trans ?_
  unfold retAt
  refine congrArg₂ (fun f g => gated f g _) (funext fun e => (h _ _ _ _ e).trans ?_) (zAt_eq (aZ X) r.isLt (by omega))
  exact congrArg (fun n => retained (aZ X) (r.val / 4096) (d.val / 256) n e) hs

variable (m : (l : Loc nD τ sig) → Buf (Elt Ideal) l)

/-- The first result of the run. -/
theorem final214 (c : Dev nD) (H : RealParts (aZ fun b => m (c, b))) (r : Fin 8192) (d : Fin 1024) :
    out_main_v214 (STEP^[64] (entryContents preI m c)) (ix2 r d) = retAt (m ((c.tc : Thread nD τ).loc main_arg0)) r.val d := by
  have e : aZ (STEP^[64] (entryContents preI m c)) = m ((c.tc : Thread nD τ).loc main_arg0) := iter_main_arg0 m c 64
  refine (v214_at _ r d fun j b h p k => ?_).trans (congrArg (fun z => retAt z r.val d) e)
  rw [e]
  exact (inv_iter m c H 64 le_rfl).out j b h p k j.isLt

/-- The second result of the run. -/
theorem final216 (c : Dev nD) (r : Fin 8192) (d : Fin 1024) :
    out_main_v216 (STEP^[64] (entryContents preI m c)) (ix2 r d)
      = mixAt (m ((c.tc : Thread nD τ).loc main_arg0)) (fun i => m ((c.tc : Thread nD τ).loc main_arg1) (ix1 i)) (fun i => m ((c.tc : Thread nD τ).loc main_arg2) (ix1 i))
          (m ((c.tc : Thread nD τ).loc main_arg3)) (m ((c.tc : Thread nD τ).loc main_arg4)) r.val d := by
  refine (v216_at _ r d).trans ?_
  unfold aZ
  rw [iter_main_arg0, iter_main_arg1, iter_main_arg2, iter_main_arg3, iter_main_arg4]

end Cert.Even.Ref

end
-- ==== Proof.EvenClaim.lean ====
/-
  The claim about the even mixers: from equal arguments, with finite queries, keys and values, the kernel and the
  reference end with equal results.
-/
module

public import proofs.«01_k».proof.Defs
public import proofs.«01_k».proof.Proof.EvenRefValue
public import proofs.«01_k».proof.Proof.Gen.Pre_finite
public import proofs.«01_k».proof.Proof.Gen.Even.Frame
public import proofs.«01_k».proof.Proof.Gen.EvenIdeal.Value
public import proofs.«01_k».proof.Proof.Gen.EvenRefIdeal.Run
public import Idealize.ShloMosaic.Lib.Pointwise
public import Idealize.ShloMosaic.Lib.Quiescent

@[expose] public section

set_option maxRecDepth 16384

noncomputable section

namespace Cert.Proof

open Idealize.ShloMosaic Idealize.ShloMosaic.TcCoe Idealize.SL.Sem Cert.Even

/-- The single-precision word of infinity. -/
theorem infinity_f32 : Ideal.ofBits .f32 2139095040#32 = (⊤ : EReal) := by
  simp [Ideal.ofBits, Ideal.ieee]

/-- A number whose absolute value is below infinity is real. -/
theorem real_of_abs_lt {x : EReal} (h : max x (-x) < ⊤) : ∃ y : ℝ, x = (y : EReal) := by
  have h1 : x ≠ ⊤ := fun e => absurd (le_max_left x (-x)) (not_le.mpr (by rw [e] at h ⊢; exact absurd h (by simp)))
  have h2 : x ≠ ⊥ := fun e => by
    rw [e] at h
    exact absurd h (by simp)
  exact ⟨x.toReal, (EReal.coe_toReal h1 h2).symm⟩

/-- Finite queries, keys and values are real numbers. -/
theorem parts_real (a : FVec Ideal ⟨2, ![8192, 6144]⟩ .bf16) (b c w d)
    (h : Cert.Pre_finite.fn (F := Ideal) a b c w d = fun _ => 1#1) : RealParts a := by
  intro r j hj
  by_cases hr : r < 8192
  · have e := congrFun h (ValueIdx.ix2 (⟨r, hr⟩ : Fin 8192) (⟨j, hj⟩ : Fin 3072))
    unfold Cert.Pre_finite.fn at e
    dsimp only at e
    have key : BitVec.ofBool (decide (max (zAt a r j) (-(zAt a r j)) < Ideal.ofBits .f32 2139095040#32)) = 1#1 := by
      refine Eq.trans ?_ e
      rw [← zAt_eq a hr (by omega : j < 6144)]
      pointwise
      rfl
    rw [infinity_f32] at key
    by_cases hlt : max (zAt a r j) (-(zAt a r j)) < ⊤
    · exact real_of_abs_lt hlt
    · rw [decide_eq_false hlt] at key
      exact absurd key (by decide)
  · refine ⟨0, ?_⟩
    unfold zAt
    rw [dif_neg fun h => hr h.1]
    rfl

/-- The even mixers' reference runs and leaves its arguments as they were. -/
theorem even_reference_frame : Cert.quiescent_EvenRefIdeal := fun m ρ _ =>
  (θ_run _ _ _).mono (fun r h => ⟨fun c => (h c).2.2, sem_eq_zero_of_no_sems (by decide) r.2⟩) (Cert.EvenRefIdeal.Value.run m ρ)

/-- The even mixers' kernel and reference end with equal results when queries, keys and values are finite. -/
theorem even_algebraic : Cert.algebraic_EvenIdeal_EvenRefIdeal_pre_finite := fun m ρ m' ρ' hpre hag => by
  have H : ∀ c, RealParts (zOf m c) := fun c => parts_real _ _ _ _ _ (hpre c)
  refine ⟨fun c => out16 m c, fun c => out17 m c,
    (θ_run _ _ _).mono (fun _ h c => ⟨(h c).1.trans (final16 m c (H c)), (h c).2.1.trans (final17 m c), (h c).2.2⟩) (Cert.EvenIdeal.Value.run_blocks m ρ),
    (θ_run _ _ _).mono (fun _ h c => ⟨(h c).1.trans ?_, (h c).2.1.trans ?_, (h c).2.2⟩) (Cert.EvenRefIdeal.Value.run m' ρ')⟩
  · obtain ⟨h0, h1, h2, h3, h4⟩ := hag c
    have H' : RealParts (Ref.aZ fun b => m' (c, b)) := by
      have e : (Ref.aZ fun b => m' (c, b)) = zOf m c := h0
      rw [e]
      exact H c
    funext i
    obtain ⟨r, d, rfl⟩ : ∃ (r : Fin 8192) (d : Fin 1024), i = ValueIdx.ix2 r d := ⟨i 0, i 1, ValueIdx.eq_ix2 i⟩
    refine (Ref.final214 m' c H' r d).trans ?_
    rw [h0]
    rfl
  · obtain ⟨h0, h1, h2, h3, h4⟩ := hag c
    funext i
    obtain ⟨r, d, rfl⟩ : ∃ (r : Fin 8192) (d : Fin 1024), i = ValueIdx.ix2 r d := ⟨i 0, i 1, ValueIdx.eq_ix2 i⟩
    refine (Ref.final216 m' c r d).trans ?_
    rw [h0, h1, h2, h3, h4]
    rfl

end Cert.Proof

end
-- ==== Proof.PrepPoint.lean ====
/-
  The attention preparation's stored vectors, each read at one index of its block.
-/
module

public import proofs.«01_k».proof.Proof.Common
public import proofs.«01_k».proof.Proof.Gen.PrepIdeal.Skeleton
public import Idealize.ShloMosaic.Lib.Pipeline.ReadBack
public import Idealize.ShloMosaic.Lib.Pointwise

@[expose] public section

set_option maxRecDepth 16384

noncomputable section

namespace Cert.Prep

open Idealize.ShloMosaic Idealize.ShloMosaic.TcCoe Idealize.SL.Sem
open Cert.PrepIdeal Cert.PrepIdeal.Gen
open scoped BigOperators

/-- Entry `k` of a row `x` of `n` numbers scaled by the reciprocal root of its mean square (plus the small constant) and by the
    gain `g`; `w` is the single-precision word of `n`. -/
def scaled {n : ℕ} (w : BitVec 32) (x g : Fin n → EReal) (k : Fin n) : EReal :=
  x k * Ideal.rsqrt (Ideal.div (∑ q : Fin n, x q * x q) (Ideal.ofBits .f32 w) + Ideal.ofBits .f32 0x358637BD#32) * g k

/-- Entry `k` of the normalised query latent of a row `z` of the projection. -/
def latent (z : Fin 896 → EReal) (g : Fin 384 → EReal) (k : Fin 384) : EReal :=
  scaled 0x43C00000#32 (fun q : Fin 384 => z ⟨q.val, by omega⟩) g k

/-- The normalised and scaled head `h` of rows `128 s` to `128 s + 127`, at row `p` of them and entry `d`. -/
def headOf (v : FVec Ideal S512x2048 .f32) (g : Vec Ideal S1x256 .f32) (s : Fin 4) (h : Fin 8) (p : Fin 128) (d : Fin 256) : EReal :=
  scaled 0x43800000#32 (fun e : Fin 256 => v (ix2 ⟨128 * s.val + p.val, by omega⟩ ⟨256 * h.val + e.val, by omega⟩)) (fun e => g (ix2 (0 : Fin 1) e)) d
    * Ideal.ofBits .f32 0x3DB8AA3B#32

/-- The latent rows at one index. -/
theorem latent_at (x : FVec Ideal S512x896 .f32) (g : FVec Ideal S1x384 .f32) (p : Fin 512) (k : Fin 384) :
    k0_pay2 (F := Ideal) x g (ix2 p k) = latent (fun j => x (ix2 p j)) (fun j => g (ix2 (0 : Fin 1) j)) k := by
  unfold k0_pay2
  pointwise
  rfl

/-- The queries of all heads at one index. -/
theorem query_at (x : FVec Ideal S512x896 .f32) (g : FVec Ideal S1x384 .f32) (w : FVec Ideal S384x2048 .bf16) (p : Fin 512) (c : Fin 2048) :
    k0_pay3 (F := Ideal) x g w (ix2 p c) = ∑ k : Fin 384, latent (fun j => x (ix2 p j)) (fun j => g (ix2 (0 : Fin 1) j)) k * w (ix2 k c) := by
  have e : k0_pay3 (F := Ideal) x g w (ix2 p c) = ∑ k : Fin 384, k0_pay2 (F := Ideal) x g (ix2 p k) * w (ix2 k c) := by
    unfold k0_pay3
    generalize k0_pay2 (F := Ideal) x g = y
    pointwise
  rw [e]
  exact Finset.sum_congr rfl fun k _ => congrArg (· * _) (latent_at x g p k)

/-- The indexer's transposed queries at one index. -/
theorem index_at (y : FVec Ideal S512x384 .bf16) (w : FVec Ideal S2048x384 .bf16) (a : Fin 2048) (p : Fin 512) :
    k0_pay59 (F := Ideal) y w (ix2 a p) = (∑ k : Fin 384, w (ix2 a k) * y (ix2 p k)) * Ideal.ofBits .f32 0x3E000000#32 := by
  unfold k0_pay59
  pointwise

/-- The normalised key-value latent at one index. -/
theorem kv_at (x : FVec Ideal S512x896 .f32) (g : FVec Ideal S1x256 .f32) (p : Fin 512) (d : Fin 256) :
    k0_pay124 (F := Ideal) x g (ix2 p d) = scaled 0x43800000#32 (fun q : Fin 256 => x (ix2 p ⟨384 + q.val, by omega⟩)) (fun q => g (ix2 (0 : Fin 1) q)) d := by
  unfold k0_pay124
  pointwise
  rfl

/-- The indexer's keys at one index. -/
theorem key_at (x : FVec Ideal S512x896 .f32) (p : Fin 512) (d : Fin 128) :
    k0_pay125 (F := Ideal) x (ix2 p d) = x (ix2 p ⟨640 + d.val, by omega⟩) := by
  unfold k0_pay125
  pointwise

/-- The indexer's head weights, transposed, at one index. -/
theorem weight_at (x : FVec Ideal S512x896 .f32) (h : Fin 16) (p : Fin 512) :
    k0_pay1 (F := Ideal) (k0_pay126 (F := Ideal) x) (ix2 h p) = x (ix2 p ⟨768 + h.val, by omega⟩) * Ideal.ofBits .f32 0x3E800000#32 := by
  unfold k0_pay1 k0_pay126
  pointwise

/-- The stored head 7 of row block 3. -/
theorem head_3_7 (v : FVec Ideal S512x2048 .f32) (g : Vec Ideal S1x256 .f32) (p : Fin 128) (d : Fin 256) :
    k0_pay58 (F := Ideal) v g (ix4 (0 : Fin 1) (0 : Fin 1) p d) = headOf v g 3 7 p d := by
  unfold k0_pay58
  unfold headOf scaled
  pointwise

/-- The stored head 6 of row block 3. -/
theorem head_3_6 (v : FVec Ideal S512x2048 .f32) (g : Vec Ideal S1x256 .f32) (p : Fin 128) (d : Fin 256) :
    k0_pay57 (F := Ideal) (k0_pay56 (F := Ideal) v g) (ix4 (0 : Fin 1) (0 : Fin 1) p d) = headOf v g 3 6 p d := by
  unfold k0_pay57 k0_pay56
  unfold headOf scaled
  pointwise

/-- The stored head 5 of row block 3. -/
theorem head_3_5 (v : FVec Ideal S512x2048 .f32) (g : Vec Ideal S1x256 .f32) (p : Fin 128) (d : Fin 256) :
    k0_pay55 (F := Ideal) (k0_pay54 (F := Ideal) v) g (ix4 (0 : Fin 1) (0 : Fin 1) p d) = headOf v g 3 5 p d := by
  unfold k0_pay55 k0_pay54
  unfold headOf scaled
  pointwise

/-- The stored head 4 of row block 3. -/
theorem head_3_4 (v : FVec Ideal S512x2048 .f32) (g : Vec Ideal S1x256 .f32) (p : Fin 128) (d : Fin 256) :
    k0_pay53 (F := Ideal) v g (ix4 (0 : Fin 1) (0 : Fin 1) p d) = headOf v g 3 4 p d := by
  unfold k0_pay53
  unfold headOf scaled
  pointwise

/-- The stored head 3 of row block 3. -/
theorem head_3_3 (v : FVec Ideal S512x2048 .f32) (g : Vec Ideal S1x256 .f32) (p : Fin 128) (d : Fin 256) :
    k0_pay52 (F := Ideal) (k0_pay50 (F := Ideal) v) (k0_pay51 (F := Ideal) v) g (ix4 (0 : Fin 1) (0 : Fin 1) p d) = headOf v g 3 3 p d := by
  unfold k0_pay52 k0_pay51 k0_pay50
  unfold headOf scaled
  pointwise

/-- The stored head 2 of row block 3. -/
theorem head_3_2 (v : FVec Ideal S512x2048 .f32) (g : Vec Ideal S1x256 .f32) (p : Fin 128) (d : Fin 256) :
    k0_pay49 (F := Ideal) v g (ix4 (0 : Fin 1) (0 : Fin 1) p d) = headOf v g 3 2 p d := by
  unfold k0_pay49
  unfold headOf scaled
  pointwise

/-- The stored head 1 of row block 3. -/
theorem head_3_1 (v : FVec Ideal S512x2048 .f32) (g : Vec Ideal S1x256 .f32) (p : Fin 128) (d : Fin 256) :
    k0_pay48 (F := Ideal) (k0_pay46 (F := Ideal) v) (k0_pay47 (F := Ideal) v) (Scalar.ofBits (F := Ideal) .f32 0x358637BD#32) g (ix4 (0 : Fin 1) (0 : Fin 1) p d) = headOf v g 3 1 p d := by
  unfold k0_pay48 k0_pay47 k0_pay46
  unfold headOf scaled
  pointwise

/-- The stored head 0 of row block 3. -/
theorem head_3_0 (v : FVec Ideal S512x2048 .f32) (g : Vec Ideal S1x256 .f32) (p : Fin 128) (d : Fin 256) :
    k0_pay45 (F := Ideal) v g (ix4 (0 : Fin 1) (0 : Fin 1) p d) = headOf v g 3 0 p d := by
  unfold k0_pay45
  unfold headOf scaled
  pointwise

/-- The stored head 7 of row block 2. -/
theorem head_2_7 (v : FVec Ideal S512x2048 .f32) (g : Vec Ideal S1x256 .f32) (p : Fin 128) (d : Fin 256) :
    k0_pay44 (F := Ideal) (k0_pay42 (F := Ideal) v) (k0_pay43 (F := Ideal) v) g (ix4 (0 : Fin 1) (0 : Fin 1) p d) = headOf v g 2 7 p d := by
  unfold k0_pay44 k0_pay43 k0_pay42
  unfold headOf scaled
  pointwise

/-- The stored head 6 of row block 2. -/
theorem head_2_6 (v : FVec Ideal S512x2048 .f32) (g : Vec Ideal S1x256 .f32) (p : Fin 128) (d : Fin 256) :
    k0_pay41 (F := Ideal) v g (ix4 (0 : Fin 1) (0 : Fin 1) p d) = headOf v g 2 6 p d := by
  unfold k0_pay41
  unfold headOf scaled
  pointwise

/-- The stored head 5 of row block 2. -/
theorem head_2_5 (v : FVec Ideal S512x2048 .f32) (g : Vec Ideal S1x256 .f32) (p : Fin 128) (d : Fin 256) :
    k0_pay40 (F := Ideal) (k0_pay39 (F := Ideal) v) g (ix4 (0 : Fin 1) (0 : Fin 1) p d) = headOf v g 2 5 p d := by
  unfold k0_pay40 k0_pay39
  unfold headOf scaled
  pointwise

/-- The stored head 4 of row block 2. -/
theorem head_2_4 (v : FVec Ideal S512x2048 .f32) (g : Vec Ideal S1x256 .f32) (p : Fin 128) (d : Fin 256) :
    k0_pay38 (F := Ideal) v g (ix4 (0 : Fin 1) (0 : Fin 1) p d) = headOf v g 2 4 p d := by
  unfold k0_pay38
  unfold headOf scaled
  pointwise

/-- The stored head 3 of row block 2. -/
theorem head_2_3 (v : FVec Ideal S512x2048 .f32) (g : Vec Ideal S1x256 .f32) (p : Fin 128) (d : Fin 256) :
    k0_pay37 (F := Ideal) (k0_pay36 (F := Ideal) v g) (Scalar.ofBits (F := Ideal) .f32 0x3DB8AA3B#32) (ix4 (0 : Fin 1) (0 : Fin 1) p d) = headOf v g 2 3 p d := by
  unfold k0_pay37 k0_pay36
  unfold headOf scaled
  pointwise

/-- The stored head 2 of row block 2. -/
theorem head_2_2 (v : FVec Ideal S512x2048 .f32) (g : Vec Ideal S1x256 .f32) (p : Fin 128) (d : Fin 256) :
    k0_pay35 (F := Ideal) v g (ix4 (0 : Fin 1) (0 : Fin 1) p d) = headOf v g 2 2 p d := by
  unfold k0_pay35
  unfold headOf scaled
  pointwise

/-- The stored head 1 of row block 2. -/
theorem head_2_1 (v : FVec Ideal S512x2048 .f32) (g : Vec Ideal S1x256 .f32) (p : Fin 128) (d : Fin 256) :
    k0_pay34 (F := Ideal) (k0_pay33 (F := Ideal) v g) (ix4 (0 : Fin 1) (0 : Fin 1) p d) = headOf v g 2 1 p d := by
  unfold k0_pay34 k0_pay33
  unfold headOf scaled
  pointwise

/-- The stored head 0 of row block 2. -/
theorem head_2_0 (v : FVec Ideal S512x2048 .f32) (g : Vec Ideal S1x256 .f32) (p : Fin 128) (d : Fin 256) :
    k0_pay32 (F := Ideal) v g (ix4 (0 : Fin 1) (0 : Fin 1) p d) = headOf v g 2 0 p d := by
  unfold k0_pay32
  unfold headOf scaled
  pointwise

/-- The stored head 7 of row block 1. -/
theorem head_1_7 (v : FVec Ideal S512x2048 .f32) (g : Vec Ideal S1x256 .f32) (p : Fin 128) (d : Fin 256) :
    k0_pay31 (F := Ideal) (k0_pay30 (F := Ideal) v g) (ix4 (0 : Fin 1) (0 : Fin 1) p d) = headOf v g 1 7 p d := by
  unfold k0_pay31 k0_pay30
  unfold headOf scaled
  pointwise

/-- The stored head 6 of row block 1. -/
theorem head_1_6 (v : FVec Ideal S512x2048 .f32) (g : Vec Ideal S1x256 .f32) (p : Fin 128) (d : Fin 256) :
    k0_pay29 (F := Ideal) (k0_pay28 (F := Ideal) v) g (ix4 (0 : Fin 1) (0 : Fin 1) p d) = headOf v g 1 6 p d := by
  unfold k0_pay29 k0_pay28
  unfold headOf scaled
  pointwise

/-- The stored head 5 of row block 1. -/
theorem head_1_5 (v : FVec Ideal S512x2048 .f32) (g : Vec Ideal S1x256 .f32) (p : Fin 128) (d : Fin 256) :
    k0_pay27 (F := Ideal) v g (ix4 (0 : Fin 1) (0 : Fin 1) p d) = headOf v g 1 5 p d := by
  unfold k0_pay27
  unfold headOf scaled
  pointwise

/-- The stored head 4 of row block 1. -/
theorem head_1_4 (v : FVec Ideal S512x2048 .f32) (g : Vec Ideal S1x256 .f32) (p : Fin 128) (d : Fin 256) :
    k0_pay26 (F := Ideal) (k0_pay24 (F := Ideal) v) (k0_pay25 (F := Ideal) v) g (ix4 (0 : Fin 1) (0 : Fin 1) p d) = headOf v g 1 4 p d := by
  unfold k0_pay26 k0_pay25 k0_pay24
  unfold headOf scaled
  pointwise

/-- The stored head 3 of row block 1. -/
theorem head_1_3 (v : FVec Ideal S512x2048 .f32) (g : Vec Ideal S1x256 .f32) (p : Fin 128) (d : Fin 256) :
    k0_pay23 (F := Ideal) v g (ix4 (0 : Fin 1) (0 : Fin 1) p d) = headOf v g 1 3 p d := by
  unfold k0_pay23
  unfold headOf scaled
  pointwise

/-- The stored head 2 of row block 1. -/
theorem head_1_2 (v : FVec Ideal S512x2048 .f32) (g : Vec Ideal S1x256 .f32) (p : Fin 128) (d : Fin 256) :
    k0_pay22 (F := Ideal) (k0_pay20 (F := Ideal) v) (k0_pay21 (F := Ideal) v) (Scalar.ofBits (F := Ideal) .f32 0x358637BD#32) g (ix4 (0 : Fin 1) (0 : Fin 1) p d) = headOf v g 1 2 p d := by
  unfold k0_pay22 k0_pay21 k0_pay20
  unfold headOf scaled
  pointwise

/-- The stored head 1 of row block 1. -/
theorem head_1_1 (v : FVec Ideal S512x2048 .f32) (g : Vec Ideal S1x256 .f32) (p : Fin 128) (d : Fin 256) :
    k0_pay19 (F := Ideal) v g (ix4 (0 : Fin 1) (0 : Fin 1) p d) = headOf v g 1 1 p d := by
  unfold k0_pay19
  unfold headOf scaled
  pointwise

/-- The stored head 0 of row block 1. -/
theorem head_1_0 (v : FVec Ideal S512x2048 .f32) (g : Vec Ideal S1x256 .f32) (p : Fin 128) (d : Fin 256) :
    k0_pay18 (F := Ideal) (k0_pay16 (F := Ideal) v) (k0_pay17 (F := Ideal) v) g (ix4 (0 : Fin 1) (0 : Fin 1) p d) = headOf v g 1 0 p d := by
  unfold k0_pay18 k0_pay17 k0_pay16
  unfold headOf scaled
  pointwise

/-- The stored head 7 of row block 0. -/
theorem head_0_7 (v : FVec Ideal S512x2048 .f32) (g : Vec Ideal S1x256 .f32) (p : Fin 128) (d : Fin 256) :
    k0_pay15 (F := Ideal) v g (ix4 (0 : Fin 1) (0 : Fin 1) p d) = headOf v g 0 7 p d := by
  unfold k0_pay15
  unfold headOf scaled
  pointwise

/-- The stored head 6 of row block 0. -/
theorem head_0_6 (v : FVec Ideal S512x2048 .f32) (g : Vec Ideal S1x256 .f32) (p : Fin 128) (d : Fin 256) :
    k0_pay14 (F := Ideal) (k0_pay13 (F := Ideal) v) g (ix4 (0 : Fin 1) (0 : Fin 1) p d) = headOf v g 0 6 p d := by
  unfold k0_pay14 k0_pay13
  unfold headOf scaled
  pointwise

/-- The stored head 5 of row block 0. -/
theorem head_0_5 (v : FVec Ideal S512x2048 .f32) (g : Vec Ideal S1x256 .f32) (p : Fin 128) (d : Fin 256) :
    k0_pay12 (F := Ideal) v g (ix4 (0 : Fin 1) (0 : Fin 1) p d) = headOf v g 0 5 p d := by
  unfold k0_pay12
  unfold headOf scaled
  pointwise

/-- The stored head 4 of row block 0. -/
theorem head_0_4 (v : FVec Ideal S512x2048 .f32) (g : Vec Ideal S1x256 .f32) (p : Fin 128) (d : Fin 256) :
    k0_pay11 (F := Ideal) (k0_pay10 (F := Ideal) v g) (Scalar.ofBits (F := Ideal) .f32 0x3DB8AA3B#32) (ix4 (0 : Fin 1) (0 : Fin 1) p d) = headOf v g 0 4 p d := by
  unfold k0_pay11 k0_pay10
  unfold headOf scaled
  pointwise

/-- The stored head 3 of row block 0. -/
theorem head_0_3 (v : FVec Ideal S512x2048 .f32) (g : Vec Ideal S1x256 .f32) (p : Fin 128) (d : Fin 256) :
    k0_pay9 (F := Ideal) v g (ix4 (0 : Fin 1) (0 : Fin 1) p d) = headOf v g 0 3 p d := by
  unfold k0_pay9
  unfold headOf scaled
  pointwise

/-- The stored head 2 of row block 0. -/
theorem head_0_2 (v : FVec Ideal S512x2048 .f32) (g : Vec Ideal S1x256 .f32) (p : Fin 128) (d : Fin 256) :
    k0_pay8 (F := Ideal) (k0_pay7 (F := Ideal) v g) (ix4 (0 : Fin 1) (0 : Fin 1) p d) = headOf v g 0 2 p d := by
  unfold k0_pay8 k0_pay7
  unfold headOf scaled
  pointwise

/-- The stored head 1 of row block 0. -/
theorem head_0_1 (v : FVec Ideal S512x2048 .f32) (g : Vec Ideal S1x256 .f32) (p : Fin 128) (d : Fin 256) :
    k0_pay6 (F := Ideal) v g (ix4 (0 : Fin 1) (0 : Fin 1) p d) = headOf v g 0 1 p d := by
  unfold k0_pay6
  unfold headOf scaled
  pointwise

/-- The stored head 0 of row block 0. -/
theorem head_0_0 (x : Vec Ideal S512x896 .f32) (gc : Vec Ideal S1x384 .f32) (w : Vec Ideal S384x2048 .bf16) (g : Vec Ideal S1x256 .f32) (p : Fin 128) (d : Fin 256) :
    k0_pay5 (F := Ideal) (k0_pay4 (F := Ideal) x gc w g) (ix4 (0 : Fin 1) (0 : Fin 1) p d) = headOf (k0_pay3 (F := Ideal) x gc w) g 0 0 p d := by
  unfold k0_pay5 k0_pay4
  generalize k0_pay3 (F := Ideal) x gc w = v
  unfold headOf scaled
  pointwise

/-- The stored indexer queries of head 15, row block 3. -/
theorem slab_3_15 (v : FVec Ideal S2048x512 .bf16) (d p : Fin 128) :
    k0_pay123 (F := Ideal) v (ix2 d p) = v (ix2 ⟨128*15 + d.val, by omega⟩ ⟨128*3 + p.val, by omega⟩) := by
  unfold k0_pay123
  pointwise

/-- The stored indexer queries of head 14, row block 3. -/
theorem slab_3_14 (v : FVec Ideal S2048x512 .bf16) (d p : Fin 128) :
    k0_pay122 (F := Ideal) v (ix2 d p) = v (ix2 ⟨128*14 + d.val, by omega⟩ ⟨128*3 + p.val, by omega⟩) := by
  unfold k0_pay122
  pointwise

/-- The stored indexer queries of head 13, row block 3. -/
theorem slab_3_13 (v : FVec Ideal S2048x512 .bf16) (d p : Fin 128) :
    k0_pay121 (F := Ideal) v (ix2 d p) = v (ix2 ⟨128*13 + d.val, by omega⟩ ⟨128*3 + p.val, by omega⟩) := by
  unfold k0_pay121
  pointwise

/-- The stored indexer queries of head 12, row block 3. -/
theorem slab_3_12 (v : FVec Ideal S2048x512 .bf16) (d p : Fin 128) :
    k0_pay120 (F := Ideal) v (ix2 d p) = v (ix2 ⟨128*12 + d.val, by omega⟩ ⟨128*3 + p.val, by omega⟩) := by
  unfold k0_pay120
  pointwise

/-- The stored indexer queries of head 11, row block 3. -/
theorem slab_3_11 (v : FVec Ideal S2048x512 .bf16) (d p : Fin 128) :
    k0_pay119 (F := Ideal) v (ix2 d p) = v (ix2 ⟨128*11 + d.val, by omega⟩ ⟨128*3 + p.val, by omega⟩) := by
  unfold k0_pay119
  pointwise

/-- The stored indexer queries of head 10, row block 3. -/
theorem slab_3_10 (v : FVec Ideal S2048x512 .bf16) (d p : Fin 128) :
    k0_pay118 (F := Ideal) v (ix2 d p) = v (ix2 ⟨128*10 + d.val, by omega⟩ ⟨128*3 + p.val, by omega⟩) := by
  unfold k0_pay118
  pointwise

/-- The stored indexer queries of head 9, row block 3. -/
theorem slab_3_9 (v : FVec Ideal S2048x512 .bf16) (d p : Fin 128) :
    k0_pay117 (F := Ideal) v (ix2 d p) = v (ix2 ⟨128*9 + d.val, by omega⟩ ⟨128*3 + p.val, by omega⟩) := by
  unfold k0_pay117
  pointwise

/-- The stored indexer queries of head 8, row block 3. -/
theorem slab_3_8 (v : FVec Ideal S2048x512 .bf16) (d p : Fin 128) :
    k0_pay116 (F := Ideal) v (ix2 d p) = v (ix2 ⟨128*8 + d.val, by omega⟩ ⟨128*3 + p.val, by omega⟩) := by
  unfold k0_pay116
  pointwise

/-- The stored indexer queries of head 7, row block 3. -/
theorem slab_3_7 (v : FVec Ideal S2048x512 .bf16) (d p : Fin 128) :
    k0_pay115 (F := Ideal) v (ix2 d p) = v (ix2 ⟨128*7 + d.val, by omega⟩ ⟨128*3 + p.val, by omega⟩) := by
  unfold k0_pay115
  pointwise

/-- The stored indexer queries of head 6, row block 3. -/
theorem slab_3_6 (v : FVec Ideal S2048x512 .bf16) (d p : Fin 128) :
    k0_pay114 (F := Ideal) v (ix2 d p) = v (ix2 ⟨128*6 + d.val, by omega⟩ ⟨128*3 + p.val, by omega⟩) := by
  unfold k0_pay114
  pointwise

/-- The stored indexer queries of head 5, row block 3. -/
theorem slab_3_5 (v : FVec Ideal S2048x512 .bf16) (d p : Fin 128) :
    k0_pay113 (F := Ideal) v (ix2 d p) = v (ix2 ⟨128*5 + d.val, by omega⟩ ⟨128*3 + p.val, by omega⟩) := by
  unfold k0_pay113
  pointwise

/-- The stored indexer queries of head 4, row block 3. -/
theorem slab_3_4 (v : FVec Ideal S2048x512 .bf16) (d p : Fin 128) :
    k0_pay112 (F := Ideal) v (ix2 d p) = v (ix2 ⟨128*4 + d.val, by omega⟩ ⟨128*3 + p.val, by omega⟩) := by
  unfold k0_pay112
  pointwise

/-- The stored indexer queries of head 3, row block 3. -/
theorem slab_3_3 (v : FVec Ideal S2048x512 .bf16) (d p : Fin 128) :
    k0_pay111 (F := Ideal) v (ix2 d p) = v (ix2 ⟨128*3 + d.val, by omega⟩ ⟨128*3 + p.val, by omega⟩) := by
  unfold k0_pay111
  pointwise

/-- The stored indexer queries of head 2, row block 3. -/
theorem slab_3_2 (v : FVec Ideal S2048x512 .bf16) (d p : Fin 128) :
    k0_pay110 (F := Ideal) v (ix2 d p) = v (ix2 ⟨128*2 + d.val, by omega⟩ ⟨128*3 + p.val, by omega⟩) := by
  unfold k0_pay110
  pointwise

/-- The stored indexer queries of head 1, row block 3. -/
theorem slab_3_1 (v : FVec Ideal S2048x512 .bf16) (d p : Fin 128) :
    k0_pay109 (F := Ideal) v (ix2 d p) = v (ix2 ⟨128*1 + d.val, by omega⟩ ⟨128*3 + p.val, by omega⟩) := by
  unfold k0_pay109
  pointwise

/-- The stored indexer queries of head 0, row block 3. -/
theorem slab_3_0 (v : FVec Ideal S2048x512 .bf16) (d p : Fin 128) :
    k0_pay108 (F := Ideal) v (ix2 d p) = v (ix2 ⟨128*0 + d.val, by omega⟩ ⟨128*3 + p.val, by omega⟩) := by
  unfold k0_pay108
  pointwise

/-- The stored indexer queries of head 15, row block 2. -/
theorem slab_2_15 (v : FVec Ideal S2048x512 .bf16) (d p : Fin 128) :
    k0_pay107 (F := Ideal) v (ix2 d p) = v (ix2 ⟨128*15 + d.val, by omega⟩ ⟨128*2 + p.val, by omega⟩) := by
  unfold k0_pay107
  pointwise

/-- The stored indexer queries of head 14, row block 2. -/
theorem slab_2_14 (v : FVec Ideal S2048x512 .bf16) (d p : Fin 128) :
    k0_pay106 (F := Ideal) v (ix2 d p) = v (ix2 ⟨128*14 + d.val, by omega⟩ ⟨128*2 + p.val, by omega⟩) := by
  unfold k0_pay106
  pointwise

/-- The stored indexer queries of head 13, row block 2. -/
theorem slab_2_13 (v : FVec Ideal S2048x512 .bf16) (d p : Fin 128) :
    k0_pay105 (F := Ideal) v (ix2 d p) = v (ix2 ⟨128*13 + d.val, by omega⟩ ⟨128*2 + p.val, by omega⟩) := by
  unfold k0_pay105
  pointwise

/-- The stored indexer queries of head 12, row block 2. -/
theorem slab_2_12 (v : FVec Ideal S2048x512 .bf16) (d p : Fin 128) :
    k0_pay104 (F := Ideal) v (ix2 d p) = v (ix2 ⟨128*12 + d.val, by omega⟩ ⟨128*2 + p.val, by omega⟩) := by
  unfold k0_pay104
  pointwise

/-- The stored indexer queries of head 11, row block 2. -/
theorem slab_2_11 (v : FVec Ideal S2048x512 .bf16) (d p : Fin 128) :
    k0_pay103 (F := Ideal) v (ix2 d p) = v (ix2 ⟨128*11 + d.val, by omega⟩ ⟨128*2 + p.val, by omega⟩) := by
  unfold k0_pay103
  pointwise

/-- The stored indexer queries of head 10, row block 2. -/
theorem slab_2_10 (v : FVec Ideal S2048x512 .bf16) (d p : Fin 128) :
    k0_pay102 (F := Ideal) v (ix2 d p) = v (ix2 ⟨128*10 + d.val, by omega⟩ ⟨128*2 + p.val, by omega⟩) := by
  unfold k0_pay102
  pointwise

/-- The stored indexer queries of head 9, row block 2. -/
theorem slab_2_9 (v : FVec Ideal S2048x512 .bf16) (d p : Fin 128) :
    k0_pay101 (F := Ideal) v (ix2 d p) = v (ix2 ⟨128*9 + d.val, by omega⟩ ⟨128*2 + p.val, by omega⟩) := by
  unfold k0_pay101
  pointwise

/-- The stored indexer queries of head 8, row block 2. -/
theorem slab_2_8 (v : FVec Ideal S2048x512 .bf16) (d p : Fin 128) :
    k0_pay100 (F := Ideal) v (ix2 d p) = v (ix2 ⟨128*8 + d.val, by omega⟩ ⟨128*2 + p.val, by omega⟩) := by
  unfold k0_pay100
  pointwise

/-- The stored indexer queries of head 7, row block 2. -/
theorem slab_2_7 (v : FVec Ideal S2048x512 .bf16) (d p : Fin 128) :
    k0_pay99 (F := Ideal) v (ix2 d p) = v (ix2 ⟨128*7 + d.val, by omega⟩ ⟨128*2 + p.val, by omega⟩) := by
  unfold k0_pay99
  pointwise

/-- The stored indexer queries of head 6, row block 2. -/
theorem slab_2_6 (v : FVec Ideal S2048x512 .bf16) (d p : Fin 128) :
    k0_pay98 (F := Ideal) v (ix2 d p) = v (ix2 ⟨128*6 + d.val, by omega⟩ ⟨128*2 + p.val, by omega⟩) := by
  unfold k0_pay98
  pointwise

/-- The stored indexer queries of head 5, row block 2. -/
theorem slab_2_5 (v : FVec Ideal S2048x512 .bf16) (d p : Fin 128) :
    k0_pay97 (F := Ideal) v (ix2 d p) = v (ix2 ⟨128*5 + d.val, by omega⟩ ⟨128*2 + p.val, by omega⟩) := by
  unfold k0_pay97
  pointwise

/-- The stored indexer queries of head 4, row block 2. -/
theorem slab_2_4 (v : FVec Ideal S2048x512 .bf16) (d p : Fin 128) :
    k0_pay96 (F := Ideal) v (ix2 d p) = v (ix2 ⟨128*4 + d.val, by omega⟩ ⟨128*2 + p.val, by omega⟩) := by
  unfold k0_pay96
  pointwise

/-- The stored indexer queries of head 3, row block 2. -/
theorem slab_2_3 (v : FVec Ideal S2048x512 .bf16) (d p : Fin 128) :
    k0_pay95 (F := Ideal) v (ix2 d p) = v (ix2 ⟨128*3 + d.val, by omega⟩ ⟨128*2 + p.val, by omega⟩) := by
  unfold k0_pay95
  pointwise

/-- The stored indexer queries of head 2, row block 2. -/
theorem slab_2_2 (v : FVec Ideal S2048x512 .bf16) (d p : Fin 128) :
    k0_pay94 (F := Ideal) v (ix2 d p) = v (ix2 ⟨128*2 + d.val, by omega⟩ ⟨128*2 + p.val, by omega⟩) := by
  unfold k0_pay94
  pointwise

/-- The stored indexer queries of head 1, row block 2. -/
theorem slab_2_1 (v : FVec Ideal S2048x512 .bf16) (d p : Fin 128) :
    k0_pay93 (F := Ideal) v (ix2 d p) = v (ix2 ⟨128*1 + d.val, by omega⟩ ⟨128*2 + p.val, by omega⟩) := by
  unfold k0_pay93
  pointwise

/-- The stored indexer queries of head 0, row block 2. -/
theorem slab_2_0 (v : FVec Ideal S2048x512 .bf16) (d p : Fin 128) :
    k0_pay92 (F := Ideal) v (ix2 d p) = v (ix2 ⟨128*0 + d.val, by omega⟩ ⟨128*2 + p.val, by omega⟩) := by
  unfold k0_pay92
  pointwise

/-- The stored indexer queries of head 15, row block 1. -/
theorem slab_1_15 (v : FVec Ideal S2048x512 .bf16) (d p : Fin 128) :
    k0_pay91 (F := Ideal) v (ix2 d p) = v (ix2 ⟨128*15 + d.val, by omega⟩ ⟨128*1 + p.val, by omega⟩) := by
  unfold k0_pay91
  pointwise

/-- The stored indexer queries of head 14, row block 1. -/
theorem slab_1_14 (v : FVec Ideal S2048x512 .bf16) (d p : Fin 128) :
    k0_pay90 (F := Ideal) v (ix2 d p) = v (ix2 ⟨128*14 + d.val, by omega⟩ ⟨128*1 + p.val, by omega⟩) := by
  unfold k0_pay90
  pointwise

/-- The stored indexer queries of head 13, row block 1. -/
theorem slab_1_13 (v : FVec Ideal S2048x512 .bf16) (d p : Fin 128) :
    k0_pay89 (F := Ideal) v (ix2 d p) = v (ix2 ⟨128*13 + d.val, by omega⟩ ⟨128*1 + p.val, by omega⟩) := by
  unfold k0_pay89
  pointwise

/-- The stored indexer queries of head 12, row block 1. -/
theorem slab_1_12 (v : FVec Ideal S2048x512 .bf16) (d p : Fin 128) :
    k0_pay88 (F := Ideal) v (ix2 d p) = v (ix2 ⟨128*12 + d.val, by omega⟩ ⟨128*1 + p.val, by omega⟩) := by
  unfold k0_pay88
  pointwise

/-- The stored indexer queries of head 11, row block 1. -/
theorem slab_1_11 (v : FVec Ideal S2048x512 .bf16) (d p : Fin 128) :
    k0_pay87 (F := Ideal) v (ix2 d p) = v (ix2 ⟨128*11 + d.val, by omega⟩ ⟨128*1 + p.val, by omega⟩) := by
  unfold k0_pay87
  pointwise

/-- The stored indexer queries of head 10, row block 1. -/
theorem slab_1_10 (v : FVec Ideal S2048x512 .bf16) (d p : Fin 128) :
    k0_pay86 (F := Ideal) v (ix2 d p) = v (ix2 ⟨128*10 + d.val, by omega⟩ ⟨128*1 + p.val, by omega⟩) := by
  unfold k0_pay86
  pointwise

/-- The stored indexer queries of head 9, row block 1. -/
theorem slab_1_9 (v : FVec Ideal S2048x512 .bf16) (d p : Fin 128) :
    k0_pay85 (F := Ideal) v (ix2 d p) = v (ix2 ⟨128*9 + d.val, by omega⟩ ⟨128*1 + p.val, by omega⟩) := by
  unfold k0_pay85
  pointwise

/-- The stored indexer queries of head 8, row block 1. -/
theorem slab_1_8 (v : FVec Ideal S2048x512 .bf16) (d p : Fin 128) :
    k0_pay84 (F := Ideal) v (ix2 d p) = v (ix2 ⟨128*8 + d.val, by omega⟩ ⟨128*1 + p.val, by omega⟩) := by
  unfold k0_pay84
  pointwise

/-- The stored indexer queries of head 7, row block 1. -/
theorem slab_1_7 (v : FVec Ideal S2048x512 .bf16) (d p : Fin 128) :
    k0_pay83 (F := Ideal) v (ix2 d p) = v (ix2 ⟨128*7 + d.val, by omega⟩ ⟨128*1 + p.val, by omega⟩) := by
  unfold k0_pay83
  pointwise

/-- The stored indexer queries of head 6, row block 1. -/
theorem slab_1_6 (v : FVec Ideal S2048x512 .bf16) (d p : Fin 128) :
    k0_pay82 (F := Ideal) v (ix2 d p) = v (ix2 ⟨128*6 + d.val, by omega⟩ ⟨128*1 + p.val, by omega⟩) := by
  unfold k0_pay82
  pointwise

/-- The stored indexer queries of head 5, row block 1. -/
theorem slab_1_5 (v : FVec Ideal S2048x512 .bf16) (d p : Fin 128) :
    k0_pay81 (F := Ideal) v (ix2 d p) = v (ix2 ⟨128*5 + d.val, by omega⟩ ⟨128*1 + p.val, by omega⟩) := by
  unfold k0_pay81
  pointwise

/-- The stored indexer queries of head 4, row block 1. -/
theorem slab_1_4 (v : FVec Ideal S2048x512 .bf16) (d p : Fin 128) :
    k0_pay80 (F := Ideal) v (ix2 d p) = v (ix2 ⟨128*4 + d.val, by omega⟩ ⟨128*1 + p.val, by omega⟩) := by
  unfold k0_pay80
  pointwise

/-- The stored indexer queries of head 3, row block 1. -/
theorem slab_1_3 (v : FVec Ideal S2048x512 .bf16) (d p : Fin 128) :
    k0_pay79 (F := Ideal) v (ix2 d p) = v (ix2 ⟨128*3 + d.val, by omega⟩ ⟨128*1 + p.val, by omega⟩) := by
  unfold k0_pay79
  pointwise

/-- The stored indexer queries of head 2, row block 1. -/
theorem slab_1_2 (v : FVec Ideal S2048x512 .bf16) (d p : Fin 128) :
    k0_pay78 (F := Ideal) v (ix2 d p) = v (ix2 ⟨128*2 + d.val, by omega⟩ ⟨128*1 + p.val, by omega⟩) := by
  unfold k0_pay78
  pointwise

/-- The stored indexer queries of head 1, row block 1. -/
theorem slab_1_1 (v : FVec Ideal S2048x512 .bf16) (d p : Fin 128) :
    k0_pay77 (F := Ideal) v (ix2 d p) = v (ix2 ⟨128*1 + d.val, by omega⟩ ⟨128*1 + p.val, by omega⟩) := by
  unfold k0_pay77
  pointwise

/-- The stored indexer queries of head 0, row block 1. -/
theorem slab_1_0 (v : FVec Ideal S2048x512 .bf16) (d p : Fin 128) :
    k0_pay76 (F := Ideal) v (ix2 d p) = v (ix2 ⟨128*0 + d.val, by omega⟩ ⟨128*1 + p.val, by omega⟩) := by
  unfold k0_pay76
  pointwise

/-- The stored indexer queries of head 15, row block 0. -/
theorem slab_0_15 (v : FVec Ideal S2048x512 .bf16) (d p : Fin 128) :
    k0_pay75 (F := Ideal) v (ix2 d p) = v (ix2 ⟨128*15 + d.val, by omega⟩ ⟨128*0 + p.val, by omega⟩) := by
  unfold k0_pay75
  pointwise

/-- The stored indexer queries of head 14, row block 0. -/
theorem slab_0_14 (v : FVec Ideal S2048x512 .bf16) (d p : Fin 128) :
    k0_pay74 (F := Ideal) v (ix2 d p) = v (ix2 ⟨128*14 + d.val, by omega⟩ ⟨128*0 + p.val, by omega⟩) := by
  unfold k0_pay74
  pointwise

/-- The stored indexer queries of head 13, row block 0. -/
theorem slab_0_13 (v : FVec Ideal S2048x512 .bf16) (d p : Fin 128) :
    k0_pay73 (F := Ideal) v (ix2 d p) = v (ix2 ⟨128*13 + d.val, by omega⟩ ⟨128*0 + p.val, by omega⟩) := by
  unfold k0_pay73
  pointwise

/-- The stored indexer queries of head 12, row block 0. -/
theorem slab_0_12 (v : FVec Ideal S2048x512 .bf16) (d p : Fin 128) :
    k0_pay72 (F := Ideal) v (ix2 d p) = v (ix2 ⟨128*12 + d.val, by omega⟩ ⟨128*0 + p.val, by omega⟩) := by
  unfold k0_pay72
  pointwise

/-- The stored indexer queries of head 11, row block 0. -/
theorem slab_0_11 (v : FVec Ideal S2048x512 .bf16) (d p : Fin 128) :
    k0_pay71 (F := Ideal) v (ix2 d p) = v (ix2 ⟨128*11 + d.val, by omega⟩ ⟨128*0 + p.val, by omega⟩) := by
  unfold k0_pay71
  pointwise

/-- The stored indexer queries of head 10, row block 0. -/
theorem slab_0_10 (v : FVec Ideal S2048x512 .bf16) (d p : Fin 128) :
    k0_pay70 (F := Ideal) v (ix2 d p) = v (ix2 ⟨128*10 + d.val, by omega⟩ ⟨128*0 + p.val, by omega⟩) := by
  unfold k0_pay70
  pointwise

/-- The stored indexer queries of head 9, row block 0. -/
theorem slab_0_9 (v : FVec Ideal S2048x512 .bf16) (d p : Fin 128) :
    k0_pay69 (F := Ideal) v (ix2 d p) = v (ix2 ⟨128*9 + d.val, by omega⟩ ⟨128*0 + p.val, by omega⟩) := by
  unfold k0_pay69
  pointwise

/-- The stored indexer queries of head 8, row block 0. -/
theorem slab_0_8 (v : FVec Ideal S2048x512 .bf16) (d p : Fin 128) :
    k0_pay68 (F := Ideal) v (ix2 d p) = v (ix2 ⟨128*8 + d.val, by omega⟩ ⟨128*0 + p.val, by omega⟩) := by
  unfold k0_pay68
  pointwise

/-- The stored indexer queries of head 7, row block 0. -/
theorem slab_0_7 (v : FVec Ideal S2048x512 .bf16) (d p : Fin 128) :
    k0_pay67 (F := Ideal) v (ix2 d p) = v (ix2 ⟨128*7 + d.val, by omega⟩ ⟨128*0 + p.val, by omega⟩) := by
  unfold k0_pay67
  pointwise

/-- The stored indexer queries of head 6, row block 0. -/
theorem slab_0_6 (v : FVec Ideal S2048x512 .bf16) (d p : Fin 128) :
    k0_pay66 (F := Ideal) v (ix2 d p) = v (ix2 ⟨128*6 + d.val, by omega⟩ ⟨128*0 + p.val, by omega⟩) := by
  unfold k0_pay66
  pointwise

/-- The stored indexer queries of head 5, row block 0. -/
theorem slab_0_5 (v : FVec Ideal S2048x512 .bf16) (d p : Fin 128) :
    k0_pay65 (F := Ideal) v (ix2 d p) = v (ix2 ⟨128*5 + d.val, by omega⟩ ⟨128*0 + p.val, by omega⟩) := by
  unfold k0_pay65
  pointwise

/-- The stored indexer queries of head 4, row block 0. -/
theorem slab_0_4 (v : FVec Ideal S2048x512 .bf16) (d p : Fin 128) :
    k0_pay64 (F := Ideal) v (ix2 d p) = v (ix2 ⟨128*4 + d.val, by omega⟩ ⟨128*0 + p.val, by omega⟩) := by
  unfold k0_pay64
  pointwise

/-- The stored indexer queries of head 3, row block 0. -/
theorem slab_0_3 (v : FVec Ideal S2048x512 .bf16) (d p : Fin 128) :
    k0_pay63 (F := Ideal) v (ix2 d p) = v (ix2 ⟨128*3 + d.val, by omega⟩ ⟨128*0 + p.val, by omega⟩) := by
  unfold k0_pay63
  pointwise

/-- The stored indexer queries of head 2, row block 0. -/
theorem slab_0_2 (y : FVec Ideal S512x384 .bf16) (w : Vec Ideal S2048x384 .bf16) (d p : Fin 128) :
    k0_pay62 (F := Ideal) y w (ix2 d p) = k0_pay59 (F := Ideal) y w (ix2 ⟨128*2 + d.val, by omega⟩ ⟨128*0 + p.val, by omega⟩) := by
  unfold k0_pay62
  generalize k0_pay59 (F := Ideal) y w = v
  pointwise

/-- The stored indexer queries of head 1, row block 0. -/
theorem slab_0_1 (y : FVec Ideal S512x384 .bf16) (w : Vec Ideal S2048x384 .bf16) (d p : Fin 128) :
    k0_pay61 (F := Ideal) y w (ix2 d p) = k0_pay59 (F := Ideal) y w (ix2 ⟨128*1 + d.val, by omega⟩ ⟨128*0 + p.val, by omega⟩) := by
  unfold k0_pay61
  generalize k0_pay59 (F := Ideal) y w = v
  pointwise

/-- The stored indexer queries of head 0, row block 0. -/
theorem slab_0_0 (y : FVec Ideal S512x384 .bf16) (w : Vec Ideal S2048x384 .bf16) (d p : Fin 128) :
    k0_pay60 (F := Ideal) y w (ix2 d p) = k0_pay59 (F := Ideal) y w (ix2 ⟨128*0 + d.val, by omega⟩ ⟨128*0 + p.val, by omega⟩) := by
  unfold k0_pay60
  generalize k0_pay59 (F := Ideal) y w = v
  pointwise

end Cert.Prep

end
-- ==== Proof.PrepBlocks.lean ====
/-
  The attention preparation's two stored blocks made of many pieces: the heads' queries and the indexer's queries.
-/
module

public import proofs.«01_k».proof.Proof.PrepPoint
public import proofs.«01_k».proof.Proof.Gen.PrepIdeal.Value
public import Idealize.ShloMosaic.Lib.Pipeline.ValueKit.Tiles

@[expose] public section

set_option maxRecDepth 16384

noncomputable section

namespace Cert.Prep

open Idealize.ShloMosaic Idealize.ShloMosaic.TcCoe Idealize.SL.Sem
open Cert.PrepIdeal Cert.PrepIdeal.Gen Cert.Common
open scoped BigOperators

/-- The heads' queries of a block, by row block, head, row and entry. -/
def headG (v : FVec Ideal S512x2048 .f32) (g : Vec Ideal S1x256 .f32) : Vec Ideal S4x8x128x256 .bf16 := fun i =>
  headOf v g (i 0) (i 1) (i 2) (i 3)

/-- The indexer's queries of a block: column `2048 s + 128 h + p` holds head `h` of row `128 s + p`. -/
def slabG (v : FVec Ideal S2048x512 .bf16) : Vec Ideal S128x8192 .bf16 := fun i =>
  v (ix2 ⟨128 * ((i 1).val % 2048 / 128) + (i 0).val, by have h0 : (i 0).val < 128 := (i 0).isLt; omega⟩
    ⟨128 * ((i 1).val / 2048) + (i 1).val % 128, by have h1 : (i 1).val < 8192 := (i 1).isLt; omega⟩)

/-- One stored head is a piece of the block. -/
theorem head_piece {v : FVec Ideal S512x2048 .f32} {g : Vec Ideal S1x256 .f32} {pay : FVec Ideal S1x1x128x256 .bf16} {s : Fin 4} {h : Fin 8}
    (hp : ∀ (p : Fin 128) (d : Fin 256), pay (ix4 (0 : Fin 1) (0 : Fin 1) p d) = headOf v g s h p d)
    (off : Fin 4 → ℕ) (ho : off = ![s.val, h.val, 0, 0]) (inb) (x : (Rect.unit (s := S4x8x128x256) off ![1, 1, 128, 256] inb).shape.Idx) :
    pay x = headG v g ((Rect.unit (s := S4x8x128x256) off ![1, 1, 128, 256] inb).emb x) := by
  subst ho
  obtain ⟨p, d, rfl⟩ : ∃ (p : Fin 128) (d : Fin 256), x = (ix4 (0 : Fin 1) (0 : Fin 1) p d : (⟨4, ![1, 1, 128, 256]⟩ : Shape).Idx) := ⟨x 2, x 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  have he : (Rect.unit (s := S4x8x128x256) ![s.val, h.val, 0, 0] ![1, 1, 128, 256] inb).emb (ix4 (0 : Fin 1) (0 : Fin 1) p d : (⟨4, ![1, 1, 128, 256]⟩ : Shape).Idx)
      = (ix4 s h p d : S4x8x128x256.Idx) := funext fun a => Fin.ext (by
    match a with
    | ⟨0, _⟩ => show s.val + 1 * 0 = s.val; omega
    | ⟨1, _⟩ => show h.val + 1 * 0 = h.val; omega
    | ⟨2, _⟩ => show 0 + 1 * p.val = p.val; omega
    | ⟨3, _⟩ => show 0 + 1 * d.val = d.val; omega)
  exact (hp p d).trans (congrArg (headG v g) he).symm

/-- One stored square of indexer queries is a piece of the block. -/
theorem slab_piece {v : FVec Ideal S2048x512 .bf16} {pay : FVec Ideal S128x128 .bf16} (s h : ℕ) (hs : s < 4) (hh : h < 16)
    (hp : ∀ d p : Fin 128, pay (ix2 d p) = v (ix2 ⟨128 * h + d.val, by omega⟩ ⟨128 * s + p.val, by omega⟩))
    (off : Fin 2 → ℕ) (ho : off = ![0, 2048 * s + 128 * h]) (inb) (x : (Rect.unit (s := S128x8192) off ![128, 128] inb).shape.Idx) :
    pay x = slabG v ((Rect.unit (s := S128x8192) off ![128, 128] inb).emb x) := by
  subst ho
  obtain ⟨d, p, rfl⟩ : ∃ d p : Fin 128, x = (ix2 d p : (⟨2, ![128, 128]⟩ : Shape).Idx) := ⟨x 0, x 1, funext fun a => by
    match a with
    | ⟨0, _⟩ => rfl
    | ⟨1, _⟩ => rfl⟩
  have hd := d.isLt
  have hlt := p.isLt
  have he : (Rect.unit (s := S128x8192) ![0, 2048 * s + 128 * h] ![128, 128] inb).emb (ix2 d p : (⟨2, ![128, 128]⟩ : Shape).Idx)
      = (ix2 d (⟨2048 * s + 128 * h + p.val, by omega⟩ : Fin 8192) : S128x8192.Idx) := funext fun a => Fin.ext (by
    match a with
    | ⟨0, _⟩ => show 0 + 1 * d.val = d.val; omega
    | ⟨1, _⟩ => show 2048 * s + 128 * h + 1 * p.val = 2048 * s + 128 * h + p.val; omega)
  refine (hp d p).trans (Eq.trans ?_ (congrArg (slabG v) he).symm)
  show _ = v (ix2 ⟨128 * ((2048 * s + 128 * h + p.val) % 2048 / 128) + d.val, _⟩ ⟨128 * ((2048 * s + 128 * h + p.val) / 2048) + (2048 * s + 128 * h + p.val) % 128, _⟩)
  refine congrArg v (congrArg₂ ix2 (Fin.ext ?_) (Fin.ext ?_))
  · show 128 * h + d.val = 128 * ((2048 * s + 128 * h + p.val) % 2048 / 128) + d.val
    omega
  · show 128 * s + p.val = 128 * ((2048 * s + 128 * h + p.val) / 2048) + (2048 * s + 128 * h + p.val) % 128
    omega

variable (x0 : Vec Ideal S512x896 .f32) (x1 : Vec Ideal S1x384 .f32) (x2 : Vec Ideal S1x256 .f32) (x3 : Vec Ideal S384x2048 .bf16)
  (x4 : Vec Ideal S1x256 .f32) (x5 : Vec Ideal S2048x384 .bf16)

set_option maxHeartbeats 2000000 in
/-- The stored block of heads' queries. -/
theorem heads_block (i) : out0_6 (F := Ideal) x0 x1 x2 x3 x4 x5 i = headG (k0_pay3 (F := Ideal) x0 x1 x3) x4 i := by
  unfold out0_6 k0_pay128
  simp only [View.ld_unit_zero (S := S512x896) zero2, View.ld_unit_zero (S := S1x384) zero2, View.ld_unit_zero (S := S384x2048) zero2, View.ld_unit_zero (S := S1x256) zero2]
  refine View.canon_apply_of_pieces (headG (k0_pay3 (F := Ideal) x0 x1 x3) x4) _ ?_ i (cover0_6 ..)
  refine View.PiecesOf.mem ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact head_piece (v := k0_pay3 (F := Ideal) x0 x1 x3) (g := x4) (s := 3) (h := 7) (fun p d => head_3_7 _ x4 p d) ![3, 7, 0, 0] rfl inb_S4x8x128x256_S1x1x128x256_3_7_0_0
  · exact head_piece (v := k0_pay3 (F := Ideal) x0 x1 x3) (g := x4) (s := 3) (h := 6) (fun p d => head_3_6 _ x4 p d) ![3, 6, 0, 0] rfl inb_S4x8x128x256_S1x1x128x256_3_6_0_0
  · exact head_piece (v := k0_pay3 (F := Ideal) x0 x1 x3) (g := x4) (s := 3) (h := 5) (fun p d => head_3_5 _ x4 p d) ![3, 5, 0, 0] rfl inb_S4x8x128x256_S1x1x128x256_3_5_0_0
  · exact head_piece (v := k0_pay3 (F := Ideal) x0 x1 x3) (g := x4) (s := 3) (h := 4) (fun p d => head_3_4 _ x4 p d) ![3, 4, 0, 0] rfl inb_S4x8x128x256_S1x1x128x256_3_4_0_0
  · exact head_piece (v := k0_pay3 (F := Ideal) x0 x1 x3) (g := x4) (s := 3) (h := 3) (fun p d => head_3_3 _ x4 p d) ![3, 3, 0, 0] rfl inb_S4x8x128x256_S1x1x128x256_3_3_0_0
  · exact head_piece (v := k0_pay3 (F := Ideal) x0 x1 x3) (g := x4) (s := 3) (h := 2) (fun p d => head_3_2 _ x4 p d) ![3, 2, 0, 0] rfl inb_S4x8x128x256_S1x1x128x256_3_2_0_0
  · exact head_piece (v := k0_pay3 (F := Ideal) x0 x1 x3) (g := x4) (s := 3) (h := 1) (fun p d => head_3_1 _ x4 p d) ![3, 1, 0, 0] rfl inb_S4x8x128x256_S1x1x128x256_3_1_0_0
  · exact head_piece (v := k0_pay3 (F := Ideal) x0 x1 x3) (g := x4) (s := 3) (h := 0) (fun p d => head_3_0 _ x4 p d) ![3, 0, 0, 0] rfl inb_S4x8x128x256_S1x1x128x256_3_0_0_0
  · exact head_piece (v := k0_pay3 (F := Ideal) x0 x1 x3) (g := x4) (s := 2) (h := 7) (fun p d => head_2_7 _ x4 p d) ![2, 7, 0, 0] rfl inb_S4x8x128x256_S1x1x128x256_2_7_0_0
  · exact head_piece (v := k0_pay3 (F := Ideal) x0 x1 x3) (g := x4) (s := 2) (h := 6) (fun p d => head_2_6 _ x4 p d) ![2, 6, 0, 0] rfl inb_S4x8x128x256_S1x1x128x256_2_6_0_0
  · exact head_piece (v := k0_pay3 (F := Ideal) x0 x1 x3) (g := x4) (s := 2) (h := 5) (fun p d => head_2_5 _ x4 p d) ![2, 5, 0, 0] rfl inb_S4x8x128x256_S1x1x128x256_2_5_0_0
  · exact head_piece (v := k0_pay3 (F := Ideal) x0 x1 x3) (g := x4) (s := 2) (h := 4) (fun p d => head_2_4 _ x4 p d) ![2, 4, 0, 0] rfl inb_S4x8x128x256_S1x1x128x256_2_4_0_0
  · exact head_piece (v := k0_pay3 (F := Ideal) x0 x1 x3) (g := x4) (s := 2) (h := 3) (fun p d => head_2_3 _ x4 p d) ![2, 3, 0, 0] rfl inb_S4x8x128x256_S1x1x128x256_2_3_0_0
  · exact head_piece (v := k0_pay3 (F := Ideal) x0 x1 x3) (g := x4) (s := 2) (h := 2) (fun p d => head_2_2 _ x4 p d) ![2, 2, 0, 0] rfl inb_S4x8x128x256_S1x1x128x256_2_2_0_0
  · exact head_piece (v := k0_pay3 (F := Ideal) x0 x1 x3) (g := x4) (s := 2) (h := 1) (fun p d => head_2_1 _ x4 p d) ![2, 1, 0, 0] rfl inb_S4x8x128x256_S1x1x128x256_2_1_0_0
  · exact head_piece (v := k0_pay3 (F := Ideal) x0 x1 x3) (g := x4) (s := 2) (h := 0) (fun p d => head_2_0 _ x4 p d) ![2, 0, 0, 0] rfl inb_S4x8x128x256_S1x1x128x256_2_0_0_0
  · exact head_piece (v := k0_pay3 (F := Ideal) x0 x1 x3) (g := x4) (s := 1) (h := 7) (fun p d => head_1_7 _ x4 p d) ![1, 7, 0, 0] rfl inb_S4x8x128x256_S1x1x128x256_1_7_0_0
  · exact head_piece (v := k0_pay3 (F := Ideal) x0 x1 x3) (g := x4) (s := 1) (h := 6) (fun p d => head_1_6 _ x4 p d) ![1, 6, 0, 0] rfl inb_S4x8x128x256_S1x1x128x256_1_6_0_0
  · exact head_piece (v := k0_pay3 (F := Ideal) x0 x1 x3) (g := x4) (s := 1) (h := 5) (fun p d => head_1_5 _ x4 p d) ![1, 5, 0, 0] rfl inb_S4x8x128x256_S1x1x128x256_1_5_0_0
  · exact head_piece (v := k0_pay3 (F := Ideal) x0 x1 x3) (g := x4) (s := 1) (h := 4) (fun p d => head_1_4 _ x4 p d) ![1, 4, 0, 0] rfl inb_S4x8x128x256_S1x1x128x256_1_4_0_0
  · exact head_piece (v := k0_pay3 (F := Ideal) x0 x1 x3) (g := x4) (s := 1) (h := 3) (fun p d => head_1_3 _ x4 p d) ![1, 3, 0, 0] rfl inb_S4x8x128x256_S1x1x128x256_1_3_0_0
  · exact head_piece (v := k0_pay3 (F := Ideal) x0 x1 x3) (g := x4) (s := 1) (h := 2) (fun p d => head_1_2 _ x4 p d) ![1, 2, 0, 0] rfl inb_S4x8x128x256_S1x1x128x256_1_2_0_0
  · exact head_piece (v := k0_pay3 (F := Ideal) x0 x1 x3) (g := x4) (s := 1) (h := 1) (fun p d => head_1_1 _ x4 p d) ![1, 1, 0, 0] rfl inb_S4x8x128x256_S1x1x128x256_1_1_0_0
  · exact head_piece (v := k0_pay3 (F := Ideal) x0 x1 x3) (g := x4) (s := 1) (h := 0) (fun p d => head_1_0 _ x4 p d) ![1, 0, 0, 0] rfl inb_S4x8x128x256_S1x1x128x256_1_0_0_0
  · exact head_piece (v := k0_pay3 (F := Ideal) x0 x1 x3) (g := x4) (s := 0) (h := 7) (fun p d => head_0_7 _ x4 p d) ![0, 7, 0, 0] rfl inb_S4x8x128x256_S1x1x128x256_0_7_0_0
  · exact head_piece (v := k0_pay3 (F := Ideal) x0 x1 x3) (g := x4) (s := 0) (h := 6) (fun p d => head_0_6 _ x4 p d) ![0, 6, 0, 0] rfl inb_S4x8x128x256_S1x1x128x256_0_6_0_0
  · exact head_piece (v := k0_pay3 (F := Ideal) x0 x1 x3) (g := x4) (s := 0) (h := 5) (fun p d => head_0_5 _ x4 p d) ![0, 5, 0, 0] rfl inb_S4x8x128x256_S1x1x128x256_0_5_0_0
  · exact head_piece (v := k0_pay3 (F := Ideal) x0 x1 x3) (g := x4) (s := 0) (h := 4) (fun p d => head_0_4 _ x4 p d) ![0, 4, 0, 0] rfl inb_S4x8x128x256_S1x1x128x256_0_4_0_0
  · exact head_piece (v := k0_pay3 (F := Ideal) x0 x1 x3) (g := x4) (s := 0) (h := 3) (fun p d => head_0_3 _ x4 p d) ![0, 3, 0, 0] rfl inb_S4x8x128x256_S1x1x128x256_0_3_0_0
  · exact head_piece (v := k0_pay3 (F := Ideal) x0 x1 x3) (g := x4) (s := 0) (h := 2) (fun p d => head_0_2 _ x4 p d) ![0, 2, 0, 0] rfl inb_S4x8x128x256_S1x1x128x256_0_2_0_0
  · exact head_piece (v := k0_pay3 (F := Ideal) x0 x1 x3) (g := x4) (s := 0) (h := 1) (fun p d => head_0_1 _ x4 p d) ![0, 1, 0, 0] rfl inb_S4x8x128x256_S1x1x128x256_0_1_0_0
  · exact head_piece (v := k0_pay3 (F := Ideal) x0 x1 x3) (g := x4) (s := 0) (h := 0) (fun p d => head_0_0 x0 x1 x3 x4 p d) ![0, 0, 0, 0] rfl inb_S4x8x128x256_S1x1x128x256_0_0_0_0

set_option maxHeartbeats 4000000 in
/-- The stored block of indexer queries. -/
theorem slabs_block (i) : out0_7 (F := Ideal) x0 x1 x2 x3 x4 x5 i = slabG (k0_pay59 (F := Ideal) (k0_pay2 (F := Ideal) x0 x1) x5) i := by
  unfold out0_7 k0_pay129 k0_pay127
  simp only [View.ld_unit_zero (S := S512x896) zero2, View.ld_unit_zero (S := S1x384) zero2, View.ld_unit_zero (S := S2048x384) zero2]
  refine View.canon_apply_of_pieces (slabG (k0_pay59 (F := Ideal) (k0_pay2 (F := Ideal) x0 x1) x5)) _ ?_ i (cover0_7 ..)
  refine View.PiecesOf.mem ?_
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact slab_piece (v := k0_pay59 (F := Ideal) (k0_pay2 (F := Ideal) x0 x1) x5) 3 15 (by decide) (by decide) (fun d p => slab_3_15 _ d p) ![0, 8064] rfl inb_S128x8192_S128x128_0_8064
  · exact slab_piece (v := k0_pay59 (F := Ideal) (k0_pay2 (F := Ideal) x0 x1) x5) 3 14 (by decide) (by decide) (fun d p => slab_3_14 _ d p) ![0, 7936] rfl inb_S128x8192_S128x128_0_7936
  · exact slab_piece (v := k0_pay59 (F := Ideal) (k0_pay2 (F := Ideal) x0 x1) x5) 3 13 (by decide) (by decide) (fun d p => slab_3_13 _ d p) ![0, 7808] rfl inb_S128x8192_S128x128_0_7808
  · exact slab_piece (v := k0_pay59 (F := Ideal) (k0_pay2 (F := Ideal) x0 x1) x5) 3 12 (by decide) (by decide) (fun d p => slab_3_12 _ d p) ![0, 7680] rfl inb_S128x8192_S128x128_0_7680
  · exact slab_piece (v := k0_pay59 (F := Ideal) (k0_pay2 (F := Ideal) x0 x1) x5) 3 11 (by decide) (by decide) (fun d p => slab_3_11 _ d p) ![0, 7552] rfl inb_S128x8192_S128x128_0_7552
  · exact slab_piece (v := k0_pay59 (F := Ideal) (k0_pay2 (F := Ideal) x0 x1) x5) 3 10 (by decide) (by decide) (fun d p => slab_3_10 _ d p) ![0, 7424] rfl inb_S128x8192_S128x128_0_7424
  · exact slab_piece (v := k0_pay59 (F := Ideal) (k0_pay2 (F := Ideal) x0 x1) x5) 3 9 (by decide) (by decide) (fun d p => slab_3_9 _ d p) ![0, 7296] rfl inb_S128x8192_S128x128_0_7296
  · exact slab_piece (v := k0_pay59 (F := Ideal) (k0_pay2 (F := Ideal) x0 x1) x5) 3 8 (by decide) (by decide) (fun d p => slab_3_8 _ d p) ![0, 7168] rfl inb_S128x8192_S128x128_0_7168
  · exact slab_piece (v := k0_pay59 (F := Ideal) (k0_pay2 (F := Ideal) x0 x1) x5) 3 7 (by decide) (by decide) (fun d p => slab_3_7 _ d p) ![0, 7040] rfl inb_S128x8192_S128x128_0_7040
  · exact slab_piece (v := k0_pay59 (F := Ideal) (k0_pay2 (F := Ideal) x0 x1) x5) 3 6 (by decide) (by decide) (fun d p => slab_3_6 _ d p) ![0, 6912] rfl inb_S128x8192_S128x128_0_6912
  · exact slab_piece (v := k0_pay59 (F := Ideal) (k0_pay2 (F := Ideal) x0 x1) x5) 3 5 (by decide) (by decide) (fun d p => slab_3_5 _ d p) ![0, 6784] rfl inb_S128x8192_S128x128_0_6784
  · exact slab_piece (v := k0_pay59 (F := Ideal) (k0_pay2 (F := Ideal) x0 x1) x5) 3 4 (by decide) (by decide) (fun d p => slab_3_4 _ d p) ![0, 6656] rfl inb_S128x8192_S128x128_0_6656
  · exact slab_piece (v := k0_pay59 (F := Ideal) (k0_pay2 (F := Ideal) x0 x1) x5) 3 3 (by decide) (by decide) (fun d p => slab_3_3 _ d p) ![0, 6528] rfl inb_S128x8192_S128x128_0_6528
  · exact slab_piece (v := k0_pay59 (F := Ideal) (k0_pay2 (F := Ideal) x0 x1) x5) 3 2 (by decide) (by decide) (fun d p => slab_3_2 _ d p) ![0, 6400] rfl inb_S128x8192_S128x128_0_6400
  · exact slab_piece (v := k0_pay59 (F := Ideal) (k0_pay2 (F := Ideal) x0 x1) x5) 3 1 (by decide) (by decide) (fun d p => slab_3_1 _ d p) ![0, 6272] rfl inb_S128x8192_S128x128_0_6272
  · exact slab_piece (v := k0_pay59 (F := Ideal) (k0_pay2 (F := Ideal) x0 x1) x5) 3 0 (by decide) (by decide) (fun d p => slab_3_0 _ d p) ![0, 6144] rfl inb_S128x8192_S128x128_0_6144
  · exact slab_piece (v := k0_pay59 (F := Ideal) (k0_pay2 (F := Ideal) x0 x1) x5) 2 15 (by decide) (by decide) (fun d p => slab_2_15 _ d p) ![0, 6016] rfl inb_S128x8192_S128x128_0_6016
  · exact slab_piece (v := k0_pay59 (F := Ideal) (k0_pay2 (F := Ideal) x0 x1) x5) 2 14 (by decide) (by decide) (fun d p => slab_2_14 _ d p) ![0, 5888] rfl inb_S128x8192_S128x128_0_5888
  · exact slab_piece (v := k0_pay59 (F := Ideal) (k0_pay2 (F := Ideal) x0 x1) x5) 2 13 (by decide) (by decide) (fun d p => slab_2_13 _ d p) ![0, 5760] rfl inb_S128x8192_S128x128_0_5760
  · exact slab_piece (v := k0_pay59 (F := Ideal) (k0_pay2 (F := Ideal) x0 x1) x5) 2 12 (by decide) (by decide) (fun d p => slab_2_12 _ d p) ![0, 5632] rfl inb_S128x8192_S128x128_0_5632
  · exact slab_piece (v := k0_pay59 (F := Ideal) (k0_pay2 (F := Ideal) x0 x1) x5) 2 11 (by decide) (by decide) (fun d p => slab_2_11 _ d p) ![0, 5504] rfl inb_S128x8192_S128x128_0_5504
  · exact slab_piece (v := k0_pay59 (F := Ideal) (k0_pay2 (F := Ideal) x0 x1) x5) 2 10 (by decide) (by decide) (fun d p => slab_2_10 _ d p) ![0, 5376] rfl inb_S128x8192_S128x128_0_5376
  · exact slab_piece (v := k0_pay59 (F := Ideal) (k0_pay2 (F := Ideal) x0 x1) x5) 2 9 (by decide) (by decide) (fun d p => slab_2_9 _ d p) ![0, 5248] rfl inb_S128x8192_S128x128_0_5248
  · exact slab_piece (v := k0_pay59 (F := Ideal) (k0_pay2 (F := Ideal) x0 x1) x5) 2 8 (by decide) (by decide) (fun d p => slab_2_8 _ d p) ![0, 5120] rfl inb_S128x8192_S128x128_0_5120
  · exact slab_piece (v := k0_pay59 (F := Ideal) (k0_pay2 (F := Ideal) x0 x1) x5) 2 7 (by decide) (by decide) (fun d p => slab_2_7 _ d p) ![0, 4992] rfl inb_S128x8192_S128x128_0_4992
  · exact slab_piece (v := k0_pay59 (F := Ideal) (k0_pay2 (F := Ideal) x0 x1) x5) 2 6 (by decide) (by decide) (fun d p => slab_2_6 _ d p) ![0, 4864] rfl inb_S128x8192_S128x128_0_4864
  · exact slab_piece (v := k0_pay59 (F := Ideal) (k0_pay2 (F := Ideal) x0 x1) x5) 2 5 (by decide) (by decide) (fun d p => slab_2_5 _ d p) ![0, 4736] rfl inb_S128x8192_S128x128_0_4736
  · exact slab_piece (v := k0_pay59 (F := Ideal) (k0_pay2 (F := Ideal) x0 x1) x5) 2 4 (by decide) (by decide) (fun d p => slab_2_4 _ d p) ![0, 4608] rfl inb_S128x8192_S128x128_0_4608
  · exact slab_piece (v := k0_pay59 (F := Ideal) (k0_pay2 (F := Ideal) x0 x1) x5) 2 3 (by decide) (by decide) (fun d p => slab_2_3 _ d p) ![0, 4480] rfl inb_S128x8192_S128x128_0_4480
  · exact slab_piece (v := k0_pay59 (F := Ideal) (k0_pay2 (F := Ideal) x0 x1) x5) 2 2 (by decide) (by decide) (fun d p => slab_2_2 _ d p) ![0, 4352] rfl inb_S128x8192_S128x128_0_4352
  · exact slab_piece (v := k0_pay59 (F := Ideal) (k0_pay2 (F := Ideal) x0 x1) x5) 2 1 (by decide) (by decide) (fun d p => slab_2_1 _ d p) ![0, 4224] rfl inb_S128x8192_S128x128_0_4224
  · exact slab_piece (v := k0_pay59 (F := Ideal) (k0_pay2 (F := Ideal) x0 x1) x5) 2 0 (by decide) (by decide) (fun d p => slab_2_0 _ d p) ![0, 4096] rfl inb_S128x8192_S128x128_0_4096
  · exact slab_piece (v := k0_pay59 (F := Ideal) (k0_pay2 (F := Ideal) x0 x1) x5) 1 15 (by decide) (by decide) (fun d p => slab_1_15 _ d p) ![0, 3968] rfl inb_S128x8192_S128x128_0_3968
  · exact slab_piece (v := k0_pay59 (F := Ideal) (k0_pay2 (F := Ideal) x0 x1) x5) 1 14 (by decide) (by decide) (fun d p => slab_1_14 _ d p) ![0, 3840] rfl inb_S128x8192_S128x128_0_3840
  · exact slab_piece (v := k0_pay59 (F := Ideal) (k0_pay2 (F := Ideal) x0 x1) x5) 1 13 (by decide) (by decide) (fun d p => slab_1_13 _ d p) ![0, 3712] rfl inb_S128x8192_S128x128_0_3712
  · exact slab_piece (v := k0_pay59 (F := Ideal) (k0_pay2 (F := Ideal) x0 x1) x5) 1 12 (by decide) (by decide) (fun d p => slab_1_12 _ d p) ![0, 3584] rfl inb_S128x8192_S128x128_0_3584
  · exact slab_piece (v := k0_pay59 (F := Ideal) (k0_pay2 (F := Ideal) x0 x1) x5) 1 11 (by decide) (by decide) (fun d p => slab_1_11 _ d p) ![0, 3456] rfl inb_S128x8192_S128x128_0_3456
  · exact slab_piece (v := k0_pay59 (F := Ideal) (k0_pay2 (F := Ideal) x0 x1) x5) 1 10 (by decide) (by decide) (fun d p => slab_1_10 _ d p) ![0, 3328] rfl inb_S128x8192_S128x128_0_3328
  · exact slab_piece (v := k0_pay59 (F := Ideal) (k0_pay2 (F := Ideal) x0 x1) x5) 1 9 (by decide) (by decide) (fun d p => slab_1_9 _ d p) ![0, 3200] rfl inb_S128x8192_S128x128_0_3200
  · exact slab_piece (v := k0_pay59 (F := Ideal) (k0_pay2 (F := Ideal) x0 x1) x5) 1 8 (by decide) (by decide) (fun d p => slab_1_8 _ d p) ![0, 3072] rfl inb_S128x8192_S128x128_0_3072
  · exact slab_piece (v := k0_pay59 (F := Ideal) (k0_pay2 (F := Ideal) x0 x1) x5) 1 7 (by decide) (by decide) (fun d p => slab_1_7 _ d p) ![0, 2944] rfl inb_S128x8192_S128x128_0_2944
  · exact slab_piece (v := k0_pay59 (F := Ideal) (k0_pay2 (F := Ideal) x0 x1) x5) 1 6 (by decide) (by decide) (fun d p => slab_1_6 _ d p) ![0, 2816] rfl inb_S128x8192_S128x128_0_2816
  · exact slab_piece (v := k0_pay59 (F := Ideal) (k0_pay2 (F := Ideal) x0 x1) x5) 1 5 (by decide) (by decide) (fun d p => slab_1_5 _ d p) ![0, 2688] rfl inb_S128x8192_S128x128_0_2688
  · exact slab_piece (v := k0_pay59 (F := Ideal) (k0_pay2 (F := Ideal) x0 x1) x5) 1 4 (by decide) (by decide) (fun d p => slab_1_4 _ d p) ![0, 2560] rfl inb_S128x8192_S128x128_0_2560
  · exact slab_piece (v := k0_pay59 (F := Ideal) (k0_pay2 (F := Ideal) x0 x1) x5) 1 3 (by decide) (by decide) (fun d p => slab_1_3 _ d p) ![0, 2432] rfl inb_S128x8192_S128x128_0_2432
  · exact slab_piece (v := k0_pay59 (F := Ideal) (k0_pay2 (F := Ideal) x0 x1) x5) 1 2 (by decide) (by decide) (fun d p => slab_1_2 _ d p) ![0, 2304] rfl inb_S128x8192_S128x128_0_2304
  · exact slab_piece (v := k0_pay59 (F := Ideal) (k0_pay2 (F := Ideal) x0 x1) x5) 1 1 (by decide) (by decide) (fun d p => slab_1_1 _ d p) ![0, 2176] rfl inb_S128x8192_S128x128_0_2176
  · exact slab_piece (v := k0_pay59 (F := Ideal) (k0_pay2 (F := Ideal) x0 x1) x5) 1 0 (by decide) (by decide) (fun d p => slab_1_0 _ d p) ![0, 2048] rfl inb_S128x8192_S128x128_0_2048
  · exact slab_piece (v := k0_pay59 (F := Ideal) (k0_pay2 (F := Ideal) x0 x1) x5) 0 15 (by decide) (by decide) (fun d p => slab_0_15 _ d p) ![0, 1920] rfl inb_S128x8192_S128x128_0_1920
  · exact slab_piece (v := k0_pay59 (F := Ideal) (k0_pay2 (F := Ideal) x0 x1) x5) 0 14 (by decide) (by decide) (fun d p => slab_0_14 _ d p) ![0, 1792] rfl inb_S128x8192_S128x128_0_1792
  · exact slab_piece (v := k0_pay59 (F := Ideal) (k0_pay2 (F := Ideal) x0 x1) x5) 0 13 (by decide) (by decide) (fun d p => slab_0_13 _ d p) ![0, 1664] rfl inb_S128x8192_S128x128_0_1664
  · exact slab_piece (v := k0_pay59 (F := Ideal) (k0_pay2 (F := Ideal) x0 x1) x5) 0 12 (by decide) (by decide) (fun d p => slab_0_12 _ d p) ![0, 1536] rfl inb_S128x8192_S128x128_0_1536
  · exact slab_piece (v := k0_pay59 (F := Ideal) (k0_pay2 (F := Ideal) x0 x1) x5) 0 11 (by decide) (by decide) (fun d p => slab_0_11 _ d p) ![0, 1408] rfl inb_S128x8192_S128x128_0_1408
  · exact slab_piece (v := k0_pay59 (F := Ideal) (k0_pay2 (F := Ideal) x0 x1) x5) 0 10 (by decide) (by decide) (fun d p => slab_0_10 _ d p) ![0, 1280] rfl inb_S128x8192_S128x128_0_1280
  · exact slab_piece (v := k0_pay59 (F := Ideal) (k0_pay2 (F := Ideal) x0 x1) x5) 0 9 (by decide) (by decide) (fun d p => slab_0_9 _ d p) ![0, 1152] rfl inb_S128x8192_S128x128_0_1152
  · exact slab_piece (v := k0_pay59 (F := Ideal) (k0_pay2 (F := Ideal) x0 x1) x5) 0 8 (by decide) (by decide) (fun d p => slab_0_8 _ d p) ![0, 1024] rfl inb_S128x8192_S128x128_0_1024
  · exact slab_piece (v := k0_pay59 (F := Ideal) (k0_pay2 (F := Ideal) x0 x1) x5) 0 7 (by decide) (by decide) (fun d p => slab_0_7 _ d p) ![0, 896] rfl inb_S128x8192_S128x128_0_896
  · exact slab_piece (v := k0_pay59 (F := Ideal) (k0_pay2 (F := Ideal) x0 x1) x5) 0 6 (by decide) (by decide) (fun d p => slab_0_6 _ d p) ![0, 768] rfl inb_S128x8192_S128x128_0_768
  · exact slab_piece (v := k0_pay59 (F := Ideal) (k0_pay2 (F := Ideal) x0 x1) x5) 0 5 (by decide) (by decide) (fun d p => slab_0_5 _ d p) ![0, 640] rfl inb_S128x8192_S128x128_0_640
  · exact slab_piece (v := k0_pay59 (F := Ideal) (k0_pay2 (F := Ideal) x0 x1) x5) 0 4 (by decide) (by decide) (fun d p => slab_0_4 _ d p) ![0, 512] rfl inb_S128x8192_S128x128_0_512
  · exact slab_piece (v := k0_pay59 (F := Ideal) (k0_pay2 (F := Ideal) x0 x1) x5) 0 3 (by decide) (by decide) (fun d p => slab_0_3 _ d p) ![0, 384] rfl inb_S128x8192_S128x128_0_384
  · exact slab_piece (v := k0_pay59 (F := Ideal) (k0_pay2 (F := Ideal) x0 x1) x5) 0 2 (by decide) (by decide) (fun d p => slab_0_2 _ x5 d p) ![0, 256] rfl inb_S128x8192_S128x128_0_256
  · exact slab_piece (v := k0_pay59 (F := Ideal) (k0_pay2 (F := Ideal) x0 x1) x5) 0 1 (by decide) (by decide) (fun d p => slab_0_1 _ x5 d p) ![0, 128] rfl inb_S128x8192_S128x128_0_128
  · exact slab_piece (v := k0_pay59 (F := Ideal) (k0_pay2 (F := Ideal) x0 x1) x5) 0 0 (by decide) (by decide) (fun d p => slab_0_0 _ x5 d p) ![0, 0] rfl inb_S128x8192_S128x128_0_0

/-- The stored key-value latent block. -/
theorem kv_block (p : Fin 512) (d : Fin 256) : out0_8 (F := Ideal) x0 x1 x2 x3 x4 x5 (ix2 p d)
    = scaled 0x43800000#32 (fun q : Fin 256 => x0 (ix2 p ⟨384 + q.val, by omega⟩)) (fun q => x2 (ix2 (0 : Fin 1) q)) d := by
  unfold out0_8
  rw [View.canon_unit_zero zero2, View.ld_unit_zero (S := S512x896) zero2, View.ld_unit_zero (S := S1x256) zero2]
  exact kv_at x0 x2 p d

/-- The stored indexer keys block. -/
theorem key_block (p : Fin 512) (d : Fin 128) : out0_9 (F := Ideal) x0 x1 x2 x3 x4 x5 (ix2 p d) = x0 (ix2 p ⟨640 + d.val, by omega⟩) := by
  unfold out0_9
  rw [View.canon_unit_zero zero2, View.ld_unit_zero (S := S512x896) zero2]
  exact key_at x0 p d

/-- The stored indexer weights block. -/
theorem weight_block (h : Fin 16) (p : Fin 512) : out0_10 (F := Ideal) x0 x1 x2 x3 x4 x5 (ix2 h p)
    = x0 (ix2 p ⟨768 + h.val, by omega⟩) * Ideal.ofBits .f32 0x3E800000#32 := by
  unfold out0_10
  rw [View.canon_unit_zero zero2, View.ld_unit_zero (S := S512x896) zero2]
  exact weight_at x0 h p

end Cert.Prep

end
-- ==== Proof.PrepRefValue.lean ====
/-
  The attention preparation's results as formulas of its arguments, and the reference's five results read by them.
-/
module

public import proofs.«01_k».proof.Proof.PrepPoint
public import proofs.«01_k».proof.Proof.Gen.PrepRefIdeal.Read
public import Idealize.ShloMosaic.Lib.Pointwise
public import Idealize.ShloMosaic.Lib.StableHlo.ReadAt

@[expose] public section

set_option maxRecDepth 16384

noncomputable section

namespace Cert.Prep

open Idealize.ShloMosaic Idealize.ShloMosaic.TcCoe Idealize.SL.Sem
open scoped BigOperators

/-- Head `h`, entry `d` of the normalised and scaled query of row `r`. -/
def queryAt (z : FVec Ideal ⟨2, ![8192, 896]⟩ .f32) (gc : FVec Ideal ⟨1, ![384]⟩ .f32) (w : FVec Ideal ⟨2, ![384, 2048]⟩ .f32)
    (gq : FVec Ideal ⟨1, ![256]⟩ .f32) (r : Fin 8192) (h : Fin 8) (d : Fin 256) : EReal :=
  scaled 0x43800000#32 (fun e : Fin 256 => ∑ k : Fin 384, latent (fun j => z (ix2 r j)) (fun j => gc (ix1 j)) k * w (ix2 k ⟨256 * h.val + e.val, by omega⟩))
    (fun e => gq (ix1 e)) d * Ideal.ofBits .f32 0x3DB8AA3B#32

/-- Entry `d` of the indexer's scaled query of row `r` for head `h`; the entries from 64 on are zeros. -/
def indexAt (z : FVec Ideal ⟨2, ![8192, 896]⟩ .f32) (gc : FVec Ideal ⟨1, ![384]⟩ .f32) (w : FVec Ideal ⟨2, ![384, 1024]⟩ .f32)
    (r : Fin 8192) (h : Fin 16) (d : Fin 128) : EReal :=
  if hd : d.val < 64 then
    (∑ k : Fin 384, latent (fun j => z (ix2 r j)) (fun j => gc (ix1 j)) k * w (ix2 k ⟨64 * h.val + d.val, by omega⟩)) * Ideal.ofBits .f32 0x3E000000#32
  else 0

/-- Entry `d` of the normalised key-value latent of row `r`. -/
def kvAt (z : FVec Ideal ⟨2, ![8192, 896]⟩ .f32) (g : FVec Ideal ⟨1, ![256]⟩ .f32) (r : Fin 8192) (d : Fin 256) : EReal :=
  scaled 0x43800000#32 (fun q : Fin 256 => z (ix2 r ⟨384 + q.val, by omega⟩)) (fun q => g (ix1 q)) d

namespace Ref

open Cert.PrepRefIdeal Cert.PrepRefIdeal.Gen Cert.PrepRefIdeal.Value Cert.PrepRefIdeal.Read

variable (z : (⟨S8192x896, .f32⟩ : BufTy).Contents (Elt Ideal)) (gc : (⟨S384, .f32⟩ : BufTy).Contents (Elt Ideal)) (gk gq : (⟨S256, .f32⟩ : BufTy).Contents (Elt Ideal))
  (w : (⟨S384x2048, .f32⟩ : BufTy).Contents (Elt Ideal)) (wi : (⟨S384x1024, .f32⟩ : BufTy).Contents (Elt Ideal))

/-- The reference's normalised query latent. -/
theorem latent_ref (r : Fin 8192) (k : Fin 384) :
    val_main_v13 (F := Ideal) z gc (ix2 r k) = latent (fun j => z (ix2 r j)) (fun j => gc (ix1 j)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The reference's query projection. -/
theorem query_ref (r : Fin 8192) (c : Fin 2048) :
    val_main_v14 (F := Ideal) z gc w (ix2 r c) = ∑ k : Fin 384, latent (fun j => z (ix2 r j)) (fun j => gc (ix1 j)) k * w (ix2 k c) := by
  have e : val_main_v14 (F := Ideal) z gc w (ix2 r c) = ∑ k : Fin 384, val_main_v13 (F := Ideal) z gc (ix2 r k) * w (ix2 k c) := by
    unfold val_main_v14
    generalize val_main_v13 (F := Ideal) z gc = y
    pointwise
  rw [e]
  exact Finset.sum_congr rfl fun k _ => congrArg (· * _) (latent_ref z gc r k)

/-- The reference's first result over the query projection. -/
theorem v59_at (b : Fin 64) (h : Fin 8) (p : Fin 128) (d : Fin 256) :
    val_main_v59 (F := Ideal) z gc w gq (ix4 b h p d)
      = scaled 0x43800000#32 (fun e : Fin 256 => val_main_v14 (F := Ideal) z gc w (ix2 ⟨128 * b.val + p.val, by omega⟩ ⟨256 * h.val + e.val, by omega⟩)) (fun e => gq (ix1 e)) d
        * Ideal.ofBits .f32 0x3DB8AA3B#32 := by
  unfold val_main_v59 val_main_v49 val_main_v48 val_main_v30 val_main_v29 val_main_cst_5 val_main_v28 val_main_v27 val_main_v26 val_main_v25 val_main_v24 val_main_v23 val_main_v22 val_main_v21 val_main_v20 val_main_v19 val_main_v18 val_main_v17 val_main_v16 val_main_v15 val_main_cst_2 val_main_cst_3 val_main_cst_4 scaled
  generalize val_main_v14 (F := Ideal) z gc w = y
  pointwise
  simp only [Nat.mul_comm 128, Nat.mul_comm 256]

/-- The first result. -/
theorem first_ref (b : Fin 64) (h : Fin 8) (p : Fin 128) (d : Fin 256) :
    val_main_v59 (F := Ideal) z gc w gq (ix4 b h p d) = queryAt z gc w gq ⟨128 * b.val + p.val, by omega⟩ h d := by
  refine (v59_at z gc gq w b h p d).trans ?_
  unfold queryAt
  simp only [query_ref]

/-- The reference's second result over the latent. -/
theorem v60_at (d : Fin 128) (c : Fin 131072) :
    val_main_v60 (F := Ideal) z gc wi (ix2 d c)
      = if hd : d.val < 64 then (∑ k : Fin 384, val_main_v13 (F := Ideal) z gc (ix2 ⟨128 * (c.val / 2048) + c.val % 128, by omega⟩ k)
          * wi (ix2 k ⟨64 * (c.val % 2048 / 128) + d.val, by omega⟩)) * Ideal.ofBits .f32 0x3E000000#32 else 0 := by
  unfold val_main_v60 val_main_v54 val_main_v53 val_main_v52 val_main_v51 val_main_v50 val_main_v33 val_main_v32 val_main_v31 val_main_cst_6 val_main_cst_10
  generalize val_main_v13 (F := Ideal) z gc = y
  pointwise
  have e : c.val % 2048 / 128 = c.val / 128 % 16 := by omega
  simp only [Nat.mul_comm 128, Nat.mul_comm 64, e]

/-- The second result. -/
theorem second_ref (d : Fin 128) (c : Fin 131072) :
    val_main_v60 (F := Ideal) z gc wi (ix2 d c) = indexAt z gc wi ⟨128 * (c.val / 2048) + c.val % 128, by omega⟩ ⟨c.val % 2048 / 128, by omega⟩ d := by
  refine (v60_at z gc wi d c).trans ?_
  unfold indexAt
  simp only [latent_ref]

/-- The third result. -/
theorem third_ref (r : Fin 8192) (d : Fin 256) : val_main_v61 (F := Ideal) z gk (ix2 r d) = kvAt z gk r d := by
  unfold val_main_v61 val_main_v47 val_main_v46 val_main_v45 val_main_v44 val_main_v43 val_main_v42 val_main_v41 val_main_v40 val_main_v39 val_main_v38 val_main_v37 val_main_v36 val_main_v35 val_main_v34 val_main_cst_7 val_main_cst_8 val_main_cst_9 kvAt scaled
  pointwise

/-- The fourth result. -/
theorem fourth_ref (r : Fin 8192) (d : Fin 128) : val_main_v63 (F := Ideal) z (ix2 r d) = z (ix2 r ⟨640 + d.val, by omega⟩) := by
  unfold val_main_v63 val_main_v62
  pointwise

/-- The fifth result. -/
theorem fifth_ref (h : Fin 16) (r : Fin 8192) :
    val_main_v58 (F := Ideal) z (ix2 h r) = z (ix2 r ⟨768 + h.val, by omega⟩) * Ideal.ofBits .f32 0x3E800000#32 := by
  unfold val_main_v58 val_main_v57 val_main_v56 val_main_v55 val_main_cst_11
  pointwise

end Ref

end Cert.Prep

end
-- ==== Proof.PrepValue.lean ====
/-
  The attention preparation's five result arrays after the run, entry by entry.
-/
module

public import proofs.«01_k».proof.Proof.PrepBlocks
public import proofs.«01_k».proof.Proof.PrepRefValue
public import proofs.«01_k».proof.Proof.Gen.PrepIdeal.Value
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Prep

open Idealize.ShloMosaic Idealize.ShloMosaic.TcCoe Idealize.SL.Sem
open Cert.PrepIdeal Cert.PrepIdeal.Gen Cert.Common
open scoped BigOperators

variable (m : (l : Loc nD τ sig) → Buf (Elt Ideal) l)

/-- The gain of the query latent as the kernel reads it. -/
theorem table_cq (c : Dev nD) (k : Fin 384) : V m c main_v6 (ix2 (0 : Fin 1) k) = m ((c : Thread nD τ).loc main_arg1) (ix1 k) := by
  unfold V; after_reads_at

/-- The gain of the key-value latent as the kernel reads it. -/
theorem table_ckv (c : Dev nD) (k : Fin 256) : V m c main_v7 (ix2 (0 : Fin 1) k) = m ((c : Thread nD τ).loc main_arg2) (ix1 k) := by
  unfold V; after_reads_at

/-- The gain of the queries as the kernel reads it. -/
theorem table_q (c : Dev nD) (k : Fin 256) : V m c main_v8 (ix2 (0 : Fin 1) k) = m ((c : Thread nD τ).loc main_arg4) (ix1 k) := by
  unfold V; after_reads_at

/-- The query weight as the kernel reads it. -/
theorem table_w (c : Dev nD) (k : Fin 384) (j : Fin 2048) : V m c main_v4 (ix2 k j) = m ((c : Thread nD τ).loc main_arg3) (ix2 k j) := by
  unfold V; after_reads_at

/-- Reading a row of heads widened from 64 to 128 columns, in the two ways of writing the column. -/
theorem padded (u : Fin 1024 → EReal) (a : ℕ) (z : EReal) (hz : z = 0)
    (p : a / 128 < 16 ∧ a % 128 < 64 → a / 128 * 64 + a % 128 < 1024) (p' : a % 128 < 64 → 64 * (a / 128) + a % 128 < 1024) (ha : a < 2048) :
    (if h : a / 128 < 16 ∧ a % 128 < 64 then u ⟨a / 128 * 64 + a % 128, p h⟩ else z)
      = if h : a % 128 < 64 then u ⟨64 * (a / 128) + a % 128, p' h⟩ else 0 := by
  by_cases h : a % 128 < 64
  · have h' : a / 128 < 16 ∧ a % 128 < 64 := ⟨by omega, h⟩
    rw [dif_pos h', dif_pos h]
    exact congrArg u (Fin.ext (by show a / 128 * 64 + a % 128 = 64 * (a / 128) + a % 128; omega))
  · rw [dif_neg (fun h' => h h'.2), dif_neg h, hz]

/-- The word zero as a number. -/
theorem zero_word : (FloatOps.sitofp (F := Ideal) .f32 0#32 : EReal) = 0 := by
  show (((0#32 : BitVec 32).toInt : ℝ) : EReal) = 0
  simp

/-- The indexer weight as the kernel reads it: transposed, each head of 64 columns followed by 64 rows of zeros. -/
theorem table_wi (c : Dev nD) (a : Fin 2048) (k : Fin 384) :
    V m c main_v5 (ix2 a k) = if h : a.val % 128 < 64 then
      m ((c : Thread nD τ).loc main_arg5) (ix2 k (⟨64 * (a.val / 128) + a.val % 128, by omega⟩ : Fin 1024)) else (0 : EReal) := by
  unfold V; after_reads_at
  exact padded (fun j => m ((c : Thread nD τ).loc main_arg5) (ix2 k j)) a.val _ zero_word _ _ a.isLt

/-- The same reading, by head and entry. -/
theorem head_column (u : Fin 1024 → EReal) (a h d : ℕ) (e1 : a / 128 = h) (e2 : a % 128 = d)
    (p : a % 128 < 64 → 64 * (a / 128) + a % 128 < 1024) (p' : d < 64 → 64 * h + d < 1024) :
    (if hd : a % 128 < 64 then u ⟨64 * (a / 128) + a % 128, p hd⟩ else 0) = if hd : d < 64 then u ⟨64 * h + d, p' hd⟩ else 0 := by
  subst e1 e2
  rfl

/-- The grid point's blocks. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The blocks a grid point writes. -/
theorem index_out : ∀ t : Fin cfg0.N, win0_6.index t (0 : Fin 4) = t.val ∧ win0_6.index t (1 : Fin 4) = 0 ∧ win0_6.index t (2 : Fin 4) = 0 ∧ win0_6.index t (3 : Fin 4) = 0
    ∧ win0_7.index t (0 : Fin 2) = 0 ∧ win0_7.index t (1 : Fin 2) = t.val
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = 0 ∧ win0_10.index t (1 : Fin 2) = t.val :=
  (by decide +kernel : ∀ t : Fin grid0.N, _)

/-- The rows' block at point `t`. -/
theorem rows_block (c : Dev nD) (t : Fin cfg0.N) (p : Fin 512) (k : Fin 896) (h : 512 * t.val + p.val < 8192) :
    (iblk m c 0 t : Vec Ideal S512x896 .f32) (ix2 p k) = m ((c : Thread nD τ).loc main_arg0) (ix2 ⟨512 * t.val + p.val, h⟩ k) := by
  obtain ⟨h0, h1, -⟩ := index_facts t
  unfold iblk
  rw [View.read_apply]
  show V m c main_arg0 _ = _
  rw [V_main_arg0]
  refine congrArg _ (funext fun a => Fin.ext ?_)
  match a with
  | ⟨0, _⟩ => show win0_0.index t 0 * 512 + 1 * p.val = 512 * t.val + p.val; rw [h0]; omega
  | ⟨1, _⟩ => show win0_0.index t 1 * 896 + 1 * k.val = k.val; rw [h1]; omega

/-- The query latent gain's block. -/
theorem cq_block (c : Dev nD) (t : Fin cfg0.N) (k : Fin 384) :
    (iblk m c 1 t : Vec Ideal S1x384 .f32) (ix2 (0 : Fin 1) k) = m ((c : Thread nD τ).loc main_arg1) (ix1 k) := by
  obtain ⟨-, -, h0, h1, -⟩ := index_facts t
  unfold iblk
  rw [View.read_apply]
  refine Eq.trans ?_ (table_cq m c k)
  show V m c main_v6 _ = _
  refine congrArg _ (funext fun a => Fin.ext ?_)
  match a with
  | ⟨0, _⟩ => show win0_1.index t 0 * 1 + 1 * 0 = 0; rw [h0]
  | ⟨1, _⟩ => show win0_1.index t 1 * 384 + 1 * k.val = k.val; rw [h1]; omega

/-- The key-value latent gain's block. -/
theorem ckv_block (c : Dev nD) (t : Fin cfg0.N) (k : Fin 256) :
    (iblk m c 2 t : Vec Ideal S1x256 .f32) (ix2 (0 : Fin 1) k) = m ((c : Thread nD τ).loc main_arg2) (ix1 k) := by
  obtain ⟨-, -, -, -, h0, h1, -⟩ := index_facts t
  unfold iblk
  rw [View.read_apply]
  refine Eq.trans ?_ (table_ckv m c k)
  show V m c main_v7 _ = _
  refine congrArg _ (funext fun a => Fin.ext ?_)
  match a with
  | ⟨0, _⟩ => show win0_2.index t 0 * 1 + 1 * 0 = 0; rw [h0]
  | ⟨1, _⟩ => show win0_2.index t 1 * 256 + 1 * k.val = k.val; rw [h1]; omega

/-- The query weight's block. -/
theorem w_block (c : Dev nD) (t : Fin cfg0.N) (k : Fin 384) (j : Fin 2048) :
    (iblk m c 3 t : Vec Ideal S384x2048 .bf16) (ix2 k j) = m ((c : Thread nD τ).loc main_arg3) (ix2 k j) := by
  obtain ⟨-, -, -, -, -, -, h0, h1, -⟩ := index_facts t
  unfold iblk
  rw [View.read_apply]
  refine Eq.trans ?_ (table_w m c k j)
  show V m c main_v4 _ = _
  refine congrArg _ (funext fun a => Fin.ext ?_)
  match a with
  | ⟨0, _⟩ => show win0_3.index t 0 * 384 + 1 * k.val = k.val; rw [h0]; omega
  | ⟨1, _⟩ => show win0_3.index t 1 * 2048 + 1 * j.val = j.val; rw [h1]; omega

/-- The query gain's block. -/
theorem q_block (c : Dev nD) (t : Fin cfg0.N) (k : Fin 256) :
    (iblk m c 4 t : Vec Ideal S1x256 .f32) (ix2 (0 : Fin 1) k) = m ((c : Thread nD τ).loc main_arg4) (ix1 k) := by
  obtain ⟨-, -, -, -, -, -, -, -, h0, h1, -⟩ := index_facts t
  unfold iblk
  rw [View.read_apply]
  refine Eq.trans ?_ (table_q m c k)
  show V m c main_v8 _ = _
  refine congrArg _ (funext fun a => Fin.ext ?_)
  match a with
  | ⟨0, _⟩ => show win0_4.index t 0 * 1 + 1 * 0 = 0; rw [h0]
  | ⟨1, _⟩ => show win0_4.index t 1 * 256 + 1 * k.val = k.val; rw [h1]; omega

/-- The indexer weight's block. -/
theorem wi_block (c : Dev nD) (t : Fin cfg0.N) (h : Fin 16) (d : Fin 128) (k : Fin 384) :
    (iblk m c 5 t : Vec Ideal S2048x384 .bf16) (ix2 (⟨128 * h.val + d.val, by omega⟩ : Fin 2048) k) = if hd : d.val < 64 then
      (m ((c : Thread nD τ).loc main_arg5) (ix2 k (⟨64 * h.val + d.val, by omega⟩ : Fin 1024)) : EReal) else (0 : EReal) := by
  obtain ⟨-, -, -, -, -, -, -, -, -, -, h0, h1⟩ := index_facts t
  unfold iblk
  rw [View.read_apply]
  refine Eq.trans ?_ ((table_wi m c ⟨128 * h.val + d.val, by omega⟩ k).trans (head_column (fun j => m ((c : Thread nD τ).loc main_arg5) (ix2 k j)) (128 * h.val + d.val) h.val d.val
    (by have hd := d.isLt; omega) (by have hd := d.isLt; omega) _ _))
  show V m c main_v5 _ = _
  refine congrArg _ (funext fun a => Fin.ext ?_)
  match a with
  | ⟨0, _⟩ => show win0_5.index t 0 * 2048 + 1 * (128 * h.val + d.val) = (128 * h.val + d.val); rw [h0]; omega
  | ⟨1, _⟩ => show win0_5.index t 1 * 384 + 1 * k.val = k.val; rw [h1]; omega

/-- The first result array. -/
def out6 (c : Dev nD) : Buf (Elt Ideal) ((c : Thread nD τ).loc main_v9_0) := fun i =>
  queryAt (m ((c : Thread nD τ).loc main_arg0)) (m ((c : Thread nD τ).loc main_arg1)) (m ((c : Thread nD τ).loc main_arg3)) (m ((c : Thread nD τ).loc main_arg4))
    ⟨128 * (i 0).val + (i 2).val, by have h0 : (i 0).val < 64 := (i 0).isLt; have h2 : (i 2).val < 128 := (i 2).isLt; omega⟩ (i 1) (i 3)

/-- The second result array. -/
def out7 (c : Dev nD) : Buf (Elt Ideal) ((c : Thread nD τ).loc main_v9_1) := fun i =>
  indexAt (m ((c : Thread nD τ).loc main_arg0)) (m ((c : Thread nD τ).loc main_arg1)) (m ((c : Thread nD τ).loc main_arg5))
    ⟨128 * ((i 1).val / 2048) + (i 1).val % 128, by have h1 : (i 1).val < 131072 := (i 1).isLt; omega⟩ ⟨(i 1).val % 2048 / 128, by omega⟩ (i 0)

/-- The third result array. -/
def out8 (c : Dev nD) : Buf (Elt Ideal) ((c : Thread nD τ).loc main_v9_2) := fun i =>
  kvAt (m ((c : Thread nD τ).loc main_arg0)) (m ((c : Thread nD τ).loc main_arg2)) (i 0) (i 1)

/-- The fourth result array. -/
def out9 (c : Dev nD) : Buf (Elt Ideal) ((c : Thread nD τ).loc main_v9_3) := fun i =>
  m ((c : Thread nD τ).loc main_arg0) (ix2 (i 0 : Fin 8192) ⟨640 + (i 1).val, by have h1 : (i 1).val < 128 := (i 1).isLt; omega⟩)

/-- The scaled indexer weight of head `h` for row `r`. -/
def weightAt (z : FVec Ideal ⟨2, ![8192, 896]⟩ .f32) (h : Fin 16) (r : Fin 8192) : EReal :=
  z (ix2 r ⟨768 + h.val, by omega⟩) * Ideal.ofBits .f32 0x3E800000#32

/-- The fifth result array. -/
def out10 (c : Dev nD) : Buf (Elt Ideal) ((c : Thread nD τ).loc main_v9_4) := fun i => weightAt (m ((c : Thread nD τ).loc main_arg0)) (i 0) (i 1)

/-- The latent of a row of the block is the latent of the row. -/
theorem latent_block (c : Dev nD) (t : Fin cfg0.N) (p : Fin 512) (h : 512 * t.val + p.val < 8192) (k : Fin 384) :
    latent (fun j => (iblk m c 0 t : Vec Ideal S512x896 .f32) (ix2 p j)) (fun j => (iblk m c 1 t : Vec Ideal S1x384 .f32) (ix2 (0 : Fin 1) j)) k
      = latent (fun j => m ((c : Thread nD τ).loc main_arg0) (ix2 (⟨512 * t.val + p.val, h⟩ : Fin 8192) j)) (fun j => m ((c : Thread nD τ).loc main_arg1) (ix1 j)) k := by
  congr 1
  · funext j; exact rows_block m c t p j h
  · funext j; exact cq_block m c t j

/-- What point `t` writes back to the first array is block `t` of it. -/
theorem block6 (c : Dev nD) (t : Fin cfg0.N) :
    (dats m 0 c).flushed 6 t = ((cfg0.win 6).blk t).view.read (Elt Ideal) (out6 m c) := by
  have hN : t.val < 16 := lt_of_lt_of_eq t.isLt (show cfg0.N = 16 from N_0)
  obtain ⟨e0, e1, e2, e3, -⟩ := index_out t
  rw [Value.flushed6]
  funext y
  obtain ⟨s, h, p, d, rfl⟩ : ∃ (s : Fin 4) (h : Fin 8) (p : Fin 128) (d : Fin 256), y = ix4 s h p d := ⟨y 0, y 1, y 2, y 3, eq_ix4 y⟩
  have hs := s.isLt
  have hp := p.isLt
  have hr : 4 * t.val + s.val < 64 := by omega
  rw [View.read_apply]
  have hb : ((cfg0.win 6).blk t).view.emb (ix4 s h p d) = ix4 (⟨4 * t.val + s.val, hr⟩ : Fin 64) h p d := by
    funext a; apply Fin.ext
    match a with
    | ⟨0, _⟩ => show win0_6.index t 0 * 4 + 1 * s.val = 4 * t.val + s.val; rw [e0]; omega
    | ⟨1, _⟩ => show win0_6.index t 1 * 8 + 1 * h.val = h.val; rw [e1]; omega
    | ⟨2, _⟩ => show win0_6.index t 2 * 128 + 1 * p.val = p.val; rw [e2]; omega
    | ⟨3, _⟩ => show win0_6.index t 3 * 256 + 1 * d.val = d.val; rw [e3]; omega
  rw [hb]
  refine (heads_block _ _ _ _ _ _ (ix4 s h p d)).trans ?_
  have hq : 512 * t.val + (128 * s.val + p.val) < 8192 := by omega
  have er : (⟨512 * t.val + (128 * s.val + p.val), hq⟩ : Fin 8192) = ⟨128 * (4 * t.val + s.val) + p.val, by omega⟩ := Fin.ext (by show 512 * t.val + (128 * s.val + p.val) = 128 * (4 * t.val + s.val) + p.val; omega)
  show headOf (k0_pay3 (F := Ideal) (iblk m c 0 t) (iblk m c 1 t) (iblk m c 3 t)) (iblk m c 4 t) s h p d
    = queryAt _ _ _ _ (⟨128 * (4 * t.val + s.val) + p.val, _⟩ : Fin 8192) h d
  rw [← er]
  unfold headOf queryAt
  refine congrArg (· * _) ?_
  congr 1
  · funext e
    refine (query_at _ _ _ _ _).trans (Finset.sum_congr rfl fun k _ => ?_)
    exact congrArg₂ (· * ·) (latent_block m c t ⟨128 * s.val + p.val, by omega⟩ hq k) (w_block m c t k _)
  · funext e; exact q_block m c t e

/-- The first array after the run. -/
theorem final6 (c : Dev nD) : (dats m 0 c).arrAt 6 cfg0.N = out6 m c :=
  (dats m 0 c).arrAt_eq_of_cover 6 _ (fun t _ => block6 m c t) fun i => by
    have h0 : (i 0).val < 64 := (i 0).isLt
    have h1 : (i 1).val < 8 := (i 1).isLt
    have h2 : (i 2).val < 128 := (i 2).isLt
    have h3 : (i 3).val < 256 := (i 3).isLt
    have hN : cfg0.N = 16 := N_0
    obtain ⟨t, ht⟩ : ∃ t : Fin cfg0.N, t.val = (i 0).val / 4 := ⟨⟨(i 0).val / 4, by rw [hN]; omega⟩, rfl⟩
    obtain ⟨e0, e1, e2, e3, -⟩ := index_out t
    refine ⟨t, flush0_6 t, ?_⟩
    show i ∈ ((View.whole main_v9_0).slice (win0_6.rect t)).set
    rw [View.set_slice_whole, Rect.mem_set_unit]
    intro a
    match a with
    | ⟨0, _⟩ => show win0_6.index t 0 * 4 ≤ (i 0 : Nat) ∧ (i 0 : Nat) < win0_6.index t 0 * 4 + 4; rw [e0]; omega
    | ⟨1, _⟩ => show win0_6.index t 1 * 8 ≤ (i 1 : Nat) ∧ (i 1 : Nat) < win0_6.index t 1 * 8 + 8; rw [e1]; omega
    | ⟨2, _⟩ => show win0_6.index t 2 * 128 ≤ (i 2 : Nat) ∧ (i 2 : Nat) < win0_6.index t 2 * 128 + 128; rw [e2]; omega
    | ⟨3, _⟩ => show win0_6.index t 3 * 256 ≤ (i 3 : Nat) ∧ (i 3 : Nat) < win0_6.index t 3 * 256 + 256; rw [e3]; omega

/-- The product with the widened weight: the padded entries are zeros. -/
theorem widened (z : Fin 384 → EReal) (w : Fin 384 → EReal) (b : Prop) [Decidable b] (s : EReal) (u : b → Fin 384 → EReal)
    (hw : ∀ k, w k = if hb : b then u hb k else 0) :
    (∑ k : Fin 384, w k * z k) * s = if hb : b then (∑ k : Fin 384, z k * u hb k) * s else 0 := by
  by_cases hb : b
  · rw [dif_pos hb]
    refine congrArg (· * s) (Finset.sum_congr rfl fun k _ => ?_)
    rw [hw k, dif_pos hb, mul_comm]
  · rw [dif_neg hb, Finset.sum_eq_zero (fun k _ => by rw [hw k, dif_neg hb, zero_mul]), zero_mul]

/-- What point `t` writes back to the second array is block `t` of it. -/
theorem block7 (c : Dev nD) (t : Fin cfg0.N) :
    (dats m 0 c).flushed 7 t = ((cfg0.win 7).blk t).view.read (Elt Ideal) (out7 m c) := by
  have hN : t.val < 16 := lt_of_lt_of_eq t.isLt (show cfg0.N = 16 from N_0)
  obtain ⟨-, -, -, -, e0, e1, -⟩ := index_out t
  rw [Value.flushed7]
  funext y
  obtain ⟨d, q, rfl⟩ : ∃ (d : Fin 128) (q : Fin 8192), y = ix2 d q := ⟨y 0, y 1, eq_ix2 y⟩
  have hq := q.isLt
  have hr : 8192 * t.val + q.val < 131072 := by omega
  rw [View.read_apply]
  have hb : ((cfg0.win 7).blk t).view.emb (ix2 d q) = ix2 d (⟨8192 * t.val + q.val, hr⟩ : Fin 131072) := by
    funext a; apply Fin.ext
    match a with
    | ⟨0, _⟩ => show win0_7.index t 0 * 128 + 1 * d.val = d.val; rw [e0]; omega
    | ⟨1, _⟩ => show win0_7.index t 1 * 8192 + 1 * q.val = 8192 * t.val + q.val; rw [e1]; omega
  rw [hb]
  refine (slabs_block _ _ _ _ _ _ (ix2 d q)).trans ?_
  have hh : q.val % 2048 / 128 < 16 := by omega
  have hp : 128 * (q.val / 2048) + q.val % 128 < 512 := by omega
  have hrow : 512 * t.val + (128 * (q.val / 2048) + q.val % 128) < 8192 := by omega
  have er : (⟨512 * t.val + (128 * (q.val / 2048) + q.val % 128), hrow⟩ : Fin 8192) = ⟨128 * ((8192 * t.val + q.val) / 2048) + (8192 * t.val + q.val) % 128, by omega⟩ :=
    Fin.ext (by show 512 * t.val + (128 * (q.val / 2048) + q.val % 128) = 128 * ((8192 * t.val + q.val) / 2048) + (8192 * t.val + q.val) % 128; omega)
  have eh : (⟨q.val % 2048 / 128, hh⟩ : Fin 16) = ⟨(8192 * t.val + q.val) % 2048 / 128, by omega⟩ :=
    Fin.ext (by show q.val % 2048 / 128 = (8192 * t.val + q.val) % 2048 / 128; omega)
  show k0_pay59 (F := Ideal) (k0_pay2 (F := Ideal) (iblk m c 0 t) (iblk m c 1 t)) (iblk m c 5 t) (ix2 (⟨128 * (q.val % 2048 / 128) + d.val, by omega⟩ : Fin 2048) (⟨128 * (q.val / 2048) + q.val % 128, hp⟩ : Fin 512))
    = indexAt _ _ _ (⟨128 * ((8192 * t.val + q.val) / 2048) + (8192 * t.val + q.val) % 128, _⟩ : Fin 8192) (⟨(8192 * t.val + q.val) % 2048 / 128, _⟩ : Fin 16) d
  rw [← er, ← eh]
  unfold indexAt
  refine (index_at _ _ _ _).trans ?_
  refine Eq.trans ?_ (widened _ _ (d.val < 64) _ (fun hd k => m ((c : Thread nD τ).loc main_arg5) (ix2 k (⟨64 * (q.val % 2048 / 128) + d.val, by omega⟩ : Fin 1024)))
    (fun k => wi_block m c t ⟨q.val % 2048 / 128, hh⟩ d k))
  refine congrArg (· * _) (Finset.sum_congr rfl fun k _ => congrArg₂ (· * ·) rfl ?_)
  exact (latent_at _ _ _ k).trans (latent_block m c t ⟨128 * (q.val / 2048) + q.val % 128, hp⟩ hrow k)

/-- The second array after the run. -/
theorem final7 (c : Dev nD) : (dats m 0 c).arrAt 7 cfg0.N = out7 m c :=
  (dats m 0 c).arrAt_eq_of_cover 7 _ (fun t _ => block7 m c t) fun i => by
    have h0 : (i 0).val < 128 := (i 0).isLt
    have h1 : (i 1).val < 131072 := (i 1).isLt
    have hN : cfg0.N = 16 := N_0
    obtain ⟨t, ht⟩ : ∃ t : Fin cfg0.N, t.val = (i 1).val / 8192 := ⟨⟨(i 1).val / 8192, by rw [hN]; omega⟩, rfl⟩
    obtain ⟨-, -, -, -, e0, e1, -⟩ := index_out t
    refine ⟨t, flush0_7 t, ?_⟩
    show i ∈ ((View.whole main_v9_1).slice (win0_7.rect t)).set
    rw [View.set_slice_whole, Rect.mem_set_unit]
    intro a
    match a with
    | ⟨0, _⟩ => show win0_7.index t 0 * 128 ≤ (i 0 : Nat) ∧ (i 0 : Nat) < win0_7.index t 0 * 128 + 128; rw [e0]; omega
    | ⟨1, _⟩ => show win0_7.index t 1 * 8192 ≤ (i 1 : Nat) ∧ (i 1 : Nat) < win0_7.index t 1 * 8192 + 8192; rw [e1]; omega

/-- What point `t` writes back to the third array is block `t` of it. -/
theorem block8 (c : Dev nD) (t : Fin cfg0.N) :
    (dats m 0 c).flushed 8 t = ((cfg0.win 8).blk t).view.read (Elt Ideal) (out8 m c) := by
  have hN : t.val < 16 := lt_of_lt_of_eq t.isLt (show cfg0.N = 16 from N_0)
  obtain ⟨-, -, -, -, -, -, e0, e1, -⟩ := index_out t
  rw [Value.flushed8]
  funext y
  obtain ⟨p, d, rfl⟩ : ∃ (p : Fin 512) (d : Fin 256), y = ix2 p d := ⟨y 0, y 1, eq_ix2 y⟩
  have hp := p.isLt
  have hr : 512 * t.val + p.val < 8192 := by omega
  rw [View.read_apply]
  have hb : ((cfg0.win 8).blk t).view.emb (ix2 p d) = ix2 (⟨512 * t.val + p.val, hr⟩ : Fin 8192) d := by
    funext a; apply Fin.ext
    match a with
    | ⟨0, _⟩ => show win0_8.index t 0 * 512 + 1 * p.val = 512 * t.val + p.val; rw [e0]; omega
    | ⟨1, _⟩ => show win0_8.index t 1 * 256 + 1 * d.val = d.val; rw [e1]; omega
  rw [hb]
  refine (kv_block _ _ _ _ _ _ p d).trans ?_
  show scaled _ _ _ _ = kvAt _ _ _ d
  unfold kvAt
  congr 1
  · funext q; exact rows_block m c t p _ hr
  · funext q; exact ckv_block m c t q

/-- The third array after the run. -/
theorem final8 (c : Dev nD) : (dats m 0 c).arrAt 8 cfg0.N = out8 m c :=
  (dats m 0 c).arrAt_eq_of_cover 8 _ (fun t _ => block8 m c t) fun i => by
    have h0 : (i 0).val < 8192 := (i 0).isLt
    have h1 : (i 1).val < 256 := (i 1).isLt
    have hN : cfg0.N = 16 := N_0
    obtain ⟨t, ht⟩ : ∃ t : Fin cfg0.N, t.val = (i 0).val / 512 := ⟨⟨(i 0).val / 512, by rw [hN]; omega⟩, rfl⟩
    obtain ⟨-, -, -, -, -, -, e0, e1, -⟩ := index_out t
    refine ⟨t, flush0_8 t, ?_⟩
    show i ∈ ((View.whole main_v9_2).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [e0]; omega
    | ⟨1, _⟩ => show win0_8.index t 1 * 256 ≤ (i 1 : Nat) ∧ (i 1 : Nat) < win0_8.index t 1 * 256 + 256; rw [e1]; omega

/-- What point `t` writes back to the fourth array is block `t` of it. -/
theorem block9 (c : Dev nD) (t : Fin cfg0.N) :
    (dats m 0 c).flushed 9 t = ((cfg0.win 9).blk t).view.read (Elt Ideal) (out9 m c) := by
  have hN : t.val < 16 := lt_of_lt_of_eq t.isLt (show cfg0.N = 16 from N_0)
  obtain ⟨-, -, -, -, -, -, -, -, e0, e1, -⟩ := index_out t
  rw [Value.flushed9]
  funext y
  obtain ⟨p, d, rfl⟩ : ∃ (p : Fin 512) (d : Fin 128), y = ix2 p d := ⟨y 0, y 1, eq_ix2 y⟩
  have hp := p.isLt
  have hr : 512 * t.val + p.val < 8192 := by omega
  rw [View.read_apply]
  have hb : ((cfg0.win 9).blk t).view.emb (ix2 p d) = ix2 (⟨512 * t.val + p.val, hr⟩ : Fin 8192) d := by
    funext a; apply Fin.ext
    match a with
    | ⟨0, _⟩ => show win0_9.index t 0 * 512 + 1 * p.val = 512 * t.val + p.val; rw [e0]; omega
    | ⟨1, _⟩ => show win0_9.index t 1 * 128 + 1 * d.val = d.val; rw [e1]; omega
  rw [hb]
  refine (key_block _ _ _ _ _ _ p d).trans ?_
  exact rows_block m c t p _ hr

/-- The fourth array after the run. -/
theorem final9 (c : Dev nD) : (dats m 0 c).arrAt 9 cfg0.N = out9 m c :=
  (dats m 0 c).arrAt_eq_of_cover 9 _ (fun t _ => block9 m c t) fun i => by
    have h0 : (i 0).val < 8192 := (i 0).isLt
    have h1 : (i 1).val < 128 := (i 1).isLt
    have hN : cfg0.N = 16 := N_0
    obtain ⟨t, ht⟩ : ∃ t : Fin cfg0.N, t.val = (i 0).val / 512 := ⟨⟨(i 0).val / 512, by rw [hN]; omega⟩, rfl⟩
    obtain ⟨-, -, -, -, -, -, -, -, e0, e1, -⟩ := index_out t
    refine ⟨t, flush0_9 t, ?_⟩
    show i ∈ ((View.whole main_v9_3).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512; rw [e0]; omega
    | ⟨1, _⟩ => show win0_9.index t 1 * 128 ≤ (i 1 : Nat) ∧ (i 1 : Nat) < win0_9.index t 1 * 128 + 128; rw [e1]; omega

/-- What point `t` writes back to the fifth array is block `t` of it. -/
theorem block10 (c : Dev nD) (t : Fin cfg0.N) :
    (dats m 0 c).flushed 10 t = ((cfg0.win 10).blk t).view.read (Elt Ideal) (out10 m c) := by
  have hN : t.val < 16 := lt_of_lt_of_eq t.isLt (show cfg0.N = 16 from N_0)
  obtain ⟨-, -, -, -, -, -, -, -, -, -, e0, e1⟩ := index_out t
  rw [Value.flushed10]
  funext y
  obtain ⟨h, p, rfl⟩ : ∃ (h : Fin 16) (p : Fin 512), y = ix2 h p := ⟨y 0, y 1, eq_ix2 y⟩
  have hp := p.isLt
  have hr : 512 * t.val + p.val < 8192 := by omega
  rw [View.read_apply]
  have hb : ((cfg0.win 10).blk t).view.emb (ix2 h p) = ix2 h (⟨512 * t.val + p.val, hr⟩ : Fin 8192) := by
    funext a; apply Fin.ext
    match a with
    | ⟨0, _⟩ => show win0_10.index t 0 * 16 + 1 * h.val = h.val; rw [e0]; omega
    | ⟨1, _⟩ => show win0_10.index t 1 * 512 + 1 * p.val = 512 * t.val + p.val; rw [e1]; omega
  rw [hb]
  refine (weight_block _ _ _ _ _ _ h p).trans ?_
  show _ = weightAt _ h (⟨512 * t.val + p.val, hr⟩ : Fin 8192)
  exact congrArg (· * Ideal.ofBits .f32 0x3E800000#32) (rows_block m c t p _ hr)

/-- The fifth array after the run. -/
theorem final10 (c : Dev nD) : (dats m 0 c).arrAt 10 cfg0.N = out10 m c :=
  (dats m 0 c).arrAt_eq_of_cover 10 _ (fun t _ => block10 m c t) fun i => by
    have h0 : (i 0).val < 16 := (i 0).isLt
    have h1 : (i 1).val < 8192 := (i 1).isLt
    have hN : cfg0.N = 16 := N_0
    obtain ⟨t, ht⟩ : ∃ t : Fin cfg0.N, t.val = (i 1).val / 512 := ⟨⟨(i 1).val / 512, by rw [hN]; omega⟩, rfl⟩
    obtain ⟨-, -, -, -, -, -, -, -, -, -, e0, e1⟩ := index_out t
    refine ⟨t, flush0_10 t, ?_⟩
    show i ∈ ((View.whole main_v9_4).slice (win0_10.rect t)).set
    rw [View.set_slice_whole, Rect.mem_set_unit]
    intro a
    match a with
    | ⟨0, _⟩ => show win0_10.index t 0 * 16 ≤ (i 0 : Nat) ∧ (i 0 : Nat) < win0_10.index t 0 * 16 + 16; rw [e0]; omega
    | ⟨1, _⟩ => show win0_10.index t 1 * 512 ≤ (i 1 : Nat) ∧ (i 1 : Nat) < win0_10.index t 1 * 512 + 512; rw [e1]; omega

end Cert.Prep

end
-- ==== Proof.PrepClaim.lean ====
/-
  The claims of the attention preparation: the reference runs and keeps its arguments, and the kernel's five results are
  the reference's.
-/
module

public import proofs.«01_k».proof.Defs
public import proofs.«01_k».proof.Proof.PrepValue
public import proofs.«01_k».proof.Proof.Gen.Prep.Frame
public import proofs.«01_k».proof.Proof.Gen.PrepRefIdeal.Run
public import Idealize.ShloMosaic.Lib.Quiescent

@[expose] public section

set_option maxRecDepth 16384

noncomputable section

namespace Cert.Proof

open Idealize.ShloMosaic Idealize.ShloMosaic.TcCoe Idealize.SL.Sem Cert.Prep

/-- The attention preparation's reference runs and leaves its arguments as they were. -/
theorem prep_reference_frame : Cert.quiescent_PrepRefIdeal := fun m ρ _ =>
  (θ_run _ _ _).mono (fun r h => ⟨fun c => (h c).2.2.2.2.2, sem_eq_zero_of_no_sems (by decide) r.2⟩) (Cert.PrepRefIdeal.Value.run m ρ)

/-- The attention preparation kernel's five result arrays are the reference's. -/
theorem prep_algebraic : Cert.algebraic_PrepIdeal_PrepRefIdeal := fun m ρ m' ρ' _ hag => by
  refine ⟨fun c => out6 m c, fun c => out7 m c, fun c => out8 m c, fun c => out9 m c, fun c => out10 m c,
    (θ_run _ _ _).mono (fun _ h c => ⟨(h c).1.trans (final6 m c), (h c).2.1.trans (final7 m c), (h c).2.2.1.trans (final8 m c),
      (h c).2.2.2.1.trans (final9 m c), (h c).2.2.2.2.1.trans (final10 m c), (h c).2.2.2.2.2⟩) (Cert.PrepIdeal.Value.run_blocks m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2⟩)
      (Cert.PrepRefIdeal.Value.run m' ρ')⟩
  · obtain ⟨h0, h1, h2, h3, h4, h5⟩ := hag c
    refine (Cert.PrepRefIdeal.Read.val_main_v59_eq m' c).trans ?_
    rw [h0, h1, h3, h4]
    refine funext fun i => ?_
    obtain ⟨b, h, p, d, rfl⟩ : ∃ (b : Fin 64) (h : Fin 8) (p : Fin 128) (d : Fin 256), i = ix4 b h p d := ⟨i 0, i 1, i 2, i 3, eq_ix4 i⟩
    exact Ref.first_ref _ _ _ _ b h p d
  · obtain ⟨h0, h1, h2, h3, h4, h5⟩ := hag c
    rw [h0, h1, h5]
    refine (Cert.PrepRefIdeal.Read.val_main_v60_eq _ _ _).trans (funext fun i => ?_)
    obtain ⟨d, q, rfl⟩ : ∃ (d : Fin 128) (q : Fin 131072), i = ix2 d q := ⟨i 0, i 1, eq_ix2 i⟩
    exact Ref.second_ref _ _ _ d q
  · obtain ⟨h0, h1, h2, h3, h4, h5⟩ := hag c
    rw [h0, h2]
    refine (Cert.PrepRefIdeal.Read.val_main_v61_eq _ _).trans (funext fun i => ?_)
    obtain ⟨r, d, rfl⟩ : ∃ (r : Fin 8192) (d : Fin 256), i = ix2 r d := ⟨i 0, i 1, eq_ix2 i⟩
    exact Ref.third_ref _ _ r d
  · obtain ⟨h0, h1, h2, h3, h4, h5⟩ := hag c
    rw [h0]
    refine (Cert.PrepRefIdeal.Read.val_main_v63_eq _).trans (funext fun i => ?_)
    obtain ⟨r, d, rfl⟩ : ∃ (r : Fin 8192) (d : Fin 128), i = ix2 r d := ⟨i 0, i 1, eq_ix2 i⟩
    exact Ref.fourth_ref _ r d
  · obtain ⟨h0, h1, h2, h3, h4, h5⟩ := hag c
    rw [h0]
    refine (Cert.PrepRefIdeal.Read.val_main_v58_eq _).trans (funext fun i => ?_)
    obtain ⟨h, r, rfl⟩ : ∃ (h : Fin 16) (r : Fin 8192), i = ix2 h r := ⟨i 0, i 1, eq_ix2 i⟩
    exact Ref.fifth_ref _ h r

end Cert.Proof

end
-- ==== Proof.lean ====
/-
  All claims of the certificate, put together: that each program runs and keeps its arguments, and that each kernel's
  results are those of its reference.
-/
module

public import proofs.«01_k».proof.Defs
public import proofs.«01_k».proof.Proof.SideClaims
public import proofs.«01_k».proof.Proof.EvenClaim
public import proofs.«01_k».proof.Proof.PrepClaim
public import proofs.«01_k».proof.Proof.Gen.Even
public import proofs.«01_k».proof.Proof.Gen.Even.Skeleton
public import proofs.«01_k».proof.Proof.Gen.Even.Launch
public import proofs.«01_k».proof.Proof.Gen.Even.Points
public import proofs.«01_k».proof.Proof.Gen.Even.Frame
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenIdeal.Points
public import proofs.«01_k».proof.Proof.Gen.EvenIdeal.Frame
public import proofs.«01_k».proof.Proof.Gen.EvenRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.Pre_finite
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.OutprojIdeal.Value
public import proofs.«01_k».proof.Proof.Gen.OutprojRefIdeal.Run
public import proofs.«01_k».proof.Proof.Gen.OutprojRefIdeal.Read
public import proofs.«01_k».proof.Proof.Gen.EvenIdeal.Value
public import proofs.«01_k».proof.Proof.Gen.EvenRefIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import Idealize.ShloMosaic.Adequacy
public import Idealize.ShloMosaic.Init

@[expose] public section

noncomputable section

namespace Cert.Proof

open Idealize.ShloMosaic Idealize.SL.Sem

/-- All claims. -/
theorem claim : Cert.Claim := ⟨Cert.Even.Gen.facts, Cert.EvenIdeal.Gen.facts, Cert.EvenRefIdeal.Gen.facts, Cert.Ffn.Gen.facts, Cert.FfnIdeal.Gen.facts, Cert.FfnRefIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.Prep.Gen.facts, Cert.PrepIdeal.Gen.facts, Cert.PrepRefIdeal.Gen.facts, Cert.Pre_finite.Gen.facts,
  fun m ρ _ => Cert.Even.Gen.frame m ρ, fun m ρ _ => Cert.EvenIdeal.Gen.frame m ρ, fun m ρ _ => Cert.EvenIdeal.Gen.frame m ρ,
  even_reference_frame, fun m ρ _ => even_reference_frame m ρ trivial,
  fun m ρ _ => Cert.Ffn.Gen.frame m ρ, fun m ρ _ => Cert.FfnIdeal.Gen.frame m ρ, ffn_reference_frame,
  fun m ρ _ => Cert.Inproj.Gen.frame m ρ, fun m ρ _ => Cert.InprojIdeal.Gen.frame m ρ, inproj_reference_frame,
  fun m ρ _ => Cert.Outproj.Gen.frame m ρ, fun m ρ _ => Cert.OutprojIdeal.Gen.frame m ρ, outproj_reference_frame,
  fun m ρ _ => Cert.Prep.Gen.frame m ρ, fun m ρ _ => Cert.PrepIdeal.Gen.frame m ρ, prep_reference_frame,
  trivial, even_algebraic, trivial, ffn_algebraic, trivial, inproj_algebraic, trivial, outproj_algebraic, trivial, prep_algebraic⟩

end Cert.Proof

end
